-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_capacity_KernelIdeal [hPre_within_capacity_KernelIdeal : Cert.Pre_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_capacity_ReferenceIdeal [hPre_within_capacity_ReferenceIdeal : Cert.Pre_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_within_capacity_KernelIdeal [hKernelIdeal : Cert.KernelIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_within_capacity_ReferenceIdeal [hReferenceIdeal : Cert.ReferenceIdeal.Facts] [hPre_within_capacity_ReferenceIdeal : Cert.Pre_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_within_capacity_KernelIdeal [hKernelIdeal : Cert.KernelIdeal.Facts] [hReferenceIdeal : Cert.ReferenceIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_capacity_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![8192, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![2048]⟩ ⟨1, ![8192]⟩ (Layout.meshBlock [2, 2, 4] ![[2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![16, 1024, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![16, 2048, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v196)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 1024]⟩ ⟨2, ![8192, 1024]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v196) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_within_capacity_KernelIdeal : Cert.Pre_within_capacity_KernelIdeal.Facts) (hPre_within_capacity_ReferenceIdeal : Cert.Pre_within_capacity_ReferenceIdeal.Facts),
    quiescent_Kernel (hKernel := hKernel)
    ∧ quiescent_KernelIdeal (hKernelIdeal := hKernelIdeal)
    ∧ quiescent_KernelIdeal_pre_within_capacity_KernelIdeal (hKernelIdeal := hKernelIdeal) (hPre_within_capacity_KernelIdeal := hPre_within_capacity_KernelIdeal)
    ∧ quiescent_ReferenceIdeal (hReferenceIdeal := hReferenceIdeal)
    ∧ quiescent_ReferenceIdeal_pre_within_capacity_ReferenceIdeal (hReferenceIdeal := hReferenceIdeal) (hPre_within_capacity_ReferenceIdeal := hPre_within_capacity_ReferenceIdeal)
    ∧ preserves_Kernel_KernelIdeal
    ∧ algebraic_KernelIdeal_ReferenceIdeal_pre_within_capacity_KernelIdeal (hKernelIdeal := hKernelIdeal) (hReferenceIdeal := hReferenceIdeal) (hPre_within_capacity_KernelIdeal := hPre_within_capacity_KernelIdeal)
-- ==== Pre_within_capacity_KernelIdeal.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S16x2048 : Shape := ⟨2, ![16, 2048]⟩
abbrev S1x2048 : Shape := ⟨2, ![1, 2048]⟩
abbrev S_ : Shape := ⟨0, ![]⟩
abbrev S16 : Shape := ⟨1, ![16]⟩

class Facts : Prop where
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  natLt_1_32 : 1 < 32
  reducesTo_S16x2048_S16_d1 : S16x2048.ReducesTo [1] S16
  h_S_ : 0 < S_.numel
  bcast_S_S16 : S_.BroadcastsInDim S16 (![] : Fin 0 → Fin S16.rank)

variable [Facts]

def fn {F : FTy → Type} [FloatOps F] (main_arg0 : FVec F S2048x1024 .bf16) (main_arg1 : IVec S2048 32) (main_arg2 : FVec F S4x1024x2048 .bf16) (main_arg3 : FVec F S4x2048x1024 .bf16) : IVec S16 1 :=
  let main_v0 : IVec S16x2048 32 := iotaInDim S16x2048 32 0
  let main_v1 : IVec S1x2048 32 := broadcastInDim S1x2048 ![1] bcast_S2048_S1x2048_1 main_arg1
  let main_v2 : IVec S16x2048 32 := broadcastInDim S16x2048 ![0, 1] bcast_S1x2048_S16x2048_0_1 main_v1
  let main_v3 : IVec S16x2048 1 := cmpi .eq main_v0 main_v2
  let main_v4 : IVec S16x2048 32 := (extui 32 · natLt_1_32) main_v3
  let main_c : IVec S_ 32 := constantI S_ 32 0#32
  let main_v5 : IVec S16 32 := (fun x v => Host.reduce IntOp.addi x v reducesTo_S16x2048_S16_d1 h_S_) main_v4 main_c
  let main_c_0 : IVec S_ 32 := constantI S_ 32 256#32
  let main_v6 : IVec S16 32 := broadcastInDim S16 ![] bcast_S_S16 main_c_0
  let main_v7 : IVec S16 1 := cmpi .sle main_v5 main_v6
  main_v7
-- ==== Pre_within_capacity_ReferenceIdeal.lean ====
abbrev S8192x1024 : Shape := ⟨2, ![8192, 1024]⟩
abbrev S8192 : Shape := ⟨1, ![8192]⟩
abbrev S16x1024x2048 : Shape := ⟨3, ![16, 1024, 2048]⟩
abbrev S16x2048x1024 : Shape := ⟨3, ![16, 2048, 1024]⟩
abbrev S16x8192 : Shape := ⟨2, ![16, 8192]⟩
abbrev S1x8192 : Shape := ⟨2, ![1, 8192]⟩
abbrev S_ : Shape := ⟨0, ![]⟩
abbrev S16 : Shape := ⟨1, ![16]⟩

class Facts : Prop where
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  natLt_1_32 : 1 < 32
  reducesTo_S16x8192_S16_d1 : S16x8192.ReducesTo [1] S16
  h_S_ : 0 < S_.numel
  bcast_S_S16 : S_.BroadcastsInDim S16 (![] : Fin 0 → Fin S16.rank)

variable [Facts]

def fn {F : FTy → Type} [FloatOps F] (main_arg0 : FVec F S8192x1024 .bf16) (main_arg1 : IVec S8192 32) (main_arg2 : FVec F S16x1024x2048 .bf16) (main_arg3 : FVec F S16x2048x1024 .bf16) : IVec S16 1 :=
  let main_v0 : IVec S16x8192 32 := iotaInDim S16x8192 32 0
  let main_v1 : IVec S1x8192 32 := broadcastInDim S1x8192 ![1] bcast_S8192_S1x8192_1 main_arg1
  let main_v2 : IVec S16x8192 32 := broadcastInDim S16x8192 ![0, 1] bcast_S1x8192_S16x8192_0_1 main_v1
  let main_v3 : IVec S16x8192 1 := cmpi .eq main_v0 main_v2
  let main_v4 : IVec S16x8192 32 := (extui 32 · natLt_1_32) main_v3
  let main_c : IVec S_ 32 := constantI S_ 32 0#32
  let main_v5 : IVec S16 32 := (fun x v => Host.reduce IntOp.addi x v reducesTo_S16x8192_S16_d1 h_S_) main_v4 main_c
  let main_c_0 : IVec S_ 32 := constantI S_ 32 256#32
  let main_v6 : IVec S16 32 := broadcastInDim S16 ![] bcast_S_S16 main_c_0
  let main_v7 : IVec S16 1 := cmpi .sle main_v5 main_v6
  main_v7
-- ==== Kernel.lean ====
abbrev S2048x1024 : Shape := ⟨2, ![2048, 1024]⟩
abbrev S2048 : Shape := ⟨1, ![2048]⟩
abbrev S4x1024x2048 : Shape := ⟨3, ![4, 1024, 2048]⟩
abbrev S4x2048x1024 : Shape := ⟨3, ![4, 2048, 1024]⟩
abbrev S2048x16 : Shape := ⟨2, ![2048, 16]⟩
abbrev S3x1024x1024 : Shape := ⟨3, ![3, 1024, 1024]⟩
abbrev S1024x1024 : Shape := ⟨2, ![1024, 1024]⟩
abbrev S2x1024x2048 : Shape := ⟨3, ![2, 1024, 2048]⟩
abbrev S2x2048x1024 : Shape := ⟨3, ![2, 2048, 1024]⟩
abbrev S3 : Shape := ⟨1, ![3]⟩
abbrev S2 : Shape := ⟨1, ![2]⟩
abbrev S_ : Shape := ⟨0, ![]⟩
abbrev S1x16 : Shape := ⟨2, ![1, 16]⟩
abbrev S256x256 : Shape := ⟨2, ![256, 256]⟩
abbrev S256 : Shape := ⟨1, ![256]⟩
abbrev S256x1 : Shape := ⟨2, ![256, 1]⟩
abbrev S256x16 : Shape := ⟨2, ![256, 16]⟩
abbrev S256x2048 : Shape := ⟨2, ![256, 2048]⟩
abbrev S256x1024 : Shape := ⟨2, ![256, 1024]⟩
abbrev S1x256x1024 : Shape := ⟨3, ![1, 256, 1024]⟩
abbrev S1 : Shape := ⟨1, ![1]⟩
abbrev S1x1024x1024 : Shape := ⟨3, ![1, 1024, 1024]⟩
abbrev S1x1024x2048 : Shape := ⟨3, ![1, 1024, 2048]⟩
abbrev S1024x2048 : Shape := ⟨2, ![1024, 2048]⟩
abbrev S1x2048x1024 : Shape := ⟨3, ![1, 2048, 1024]⟩

abbrev nBuf : Space → Nat
  | .hbm => 5
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S2048, .i32⟩
  | .hbm, ⟨2, _⟩ => ⟨S4x1024x2048, .bf16⟩
  | .hbm, ⟨3, _⟩ => ⟨S4x2048x1024, .bf16⟩
  | .hbm, ⟨4, _⟩ => ⟨S2048x1024, .bf16⟩
  | .local _ .vmem, ⟨0, _⟩ => ⟨S2048x1024, .bf16⟩
  | .local _ .vmem, ⟨1, _⟩ => ⟨S2048, .i32⟩
  | .local _ .vmem, ⟨2, _⟩ => ⟨S2048x1024, .bf16⟩
  | .local _ .vmem, ⟨3, _⟩ => ⟨S2048x16, .bf16⟩
  | .local _ .vmem, ⟨4, _⟩ => ⟨S2048x16, .bf16⟩
  | .local _ .vmem, ⟨5, _⟩ => ⟨S3x1024x1024, .bf16⟩
  | .local _ .vmem, ⟨6, _⟩ => ⟨S3x1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S3x1024x1024, .bf16⟩
  | .local _ .vmem, ⟨10, _⟩ => ⟨S3x1024x1024, .bf16⟩
  | .local _ .vmem, ⟨11, _⟩ => ⟨S2x1024x2048, .bf16⟩
  | .local _ .vmem, ⟨12, _⟩ => ⟨S2x2048x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
@[reducible] def k0_t1_loop : Scf.Loop 32 :=
  let c0_i32_57 : BitVec 32 := 0#32
  let c8_i32_58 : BitVec 32 := 8#32
  let v126 : BitVec 32 := Scalar.addi c0_i32_57 c8_i32_58
  let c1_i32_59 : BitVec 32 := 1#32
  ⟨c0_i32_57, v126, c1_i32_59⟩
def k0_off1 (k0_t1 : Fin k0_t1_loop.trips) : Fin 1 → Nat :=
  let c0_i32_57 : BitVec 32 := 0#32
  let c1_i32_59 : BitVec 32 := 1#32
  let arg21 : BitVec 32 := Scf.iv c0_i32_57 c1_i32_59 k0_t1
  let c256_i32 : BitVec 32 := 256#32
  let v1119 : BitVec 32 := Scalar.muli arg21 c256_i32
  let v1120 : Index := Scalar.indexCast v1119
  ![v1120.toNat]
def k0_off2 (k0_t1 : Fin k0_t1_loop.trips) : Fin 2 → Nat :=
  let c0_i32_57 : BitVec 32 := 0#32
  let c1_i32_59 : BitVec 32 := 1#32
  let arg21 : BitVec 32 := Scf.iv c0_i32_57 c1_i32_59 k0_t1
  let c256_i32 : BitVec 32 := 256#32
  let v1119 : BitVec 32 := Scalar.muli arg21 c256_i32
  let v1131 : Index := Scalar.indexCast v1119
  let c0_1106 : Index := 0#32
  ![v1131.toNat, 0]
@[reducible] def k0_t2_loop : Scf.Loop 32 :=
  let c0_i32_61 : BitVec 32 := 0#32
  let c8_i32_62 : BitVec 32 := 8#32
  let v127 : BitVec 32 := Scalar.addi c0_i32_61 c8_i32_62
  let c1_i32_63 : BitVec 32 := 1#32
  ⟨c0_i32_61, v127, c1_i32_63⟩
def k0_off3 (k0_t2 : Fin k0_t2_loop.trips) : Fin 2 → Nat :=
  let c0_i32_61 : BitVec 32 := 0#32
  let c1_i32_63 : BitVec 32 := 1#32
  let arg21 : BitVec 32 := Scf.iv c0_i32_61 c1_i32_63 k0_t2
  let c256_i32_1109 : BitVec 32 := 256#32
  let v1131 : BitVec 32 := Scalar.muli arg21 c256_i32_1109
  let v1132 : Index := Scalar.indexCast v1131
  let c0_1110 : Index := 0#32
  ![v1132.toNat, 0]
@[reducible] def k0_t3_loop : Scf.Loop 32 :=
  let c0_i32_65 : BitVec 32 := 0#32
  let c8_i32_66 : BitVec 32 := 8#32
  let v129 : BitVec 32 := Scalar.addi c0_i32_65 c8_i32_66
  let c1_i32_67 : BitVec 32 := 1#32
  ⟨c0_i32_65, v129, c1_i32_67⟩
def k0_off4 (k0_t3 : Fin k0_t3_loop.trips) : Fin 2 → Nat :=
  let c0_i32_65 : BitVec 32 := 0#32
  let c1_i32_67 : BitVec 32 := 1#32
  let arg21 : BitVec 32 := Scf.iv c0_i32_65 c1_i32_67 k0_t3
  let c256_i32_1106 : BitVec 32 := 256#32
  let v1120 : BitVec 32 := Scalar.muli arg21 c256_i32_1106
  let v1121 : Index := Scalar.indexCast v1120
  let c4 : Index := 4#32
  ![v1121.toNat, 4]
def k0_off5 (k0_t3 : Fin k0_t3_loop.trips) : Fin 2 → Nat :=
  let c0_i32_65 : BitVec 32 := 0#32
  let c1_i32_67 : BitVec 32 := 1#32
  let arg21 : BitVec 32 := Scf.iv c0_i32_65 c1_i32_67 k0_t3
  let c256_i32 : BitVec 32 := 256#32
  let v1119 : BitVec 32 := Scalar.muli arg21 c256_i32
  let v1134 : Index := Scalar.indexCast v1119
  let c0_1109 : Index := 0#32
  ![v1134.toNat, 0]
@[reducible] def k0_t4_loop : Scf.Loop 32 :=
  let c0_i32_72 : BitVec 32 := 0#32
  let c8_i32_73 : BitVec 32 := 8#32
  let v136 : BitVec 32 := Scalar.addi c0_i32_72 c8_i32_73
  let c1_i32_74 : BitVec 32 := 1#32
  ⟨c0_i32_72, v136, c1_i32_74⟩
def k0_off6 (k0_t4 : Fin k0_t4_loop.trips) : Fin 2 → Nat :=
  let c0_i32_72 : BitVec 32 := 0#32
  let c1_i32_74 : BitVec 32 := 1#32
  let arg21 : BitVec 32 := Scf.iv c0_i32_72 c1_i32_74 k0_t4
  let c256_i32_1106 : BitVec 32 := 256#32
  let v1120 : BitVec 32 := Scalar.muli arg21 c256_i32_1106
  let v1121 : Index := Scalar.indexCast v1120
  let c5 : Index := 5#32
  ![v1121.toNat, 5]
def k0_off7 (k0_t4 : Fin k0_t4_loop.trips) : Fin 2 → Nat :=
  let c0_i32_72 : BitVec 32 := 0#32
  let c1_i32_74 : BitVec 32 := 1#32
  let arg21 : BitVec 32 := Scf.iv c0_i32_72 c1_i32_74 k0_t4
  let c256_i32 : BitVec 32 := 256#32
  let v1119 : BitVec 32 := Scalar.muli arg21 c256_i32
  let v1134 : Index := Scalar.indexCast v1119
  let c0_1109 : Index := 0#32
  ![v1134.toNat, 0]
@[reducible] def k0_t5_loop : Scf.Loop 32 :=
  let c0_i32_79 : BitVec 32 := 0#32
  let c8_i32_80 : BitVec 32 := 8#32
  let v143 : BitVec 32 := Scalar.addi c0_i32_79 c8_i32_80
  let c1_i32_81 : BitVec 32 := 1#32
  ⟨c0_i32_79, v143, c1_i32_81⟩
def k0_off8 (k0_t5 : Fin k0_t5_loop.trips) : Fin 2 → Nat :=
  let c0_i32_79 : BitVec 32 := 0#32
  let c1_i32_81 : BitVec 32 := 1#32
  let arg21 : BitVec 32 := Scf.iv c0_i32_79 c1_i32_81 k0_t5
  let c256_i32_1106 : BitVec 32 := 256#32
  let v1120 : BitVec 32 := Scalar.muli arg21 c256_i32_1106
  let v1121 : Index := Scalar.indexCast v1120
  let c6 : Index := 6#32
  ![v1121.toNat, 6]
def k0_off9 (k0_t5 : Fin k0_t5_loop.trips) : Fin 2 → Nat :=
  let c0_i32_79 : BitVec 32 := 0#32
  let c1_i32_81 : BitVec 32 := 1#32
  let arg21 : BitVec 32 := Scf.iv c0_i32_79 c1_i32_81 k0_t5
  let c256_i32 : BitVec 32 := 256#32
  let v1119 : BitVec 32 := Scalar.muli arg21 c256_i32
  let v1134 : Index := Scalar.indexCast v1119
  let c0_1109 : Index := 0#32
  ![v1134.toNat, 0]
@[reducible] def k0_t6_loop : Scf.Loop 32 :=
  let c0_i32_86 : BitVec 32 := 0#32
  let c8_i32_87 : BitVec 32 := 8#32
  let v150 : BitVec 32 := Scalar.addi c0_i32_86 c8_i32_87
  let c1_i32_88 : BitVec 32 := 1#32
  ⟨c0_i32_86, v150, c1_i32_88⟩
def k0_off10 (k0_t6 : Fin k0_t6_loop.trips) : Fin 2 → Nat :=
  let c0_i32_86 : BitVec 32 := 0#32
  let c1_i32_88 : BitVec 32 := 1#32
  let arg21 : BitVec 32 := Scf.iv c0_i32_86 c1_i32_88 k0_t6
  let c256_i32_1106 : BitVec 32 := 256#32
  let v1120 : BitVec 32 := Scalar.muli arg21 c256_i32_1106
  let v1121 : Index := Scalar.indexCast v1120
  let c7 : Index := 7#32
  ![v1121.toNat, 7]
def k0_off11 (k0_t6 : Fin k0_t6_loop.trips) : Fin 2 → Nat :=
  let c0_i32_86 : BitVec 32 := 0#32
  let c1_i32_88 : BitVec 32 := 1#32
  let arg21 : BitVec 32 := Scf.iv c0_i32_86 c1_i32_88 k0_t6
  let c256_i32 : BitVec 32 := 256#32
  let v1119 : BitVec 32 := Scalar.muli arg21 c256_i32
  let v1134 : Index := Scalar.indexCast v1119
  let c0_1109 : Index := 0#32
  ![v1134.toNat, 0]
def k0_dev4 (d0 : Dev nD) : Nat :=
  let c0_i32_104 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_103 : BitVec 32 := 8#32
  let v167 : BitVec 32 := Scalar.muli v2 c8_i32_103
  let v168 : BitVec 32 := Scalar.addi c0_i32_104 v167
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v169 : BitVec 32 := Scalar.muli v5 c4_i32_105
  let v170 : BitVec 32 := Scalar.addi v168 v169
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v156 : BitVec 32 := Scalar.addi v8 c1_i32_92
  let c4_i32_93 : BitVec 32 := 4#32
  let c0_i32_94 : BitVec 32 := 0#32
  let v157 : BitVec 1 := Scalar.cmpi .eq c4_i32_93 c0_i32_94
  let c1_i32_95 : BitVec 32 := 1#32
  let v158 : BitVec 32 := Scalar.select v157 c1_i32_95 c4_i32_93
  let v159 : BitVec 32 := Scalar.remsi v156 v158
  let c0_i32_97 : BitVec 32 := 0#32
  let v161 : BitVec 1 := Scalar.cmpi .slt v159 c0_i32_97
  let c0_i32_98 : BitVec 32 := 0#32
  let v162 : BitVec 1 := Scalar.cmpi .slt v158 c0_i32_98
  let v163 : BitVec 1 := Scalar.xori v161 v162
  let c0_i32_96 : BitVec 32 := 0#32
  let v160 : BitVec 1 := Scalar.cmpi .ne v159 c0_i32_96
  let v164 : BitVec 1 := Scalar.andi v163 v160
  let v165 : BitVec 32 := Scalar.addi v159 v158
  let v166 : BitVec 32 := Scalar.select v164 v165 v159
  let c1_i32_106 : BitVec 32 := 1#32
  let v171 : BitVec 32 := Scalar.muli v166 c1_i32_106
  let v172 : BitVec 32 := Scalar.addi v170 v171
  v172.toNat
@[reducible] def k0_t7_loop : Scf.Loop 32 :=
  let c0_i32_112 : BitVec 32 := 0#32
  let c8_i32_113 : BitVec 32 := 8#32
  let v182 : BitVec 32 := Scalar.addi c0_i32_112 c8_i32_113
  let c1_i32_114 : BitVec 32 := 1#32
  ⟨c0_i32_112, v182, c1_i32_114⟩
def k0_off12 (k0_t7 : Fin k0_t7_loop.trips) : Fin 2 → Nat :=
  let c0_i32_112 : BitVec 32 := 0#32
  let c1_i32_114 : BitVec 32 := 1#32
  let arg21 : BitVec 32 := Scf.iv c0_i32_112 c1_i32_114 k0_t7
  let c256_i32_1106 : BitVec 32 := 256#32
  let v1120 : BitVec 32 := Scalar.muli arg21 c256_i32_1106
  let v1121 : Index := Scalar.indexCast v1120
  let c8 : Index := 8#32
  ![v1121.toNat, 8]
def k0_off13 (k0_t7 : Fin k0_t7_loop.trips) : Fin 2 → Nat :=
  let c0_i32_112 : BitVec 32 := 0#32
  let c1_i32_114 : BitVec 32 := 1#32
  let arg21 : BitVec 32 := Scf.iv c0_i32_112 c1_i32_114 k0_t7
  let c256_i32 : BitVec 32 := 256#32
  let v1119 : BitVec 32 := Scalar.muli arg21 c256_i32
  let v1134 : Index := Scalar.indexCast v1119
  let c0_1109 : Index := 0#32
  ![v1134.toNat, 0]
@[reducible] def k0_t8_loop : Scf.Loop 32 :=
  let c0_i32_119 : BitVec 32 := 0#32
  let c8_i32_120 : BitVec 32 := 8#32
  let v189 : BitVec 32 := Scalar.addi c0_i32_119 c8_i32_120
  let c1_i32_121 : BitVec 32 := 1#32
  ⟨c0_i32_119, v189, c1_i32_121⟩
def k0_off14 (k0_t8 : Fin k0_t8_loop.trips) : Fin 2 → Nat :=
  let c0_i32_119 : BitVec 32 := 0#32
  let c1_i32_121 : BitVec 32 := 1#32
  let arg21 : BitVec 32 := Scf.iv c0_i32_119 c1_i32_121 k0_t8
  let c256_i32_1106 : BitVec 32 := 256#32
  let v1120 : BitVec 32 := Scalar.muli arg21 c256_i32_1106
  let v1121 : Index := Scalar.indexCast v1120
  let c9 : Index := 9#32
  ![v1121.toNat, 9]
def k0_off15 (k0_t8 : Fin k0_t8_loop.trips) : Fin 2 → Nat :=
  let c0_i32_119 : BitVec 32 := 0#32
  let c1_i32_121 : BitVec 32 := 1#32
  let arg21 : BitVec 32 := Scf.iv c0_i32_119 c1_i32_121 k0_t8
  let c256_i32 : BitVec 32 := 256#32
  let v1119 : BitVec 32 := Scalar.muli arg21 c256_i32
  let v1134 : Index := Scalar.indexCast v1119
  let c0_1109 : Index := 0#32
  ![v1134.toNat, 0]
@[reducible] def k0_t9_loop : Scf.Loop 32 :=
  let c0_i32_127 : BitVec 32 := 0#32
  let c8_i32_128 : BitVec 32 := 8#32
  let v196 : BitVec 32 := Scalar.addi c0_i32_127 c8_i32_128
  let c1_i32_129 : BitVec 32 := 1#32
  ⟨c0_i32_127, v196, c1_i32_129⟩
def k0_off16 (k0_t9 : Fin k0_t9_loop.trips) : Fin 2 → Nat :=
  let c0_i32_127 : BitVec 32 := 0#32
  let c1_i32_129 : BitVec 32 := 1#32
  let arg21 : BitVec 32 := Scf.iv c0_i32_127 c1_i32_129 k0_t9
  let c256_i32_1106 : BitVec 32 := 256#32
  let v1120 : BitVec 32 := Scalar.muli arg21 c256_i32_1106
  let v1121 : Index := Scalar.indexCast v1120
  let c10 : Index := 10#32
  ![v1121.toNat, 10]
def k0_off17 (k0_t9 : Fin k0_t9_loop.trips) : Fin 2 → Nat :=
  let c0_i32_127 : BitVec 32 := 0#32
  let c1_i32_129 : BitVec 32 := 1#32
  let arg21 : BitVec 32 := Scf.iv c0_i32_127 c1_i32_129 k0_t9
  let c256_i32 : BitVec 32 := 256#32
  let v1119 : BitVec 32 := Scalar.muli arg21 c256_i32
  let v1134 : Index := Scalar.indexCast v1119
  let c0_1109 : Index := 0#32
  ![v1134.toNat, 0]
@[reducible] def k0_t10_loop : Scf.Loop 32 :=
  let c0_i32_135 : BitVec 32 := 0#32
  let c8_i32_136 : BitVec 32 := 8#32
  let v203 : BitVec 32 := Scalar.addi c0_i32_135 c8_i32_136
  let c1_i32_137 : BitVec 32 := 1#32
  ⟨c0_i32_135, v203, c1_i32_137⟩
def k0_off18 (k0_t10 : Fin k0_t10_loop.trips) : Fin 2 → Nat :=
  let c0_i32_135 : BitVec 32 := 0#32
  let c1_i32_137 : BitVec 32 := 1#32
  let arg21 : BitVec 32 := Scf.iv c0_i32_135 c1_i32_137 k0_t10
  let c256_i32_1106 : BitVec 32 := 256#32
  let v1120 : BitVec 32 := Scalar.muli arg21 c256_i32_1106
  let v1121 : Index := Scalar.indexCast v1120
  let c11 : Index := 11#32
  ![v1121.toNat, 11]
def k0_off19 (k0_t10 : Fin k0_t10_loop.trips) : Fin 2 → Nat :=
  let c0_i32_135 : BitVec 32 := 0#32
  let c1_i32_137 : BitVec 32 := 1#32
  let arg21 : BitVec 32 := Scf.iv c0_i32_135 c1_i32_137 k0_t10
  let c256_i32 : BitVec 32 := 256#32
  let v1119 : BitVec 32 := Scalar.muli arg21 c256_i32
  let v1134 : Index := Scalar.indexCast v1119
  let c0_1109 : Index := 0#32
  ![v1134.toNat, 0]
def k0_dev5 (d0 : Dev nD) : Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_153 : BitVec 32 := 8#32
  let v220 : BitVec 32 := Scalar.muli v2 c8_i32_153
  let v221 : BitVec 32 := Scalar.addi c0_i32_154 v220
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_155 : BitVec 32 := 4#32
  let v222 : BitVec 32 := Scalar.muli v5 c4_i32_155
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_142 : BitVec 32 := 2#32
  let v209 : BitVec 32 := Scalar.addi v8 c2_i32_142
  let c4_i32_143 : BitVec 32 := 4#32
  let c0_i32_144 : BitVec 32 := 0#32
  let v210 : BitVec 1 := Scalar.cmpi .eq c4_i32_143 c0_i32_144
  let c1_i32_145 : BitVec 32 := 1#32
  let v211 : BitVec 32 := Scalar.select v210 c1_i32_145 c4_i32_143
  let v212 : BitVec 32 := Scalar.remsi v209 v211
  let c0_i32_147 : BitVec 32 := 0#32
  let v214 : BitVec 1 := Scalar.cmpi .slt v212 c0_i32_147
  let c0_i32_148 : BitVec 32 := 0#32
  let v215 : BitVec 1 := Scalar.cmpi .slt v211 c0_i32_148
  let v216 : BitVec 1 := Scalar.xori v214 v215
  let c0_i32_146 : BitVec 32 := 0#32
  let v213 : BitVec 1 := Scalar.cmpi .ne v212 c0_i32_146
  let v217 : BitVec 1 := Scalar.andi v216 v213
  let v218 : BitVec 32 := Scalar.addi v212 v211
  let v219 : BitVec 32 := Scalar.select v217 v218 v212
  let c1_i32_156 : BitVec 32 := 1#32
  let v224 : BitVec 32 := Scalar.muli v219 c1_i32_156
  let v225 : BitVec 32 := Scalar.addi v223 v224
  v225.toNat
@[reducible] def k0_t11_loop : Scf.Loop 32 :=
  let c0_i32_162 : BitVec 32 := 0#32
  let c8_i32_163 : BitVec 32 := 8#32
  let v235 : BitVec 32 := Scalar.addi c0_i32_162 c8_i32_163
  let c1_i32_164 : BitVec 32 := 1#32
  ⟨c0_i32_162, v235, c1_i32_164⟩
def k0_off20 (k0_t11 : Fin k0_t11_loop.trips) : Fin 2 → Nat :=
  let c0_i32_162 : BitVec 32 := 0#32
  let c1_i32_164 : BitVec 32 := 1#32
  let arg21 : BitVec 32 := Scf.iv c0_i32_162 c1_i32_164 k0_t11
  let c256_i32_1106 : BitVec 32 := 256#32
  let v1120 : BitVec 32 := Scalar.muli arg21 c256_i32_1106
  let v1121 : Index := Scalar.indexCast v1120
  let c12 : Index := 12#32
  ![v1121.toNat, 12]
def k0_off21 (k0_t11 : Fin k0_t11_loop.trips) : Fin 2 → Nat :=
  let c0_i32_162 : BitVec 32 := 0#32
  let c1_i32_164 : BitVec 32 := 1#32
  let arg21 : BitVec 32 := Scf.iv c0_i32_162 c1_i32_164 k0_t11
  let c256_i32 : BitVec 32 := 256#32
  let v1119 : BitVec 32 := Scalar.muli arg21 c256_i32
  let v1134 : Index := Scalar.indexCast v1119
  let c0_1109 : Index := 0#32
  ![v1134.toNat, 0]
@[reducible] def k0_t12_loop : Scf.Loop 32 :=
  let c0_i32_169 : BitVec 32 := 0#32
  let c8_i32_170 : BitVec 32 := 8#32
  let v242 : BitVec 32 := Scalar.addi c0_i32_169 c8_i32_170
  let c1_i32_171 : BitVec 32 := 1#32
  ⟨c0_i32_169, v242, c1_i32_171⟩
def k0_off22 (k0_t12 : Fin k0_t12_loop.trips) : Fin 2 → Nat :=
  let c0_i32_169 : BitVec 32 := 0#32
  let c1_i32_171 : BitVec 32 := 1#32
  let arg21 : BitVec 32 := Scf.iv c0_i32_169 c1_i32_171 k0_t12
  let c256_i32_1106 : BitVec 32 := 256#32
  let v1120 : BitVec 32 := Scalar.muli arg21 c256_i32_1106
  let v1121 : Index := Scalar.indexCast v1120
  let c13 : Index := 13#32
  ![v1121.toNat, 13]
def k0_off23 (k0_t12 : Fin k0_t12_loop.trips) : Fin 2 → Nat :=
  let c0_i32_169 : BitVec 32 := 0#32
  let c1_i32_171 : BitVec 32 := 1#32
  let arg21 : BitVec 32 := Scf.iv c0_i32_169 c1_i32_171 k0_t12
  let c256_i32 : BitVec 32 := 256#32
  let v1119 : BitVec 32 := Scalar.muli arg21 c256_i32
  let v1134 : Index := Scalar.indexCast v1119
  let c0_1109 : Index := 0#32
  ![v1134.toNat, 0]
@[reducible] def k0_t13_loop : Scf.Loop 32 :=
  let c0_i32_177 : BitVec 32 := 0#32
  let c8_i32_178 : BitVec 32 := 8#32
  let v249 : BitVec 32 := Scalar.addi c0_i32_177 c8_i32_178
  let c1_i32_179 : BitVec 32 := 1#32
  ⟨c0_i32_177, v249, c1_i32_179⟩
def k0_off24 (k0_t13 : Fin k0_t13_loop.trips) : Fin 2 → Nat :=
  let c0_i32_177 : BitVec 32 := 0#32
  let c1_i32_179 : BitVec 32 := 1#32
  let arg21 : BitVec 32 := Scf.iv c0_i32_177 c1_i32_179 k0_t13
  let c256_i32_1106 : BitVec 32 := 256#32
  let v1120 : BitVec 32 := Scalar.muli arg21 c256_i32_1106
  let v1121 : Index := Scalar.indexCast v1120
  let c14 : Index := 14#32
  ![v1121.toNat, 14]
def k0_off25 (k0_t13 : Fin k0_t13_loop.trips) : Fin 2 → Nat :=
  let c0_i32_177 : BitVec 32 := 0#32
  let c1_i32_179 : BitVec 32 := 1#32
  let arg21 : BitVec 32 := Scf.iv c0_i32_177 c1_i32_179 k0_t13
  let c256_i32 : BitVec 32 := 256#32
  let v1119 : BitVec 32 := Scalar.muli arg21 c256_i32
  let v1134 : Index := Scalar.indexCast v1119
  let c0_1109 : Index := 0#32
  ![v1134.toNat, 0]
@[reducible] def k0_t14_loop : Scf.Loop 32 :=
  let c0_i32_185 : BitVec 32 := 0#32
  let c8_i32_186 : BitVec 32 := 8#32
  let v256 : BitVec 32 := Scalar.addi c0_i32_185 c8_i32_186
  let c1_i32_187 : BitVec 32 := 1#32
  ⟨c0_i32_185, v256, c1_i32_187⟩
def k0_off26 (k0_t14 : Fin k0_t14_loop.trips) : Fin 2 → Nat :=
  let c0_i32_185 : BitVec 32 := 0#32
  let c1_i32_187 : BitVec 32 := 1#32
  let arg21 : BitVec 32 := Scf.iv c0_i32_185 c1_i32_187 k0_t14
  let c256_i32_1106 : BitVec 32 := 256#32
  let v1120 : BitVec 32 := Scalar.muli arg21 c256_i32_1106
  let v1121 : Index := Scalar.indexCast v1120
  let c15 : Index := 15#32
  ![v1121.toNat, 15]
def k0_off27 (k0_t14 : Fin k0_t14_loop.trips) : Fin 2 → Nat :=
  let c0_i32_185 : BitVec 32 := 0#32
  let c1_i32_187 : BitVec 32 := 1#32
  let arg21 : BitVec 32 := Scf.iv c0_i32_185 c1_i32_187 k0_t14
  let c256_i32 : BitVec 32 := 256#32
  let v1119 : BitVec 32 := Scalar.muli arg21 c256_i32
  let v1134 : Index := Scalar.indexCast v1119
  let c0_1109 : Index := 0#32
  ![v1134.toNat, 0]
def k0_dev6 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v273 : BitVec 32 := Scalar.muli v2 c8_i32_203
  let v274 : BitVec 32 := Scalar.addi c0_i32_204 v273
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_205 : BitVec 32 := 4#32
  let v275 : BitVec 32 := Scalar.muli v5 c4_i32_205
  let v276 : BitVec 32 := Scalar.addi v274 v275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_192 : BitVec 32 := 3#32
  let v262 : BitVec 32 := Scalar.addi v8 c3_i32_192
  let c4_i32_193 : BitVec 32 := 4#32
  let c0_i32_194 : BitVec 32 := 0#32
  let v263 : BitVec 1 := Scalar.cmpi .eq c4_i32_193 c0_i32_194
  let c1_i32_195 : BitVec 32 := 1#32
  let v264 : BitVec 32 := Scalar.select v263 c1_i32_195 c4_i32_193
  let v265 : BitVec 32 := Scalar.remsi v262 v264
  let c0_i32_197 : BitVec 32 := 0#32
  let v267 : BitVec 1 := Scalar.cmpi .slt v265 c0_i32_197
  let c0_i32_198 : BitVec 32 := 0#32
  let v268 : BitVec 1 := Scalar.cmpi .slt v264 c0_i32_198
  let v269 : BitVec 1 := Scalar.xori v267 v268
  let c0_i32_196 : BitVec 32 := 0#32
  let v266 : BitVec 1 := Scalar.cmpi .ne v265 c0_i32_196
  let v270 : BitVec 1 := Scalar.andi v269 v266
  let v271 : BitVec 32 := Scalar.addi v265 v264
  let v272 : BitVec 32 := Scalar.select v270 v271 v265
  let c1_i32_206 : BitVec 32 := 1#32
  let v277 : BitVec 32 := Scalar.muli v272 c1_i32_206
  let v278 : BitVec 32 := Scalar.addi v276 v277
  v278.toNat
@[reducible] def k0_t15_loop : Scf.Loop 32 :=
  let c0_i32_212 : BitVec 32 := 0#32
  let c8_i32_213 : BitVec 32 := 8#32
  let v288 : BitVec 32 := Scalar.addi c0_i32_212 c8_i32_213
  let c1_i32_214 : BitVec 32 := 1#32
  ⟨c0_i32_212, v288, c1_i32_214⟩
def k0_off28 (k0_t15 : Fin k0_t15_loop.trips) : Fin 2 → Nat :=
  let c0_i32_212 : BitVec 32 := 0#32
  let c1_i32_214 : BitVec 32 := 1#32
  let arg21 : BitVec 32 := Scf.iv c0_i32_212 c1_i32_214 k0_t15
  let c256_i32_1106 : BitVec 32 := 256#32
  let v1120 : BitVec 32 := Scalar.muli arg21 c256_i32_1106
  let v1121 : Index := Scalar.indexCast v1120
  let c0_1107 : Index := 0#32
  ![v1121.toNat, 0]
def k0_off29 (k0_t15 : Fin k0_t15_loop.trips) : Fin 2 → Nat :=
  let c0_i32_212 : BitVec 32 := 0#32
  let c1_i32_214 : BitVec 32 := 1#32
  let arg21 : BitVec 32 := Scf.iv c0_i32_212 c1_i32_214 k0_t15
  let c256_i32 : BitVec 32 := 256#32
  let v1119 : BitVec 32 := Scalar.muli arg21 c256_i32
  let v1134 : Index := Scalar.indexCast v1119
  let c0_1110 : Index := 0#32
  ![v1134.toNat, 0]
@[reducible] def k0_t16_loop : Scf.Loop 32 :=
  let c0_i32_219 : BitVec 32 := 0#32
  let c8_i32_220 : BitVec 32 := 8#32
  let v295 : BitVec 32 := Scalar.addi c0_i32_219 c8_i32_220
  let c1_i32_221 : BitVec 32 := 1#32
  ⟨c0_i32_219, v295, c1_i32_221⟩
def k0_off30 (k0_t16 : Fin k0_t16_loop.trips) : Fin 2 → Nat :=
  let c0_i32_219 : BitVec 32 := 0#32
  let c1_i32_221 : BitVec 32 := 1#32
  let arg21 : BitVec 32 := Scf.iv c0_i32_219 c1_i32_221 k0_t16
  let c256_i32_1106 : BitVec 32 := 256#32
  let v1120 : BitVec 32 := Scalar.muli arg21 c256_i32_1106
  let v1121 : Index := Scalar.indexCast v1120
  let c1_1107 : Index := 1#32
  ![v1121.toNat, 1]
def k0_off31 (k0_t16 : Fin k0_t16_loop.trips) : Fin 2 → Nat :=
  let c0_i32_219 : BitVec 32 := 0#32
  let c1_i32_221 : BitVec 32 := 1#32
  let arg21 : BitVec 32 := Scf.iv c0_i32_219 c1_i32_221 k0_t16
  let c256_i32 : BitVec 32 := 256#32
  let v1119 : BitVec 32 := Scalar.muli arg21 c256_i32
  let v1134 : Index := Scalar.indexCast v1119
  let c0_1110 : Index := 0#32
  ![v1134.toNat, 0]
@[reducible] def k0_t17_loop : Scf.Loop 32 :=
  let c0_i32_226 : BitVec 32 := 0#32
  let c8_i32_227 : BitVec 32 := 8#32
  let v302 : BitVec 32 := Scalar.addi c0_i32_226 c8_i32_227
  let c1_i32_228 : BitVec 32 := 1#32
  ⟨c0_i32_226, v302, c1_i32_228⟩
def k0_off32 (k0_t17 : Fin k0_t17_loop.trips) : Fin 2 → Nat :=
  let c0_i32_226 : BitVec 32 := 0#32
  let c1_i32_228 : BitVec 32 := 1#32
  let arg21 : BitVec 32 := Scf.iv c0_i32_226 c1_i32_228 k0_t17
  let c256_i32_1106 : BitVec 32 := 256#32
  let v1120 : BitVec 32 := Scalar.muli arg21 c256_i32_1106
  let v1121 : Index := Scalar.indexCast v1120
  let c2_1107 : Index := 2#32
  ![v1121.toNat, 2]
def k0_off33 (k0_t17 : Fin k0_t17_loop.trips) : Fin 2 → Nat :=
  let c0_i32_226 : BitVec 32 := 0#32
  let c1_i32_228 : BitVec 32 := 1#32
  let arg21 : BitVec 32 := Scf.iv c0_i32_226 c1_i32_228 k0_t17
  let c256_i32 : BitVec 32 := 256#32
  let v1119 : BitVec 32 := Scalar.muli arg21 c256_i32
  let v1134 : Index := Scalar.indexCast v1119
  let c0_1110 : Index := 0#32
  ![v1134.toNat, 0]
@[reducible] def k0_t18_loop : Scf.Loop 32 :=
  let c0_i32_233 : BitVec 32 := 0#32
  let c8_i32_234 : BitVec 32 := 8#32
  let v309 : BitVec 32 := Scalar.addi c0_i32_233 c8_i32_234
  let c1_i32_235 : BitVec 32 := 1#32
  ⟨c0_i32_233, v309, c1_i32_235⟩
def k0_off34 (k0_t18 : Fin k0_t18_loop.trips) : Fin 2 → Nat :=
  let c0_i32_233 : BitVec 32 := 0#32
  let c1_i32_235 : BitVec 32 := 1#32
  let arg21 : BitVec 32 := Scf.iv c0_i32_233 c1_i32_235 k0_t18
  let c256_i32_1106 : BitVec 32 := 256#32
  let v1120 : BitVec 32 := Scalar.muli arg21 c256_i32_1106
  let v1121 : Index := Scalar.indexCast v1120
  let c3 : Index := 3#32
  ![v1121.toNat, 3]
def k0_off35 (k0_t18 : Fin k0_t18_loop.trips) : Fin 2 → Nat :=
  let c0_i32_233 : BitVec 32 := 0#32
  let c1_i32_235 : BitVec 32 := 1#32
  let arg21 : BitVec 32 := Scf.iv c0_i32_233 c1_i32_235 k0_t18
  let c256_i32 : BitVec 32 := 256#32
  let v1119 : BitVec 32 := Scalar.muli arg21 c256_i32
  let v1134 : Index := Scalar.indexCast v1119
  let c0_1109 : Index := 0#32
  ![v1134.toNat, 0]
def k0_dev7 (d0 : Dev nD) : Nat :=
  let c0_i32_599 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_598 : BitVec 32 := 8#32
  let v646 : BitVec 32 := Scalar.muli v2 c8_i32_598
  let v647 : BitVec 32 := Scalar.addi c0_i32_599 v646
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_600 : BitVec 32 := 4#32
  let v648 : BitVec 32 := Scalar.muli v5 c4_i32_600
  let v649 : BitVec 32 := Scalar.addi v647 v648
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_587 : BitVec 32 := 1#32
  let v635 : BitVec 32 := Scalar.subi v8 c1_i32_587
  let c4_i32_588 : BitVec 32 := 4#32
  let c0_i32_589 : BitVec 32 := 0#32
  let v636 : BitVec 1 := Scalar.cmpi .eq c4_i32_588 c0_i32_589
  let c1_i32_590 : BitVec 32 := 1#32
  let v637 : BitVec 32 := Scalar.select v636 c1_i32_590 c4_i32_588
  let v638 : BitVec 32 := Scalar.remsi v635 v637
  let c0_i32_592 : BitVec 32 := 0#32
  let v640 : BitVec 1 := Scalar.cmpi .slt v638 c0_i32_592
  let c0_i32_593 : BitVec 32 := 0#32
  let v641 : BitVec 1 := Scalar.cmpi .slt v637 c0_i32_593
  let v642 : BitVec 1 := Scalar.xori v640 v641
  let c0_i32_591 : BitVec 32 := 0#32
  let v639 : BitVec 1 := Scalar.cmpi .ne v638 c0_i32_591
  let v643 : BitVec 1 := Scalar.andi v642 v639
  let v644 : BitVec 32 := Scalar.addi v638 v637
  let v645 : BitVec 32 := Scalar.select v643 v644 v638
  let c1_i32_601 : BitVec 32 := 1#32
  let v650 : BitVec 32 := Scalar.muli v645 c1_i32_601
  let v651 : BitVec 32 := Scalar.addi v649 v650
  v651.toNat
def k0_dev8 (d0 : Dev nD) : Nat :=
  let c0_i32_802 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_801 : BitVec 32 := 8#32
  let v839 : BitVec 32 := Scalar.muli v2 c8_i32_801
  let v840 : BitVec 32 := Scalar.addi c0_i32_802 v839
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_803 : BitVec 32 := 4#32
  let v841 : BitVec 32 := Scalar.muli v5 c4_i32_803
  let v842 : BitVec 32 := Scalar.addi v840 v841
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_790 : BitVec 32 := 2#32
  let v828 : BitVec 32 := Scalar.subi v8 c2_i32_790
  let c4_i32_791 : BitVec 32 := 4#32
  let c0_i32_792 : BitVec 32 := 0#32
  let v829 : BitVec 1 := Scalar.cmpi .eq c4_i32_791 c0_i32_792
  let c1_i32_793 : BitVec 32 := 1#32
  let v830 : BitVec 32 := Scalar.select v829 c1_i32_793 c4_i32_791
  let v831 : BitVec 32 := Scalar.remsi v828 v830
  let c0_i32_795 : BitVec 32 := 0#32
  let v833 : BitVec 1 := Scalar.cmpi .slt v831 c0_i32_795
  let c0_i32_796 : BitVec 32 := 0#32
  let v834 : BitVec 1 := Scalar.cmpi .slt v830 c0_i32_796
  let v835 : BitVec 1 := Scalar.xori v833 v834
  let c0_i32_794 : BitVec 32 := 0#32
  let v832 : BitVec 1 := Scalar.cmpi .ne v831 c0_i32_794
  let v836 : BitVec 1 := Scalar.andi v835 v832
  let v837 : BitVec 32 := Scalar.addi v831 v830
  let v838 : BitVec 32 := Scalar.select v836 v837 v831
  let c1_i32_804 : BitVec 32 := 1#32
  let v843 : BitVec 32 := Scalar.muli v838 c1_i32_804
  let v844 : BitVec 32 := Scalar.addi v842 v843
  v844.toNat
def k0_dev9 (d0 : Dev nD) : Nat :=
  let c0_i32_1005 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1004 : BitVec 32 := 8#32
  let v1032 : BitVec 32 := Scalar.muli v2 c8_i32_1004
  let v1033 : BitVec 32 := Scalar.addi c0_i32_1005 v1032
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1006 : BitVec 32 := 4#32
  let v1034 : BitVec 32 := Scalar.muli v5 c4_i32_1006
  let v1035 : BitVec 32 := Scalar.addi v1033 v1034
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_993 : BitVec 32 := 3#32
  let v1021 : BitVec 32 := Scalar.subi v8 c3_i32_993
  let c4_i32_994 : BitVec 32 := 4#32
  let c0_i32_995 : BitVec 32 := 0#32
  let v1022 : BitVec 1 := Scalar.cmpi .eq c4_i32_994 c0_i32_995
  let c1_i32_996 : BitVec 32 := 1#32
  let v1023 : BitVec 32 := Scalar.select v1022 c1_i32_996 c4_i32_994
  let v1024 : BitVec 32 := Scalar.remsi v1021 v1023
  let c0_i32_998 : BitVec 32 := 0#32
  let v1026 : BitVec 1 := Scalar.cmpi .slt v1024 c0_i32_998
  let c0_i32_999 : BitVec 32 := 0#32
  let v1027 : BitVec 1 := Scalar.cmpi .slt v1023 c0_i32_999
  let v1028 : BitVec 1 := Scalar.xori v1026 v1027
  let c0_i32_997 : BitVec 32 := 0#32
  let v1025 : BitVec 1 := Scalar.cmpi .ne v1024 c0_i32_997
  let v1029 : BitVec 1 := Scalar.andi v1028 v1025
  let v1030 : BitVec 32 := Scalar.addi v1024 v1023
  let v1031 : BitVec 32 := Scalar.select v1029 v1030 v1024
  let c1_i32_1007 : BitVec 32 := 1#32
  let v1036 : BitVec 32 := Scalar.muli v1031 c1_i32_1007
  let v1037 : BitVec 32 := Scalar.addi v1035 v1036
  v1037.toNat
@[reducible] def k0_t19_loop : Scf.Loop 32 :=
  let c0_i32_1048 : BitVec 32 := 0#32
  let c8_i32_1049 : BitVec 32 := 8#32
  let v1082 : BitVec 32 := Scalar.addi c0_i32_1048 c8_i32_1049
  let c1_i32_1050 : BitVec 32 := 1#32
  ⟨c0_i32_1048, v1082, c1_i32_1050⟩
def k0_off36 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1109 : BitVec 32 := 256#32
  let v1122 : BitVec 32 := Scalar.muli arg21 c256_i32_1109
  let v1123 : Index := Scalar.indexCast v1122
  let c0_1110 : Index := 0#32
  ![v1123.toNat, 0]
def k0_off37 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1116 : BitVec 32 := 256#32
  let v1139 : BitVec 32 := Scalar.muli arg21 c256_i32_1116
  let v1140 : Index := Scalar.indexCast v1139
  let c1_1117 : Index := 1#32
  ![v1140.toNat, 1]
def k0_off38 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1123 : BitVec 32 := 256#32
  let v1156 : BitVec 32 := Scalar.muli arg21 c256_i32_1123
  let v1157 : Index := Scalar.indexCast v1156
  let c2_1124 : Index := 2#32
  ![v1157.toNat, 2]
def k0_off39 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1130 : BitVec 32 := 256#32
  let v1173 : BitVec 32 := Scalar.muli arg21 c256_i32_1130
  let v1174 : Index := Scalar.indexCast v1173
  let c3 : Index := 3#32
  ![v1174.toNat, 3]
def k0_off40 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1137 : BitVec 32 := 256#32
  let v1191 : BitVec 32 := Scalar.muli arg21 c256_i32_1137
  let v1192 : Index := Scalar.indexCast v1191
  let c4 : Index := 4#32
  ![v1192.toNat, 4]
def k0_off41 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1144 : BitVec 32 := 256#32
  let v1209 : BitVec 32 := Scalar.muli arg21 c256_i32_1144
  let v1210 : Index := Scalar.indexCast v1209
  let c5 : Index := 5#32
  ![v1210.toNat, 5]
def k0_off42 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1151 : BitVec 32 := 256#32
  let v1227 : BitVec 32 := Scalar.muli arg21 c256_i32_1151
  let v1228 : Index := Scalar.indexCast v1227
  let c6 : Index := 6#32
  ![v1228.toNat, 6]
def k0_off43 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1158 : BitVec 32 := 256#32
  let v1245 : BitVec 32 := Scalar.muli arg21 c256_i32_1158
  let v1246 : Index := Scalar.indexCast v1245
  let c7 : Index := 7#32
  ![v1246.toNat, 7]
def k0_off44 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1165 : BitVec 32 := 256#32
  let v1263 : BitVec 32 := Scalar.muli arg21 c256_i32_1165
  let v1264 : Index := Scalar.indexCast v1263
  let c8 : Index := 8#32
  ![v1264.toNat, 8]
def k0_off45 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1172 : BitVec 32 := 256#32
  let v1281 : BitVec 32 := Scalar.muli arg21 c256_i32_1172
  let v1282 : Index := Scalar.indexCast v1281
  let c9 : Index := 9#32
  ![v1282.toNat, 9]
def k0_off46 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1179 : BitVec 32 := 256#32
  let v1299 : BitVec 32 := Scalar.muli arg21 c256_i32_1179
  let v1300 : Index := Scalar.indexCast v1299
  let c10 : Index := 10#32
  ![v1300.toNat, 10]
def k0_off47 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1186 : BitVec 32 := 256#32
  let v1317 : BitVec 32 := Scalar.muli arg21 c256_i32_1186
  let v1318 : Index := Scalar.indexCast v1317
  let c11 : Index := 11#32
  ![v1318.toNat, 11]
def k0_off48 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1193 : BitVec 32 := 256#32
  let v1335 : BitVec 32 := Scalar.muli arg21 c256_i32_1193
  let v1336 : Index := Scalar.indexCast v1335
  let c12 : Index := 12#32
  ![v1336.toNat, 12]
def k0_off49 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1200 : BitVec 32 := 256#32
  let v1353 : BitVec 32 := Scalar.muli arg21 c256_i32_1200
  let v1354 : Index := Scalar.indexCast v1353
  let c13 : Index := 13#32
  ![v1354.toNat, 13]
def k0_off50 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1207 : BitVec 32 := 256#32
  let v1371 : BitVec 32 := Scalar.muli arg21 c256_i32_1207
  let v1372 : Index := Scalar.indexCast v1371
  let c14 : Index := 14#32
  ![v1372.toNat, 14]
def k0_off51 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32_1214 : BitVec 32 := 256#32
  let v1389 : BitVec 32 := Scalar.muli arg21 c256_i32_1214
  let v1390 : Index := Scalar.indexCast v1389
  let c15 : Index := 15#32
  ![v1390.toNat, 15]
def k0_off52 (k0_t19 : Fin k0_t19_loop.trips) : Fin 2 → Nat :=
  let c0_i32_1048 : BitVec 32 := 0#32
  let c1_i32_1050 : BitVec 32 := 1#32
  let arg21 : BitVec 32 := Scf.iv c0_i32_1048 c1_i32_1050 k0_t19
  let c256_i32 : BitVec 32 := 256#32
  let v1119 : BitVec 32 := Scalar.muli arg21 c256_i32
  let v1406 : Index := Scalar.indexCast v1119
  let c0_1218 : Index := 0#32
  ![v1406.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S16x1024x2048 : Shape := ⟨3, ![16, 1024, 2048]⟩
abbrev S16x2048x1024 : Shape := ⟨3, ![16, 2048, 1024]⟩
abbrev S_ : Shape := ⟨0, ![]⟩
abbrev S1x1024x2048 : Shape := ⟨3, ![1, 1024, 2048]⟩
abbrev S1024x2048 : Shape := ⟨2, ![1024, 2048]⟩
abbrev S8192x2048 : Shape := ⟨2, ![8192, 2048]⟩
abbrev S8192x1 : Shape := ⟨2, ![8192, 1]⟩
abbrev S1x2048x1024 : Shape := ⟨3, ![1, 2048, 1024]⟩
abbrev S2048x1024 : Shape := ⟨2, ![2048, 1024]⟩

abbrev nBuf : Space → Nat
  | .hbm => 250
  | .vmem => 0
  | .smem => 0
  | _ => 0

abbrev hbmTy0_0 (i : Nat) : BufTy := match i % 128 with
  | 0 => ⟨S8192x1024, .bf16⟩
  | 1 => ⟨S8192, .i32⟩
  | 2 => ⟨S16x1024x2048, .bf16⟩
  | 3 => ⟨S16x2048x1024, .bf16⟩
  | 4 => ⟨S8192x1024, .f32⟩
  | 5 => ⟨S16x1024x2048, .f32⟩
  | 6 => ⟨S16x2048x1024, .f32⟩
  | 7 => ⟨S_, .f32⟩
  | 8 => ⟨S8192x1024, .f32⟩
  | 9 => ⟨S_, .i32⟩
  | 10 => ⟨S8192, .i32⟩
  | 11 => ⟨S8192, .i1⟩
  | 12 => ⟨S1x1024x2048, .f32⟩
  | 13 => ⟨S1024x2048, .f32⟩
  | 14 => ⟨S8192x2048, .f32⟩
  | 15 => ⟨S_, .f32⟩
  | 16 => ⟨S8192x2048, .f32⟩
  | 17 => ⟨S8192x2048, .f32⟩
  | 18 => ⟨S8192x1, .i1⟩
  | 19 => ⟨S1x2048x1024, .f32⟩
  | 20 => ⟨S2048x1024, .f32⟩
  | 21 => ⟨S8192x1024, .f32⟩
  | 22 => ⟨S8192x1024, .i1⟩
  | 23 => ⟨S8192x1024, .f32⟩
  | 24 => ⟨S_, .i32⟩
  | 25 => ⟨S8192, .i32⟩
  | 26 => ⟨S8192, .i1⟩
  | 27 => ⟨S1x1024x2048, .f32⟩
  | 28 => ⟨S1024x2048, .f32⟩
  | 29 => ⟨S8192x2048, .f32⟩
  | 30 => ⟨S_, .f32⟩
  | 31 => ⟨S8192x2048, .f32⟩
  | 32 => ⟨S8192x2048, .f32⟩
  | 33 => ⟨S8192x1, .i1⟩
  | 34 => ⟨S1x2048x1024, .f32⟩
  | 35 => ⟨S2048x1024, .f32⟩
  | 36 => ⟨S8192x1024, .f32⟩
  | 37 => ⟨S8192x1024, .i1⟩
  | 38 => ⟨S8192x1024, .f32⟩
  | 39 => ⟨S_, .i32⟩
  | 40 => ⟨S8192, .i32⟩
  | 41 => ⟨S8192, .i1⟩
  | 42 => ⟨S1x1024x2048, .f32⟩
  | 43 => ⟨S1024x2048, .f32⟩
  | 44 => ⟨S8192x2048, .f32⟩
  | 45 => ⟨S_, .f32⟩
  | 46 => ⟨S8192x2048, .f32⟩
  | 47 => ⟨S8192x2048, .f32⟩
  | 48 => ⟨S8192x1, .i1⟩
  | 49 => ⟨S1x2048x1024, .f32⟩
  | 50 => ⟨S2048x1024, .f32⟩
  | 51 => ⟨S8192x1024, .f32⟩
  | 52 => ⟨S8192x1024, .i1⟩
  | 53 => ⟨S8192x1024, .f32⟩
  | 54 => ⟨S_, .i32⟩
  | 55 => ⟨S8192, .i32⟩
  | 56 => ⟨S8192, .i1⟩
  | 57 => ⟨S1x1024x2048, .f32⟩
  | 58 => ⟨S1024x2048, .f32⟩
  | 59 => ⟨S8192x2048, .f32⟩
  | 60 => ⟨S_, .f32⟩
  | 61 => ⟨S8192x2048, .f32⟩
  | 62 => ⟨S8192x2048, .f32⟩
  | 63 => ⟨S8192x1, .i1⟩
  | 64 => ⟨S1x2048x1024, .f32⟩
  | 65 => ⟨S2048x1024, .f32⟩
  | 66 => ⟨S8192x1024, .f32⟩
  | 67 => ⟨S8192x1024, .i1⟩
  | 68 => ⟨S8192x1024, .f32⟩
  | 69 => ⟨S_, .i32⟩
  | 70 => ⟨S8192, .i32⟩
  | 71 => ⟨S8192, .i1⟩
  | 72 => ⟨S1x1024x2048, .f32⟩
  | 73 => ⟨S1024x2048, .f32⟩
  | 74 => ⟨S8192x2048, .f32⟩
  | 75 => ⟨S_, .f32⟩
  | 76 => ⟨S8192x2048, .f32⟩
  | 77 => ⟨S8192x2048, .f32⟩
  | 78 => ⟨S8192x1, .i1⟩
  | 79 => ⟨S1x2048x1024, .f32⟩
  | 80 => ⟨S2048x1024, .f32⟩
  | 81 => ⟨S8192x1024, .f32⟩
  | 82 => ⟨S8192x1024, .i1⟩
  | 83 => ⟨S8192x1024, .f32⟩
  | 84 => ⟨S_, .i32⟩
  | 85 => ⟨S8192, .i32⟩
  | 86 => ⟨S8192, .i1⟩
  | 87 => ⟨S1x1024x2048, .f32⟩
  | 88 => ⟨S1024x2048, .f32⟩
  | 89 => ⟨S8192x2048, .f32⟩
  | 90 => ⟨S_, .f32⟩
  | 91 => ⟨S8192x2048, .f32⟩
  | 92 => ⟨S8192x2048, .f32⟩
  | 93 => ⟨S8192x1, .i1⟩
  | 94 => ⟨S1x2048x1024, .f32⟩
  | 95 => ⟨S2048x1024, .f32⟩
  | 96 => ⟨S8192x1024, .f32⟩
  | 97 => ⟨S8192x1024, .i1⟩
  | 98 => ⟨S8192x1024, .f32⟩
  | 99 => ⟨S_, .i32⟩
  | 100 => ⟨S8192, .i32⟩
  | 101 => ⟨S8192, .i1⟩
  | 102 => ⟨S1x1024x2048, .f32⟩
  | 103 => ⟨S1024x2048, .f32⟩
  | 104 => ⟨S8192x2048, .f32⟩
  | 105 => ⟨S_, .f32⟩
  | 106 => ⟨S8192x2048, .f32⟩
  | 107 => ⟨S8192x2048, .f32⟩
  | 108 => ⟨S8192x1, .i1⟩
  | 109 => ⟨S1x2048x1024, .f32⟩
  | 110 => ⟨S2048x1024, .f32⟩
  | 111 => ⟨S8192x1024, .f32⟩
  | 112 => ⟨S8192x1024, .i1⟩
  | 113 => ⟨S8192x1024, .f32⟩
  | 114 => ⟨S_, .i32⟩
  | 115 => ⟨S8192, .i32⟩
  | 116 => ⟨S8192, .i1⟩
  | 117 => ⟨S1x1024x2048, .f32⟩
  | 118 => ⟨S1024x2048, .f32⟩
  | 119 => ⟨S8192x2048, .f32⟩
  | 120 => ⟨S_, .f32⟩
  | 121 => ⟨S8192x2048, .f32⟩
  | 122 => ⟨S8192x2048, .f32⟩
  | 123 => ⟨S8192x1, .i1⟩
  | 124 => ⟨S1x2048x1024, .f32⟩
  | 125 => ⟨S2048x1024, .f32⟩
  | 126 => ⟨S8192x1024, .f32⟩
  | 127 => ⟨S8192x1024, .i1⟩
  | _ => ⟨S8192x1024, .bf16⟩

abbrev hbmTy0_1 (i : Nat) : BufTy := match i % 128 with
  | 0 => ⟨S8192x1024, .f32⟩
  | 1 => ⟨S_, .i32⟩
  | 2 => ⟨S8192, .i32⟩
  | 3 => ⟨S8192, .i1⟩
  | 4 => ⟨S1x1024x2048, .f32⟩
  | 5 => ⟨S1024x2048, .f32⟩
  | 6 => ⟨S8192x2048, .f32⟩
  | 7 => ⟨S_, .f32⟩
  | 8 => ⟨S8192x2048, .f32⟩
  | 9 => ⟨S8192x2048, .f32⟩
  | 10 => ⟨S8192x1, .i1⟩
  | 11 => ⟨S1x2048x1024, .f32⟩
  | 12 => ⟨S2048x1024, .f32⟩
  | 13 => ⟨S8192x1024, .f32⟩
  | 14 => ⟨S8192x1024, .i1⟩
  | 15 => ⟨S8192x1024, .f32⟩
  | 16 => ⟨S_, .i32⟩
  | 17 => ⟨S8192, .i32⟩
  | 18 => ⟨S8192, .i1⟩
  | 19 => ⟨S1x1024x2048, .f32⟩
  | 20 => ⟨S1024x2048, .f32⟩
  | 21 => ⟨S8192x2048, .f32⟩
  | 22 => ⟨S_, .f32⟩
  | 23 => ⟨S8192x2048, .f32⟩
  | 24 => ⟨S8192x2048, .f32⟩
  | 25 => ⟨S8192x1, .i1⟩
  | 26 => ⟨S1x2048x1024, .f32⟩
  | 27 => ⟨S2048x1024, .f32⟩
  | 28 => ⟨S8192x1024, .f32⟩
  | 29 => ⟨S8192x1024, .i1⟩
  | 30 => ⟨S8192x1024, .f32⟩
  | 31 => ⟨S_, .i32⟩
  | 32 => ⟨S8192, .i32⟩
  | 33 => ⟨S8192, .i1⟩
  | 34 => ⟨S1x1024x2048, .f32⟩
  | 35 => ⟨S1024x2048, .f32⟩
  | 36 => ⟨S8192x2048, .f32⟩
  | 37 => ⟨S_, .f32⟩
  | 38 => ⟨S8192x2048, .f32⟩
  | 39 => ⟨S8192x2048, .f32⟩
  | 40 => ⟨S8192x1, .i1⟩
  | 41 => ⟨S1x2048x1024, .f32⟩
  | 42 => ⟨S2048x1024, .f32⟩
  | 43 => ⟨S8192x1024, .f32⟩
  | 44 => ⟨S8192x1024, .i1⟩
  | 45 => ⟨S8192x1024, .f32⟩
  | 46 => ⟨S_, .i32⟩
  | 47 => ⟨S8192, .i32⟩
  | 48 => ⟨S8192, .i1⟩
  | 49 => ⟨S1x1024x2048, .f32⟩
  | 50 => ⟨S1024x2048, .f32⟩
  | 51 => ⟨S8192x2048, .f32⟩
  | 52 => ⟨S_, .f32⟩
  | 53 => ⟨S8192x2048, .f32⟩
  | 54 => ⟨S8192x2048, .f32⟩
  | 55 => ⟨S8192x1, .i1⟩
  | 56 => ⟨S1x2048x1024, .f32⟩
  | 57 => ⟨S2048x1024, .f32⟩
  | 58 => ⟨S8192x1024, .f32⟩
  | 59 => ⟨S8192x1024, .i1⟩
  | 60 => ⟨S8192x1024, .f32⟩
  | 61 => ⟨S_, .i32⟩
  | 62 => ⟨S8192, .i32⟩
  | 63 => ⟨S8192, .i1⟩
  | 64 => ⟨S1x1024x2048, .f32⟩
  | 65 => ⟨S1024x2048, .f32⟩
  | 66 => ⟨S8192x2048, .f32⟩
  | 67 => ⟨S_, .f32⟩
  | 68 => ⟨S8192x2048, .f32⟩
  | 69 => ⟨S8192x2048, .f32⟩
  | 70 => ⟨S8192x1, .i1⟩
  | 71 => ⟨S1x2048x1024, .f32⟩
  | 72 => ⟨S2048x1024, .f32⟩
  | 73 => ⟨S8192x1024, .f32⟩
  | 74 => ⟨S8192x1024, .i1⟩
  | 75 => ⟨S8192x1024, .f32⟩
  | 76 => ⟨S_, .i32⟩
  | 77 => ⟨S8192, .i32⟩
  | 78 => ⟨S8192, .i1⟩
  | 79 => ⟨S1x1024x2048, .f32⟩
  | 80 => ⟨S1024x2048, .f32⟩
  | 81 => ⟨S8192x2048, .f32⟩
  | 82 => ⟨S_, .f32⟩
  | 83 => ⟨S8192x2048, .f32⟩
  | 84 => ⟨S8192x2048, .f32⟩
  | 85 => ⟨S8192x1, .i1⟩
  | 86 => ⟨S1x2048x1024, .f32⟩
  | 87 => ⟨S2048x1024, .f32⟩
  | 88 => ⟨S8192x1024, .f32⟩
  | 89 => ⟨S8192x1024, .i1⟩
  | 90 => ⟨S8192x1024, .f32⟩
  | 91 => ⟨S_, .i32⟩
  | 92 => ⟨S8192, .i32⟩
  | 93 => ⟨S8192, .i1⟩
  | 94 => ⟨S1x1024x2048, .f32⟩
  | 95 => ⟨S1024x2048, .f32⟩
  | 96 => ⟨S8192x2048, .f32⟩
  | 97 => ⟨S_, .f32⟩
  | 98 => ⟨S8192x2048, .f32⟩
  | 99 => ⟨S8192x2048, .f32⟩
  | 100 => ⟨S8192x1, .i1⟩
  | 101 => ⟨S1x2048x1024, .f32⟩
  | 102 => ⟨S2048x1024, .f32⟩
  | 103 => ⟨S8192x1024, .f32⟩
  | 104 => ⟨S8192x1024, .i1⟩
  | 105 => ⟨S8192x1024, .f32⟩
  | 106 => ⟨S_, .i32⟩
  | 107 => ⟨S8192, .i32⟩
  | 108 => ⟨S8192, .i1⟩
  | 109 => ⟨S1x1024x2048, .f32⟩
  | 110 => ⟨S1024x2048, .f32⟩
  | 111 => ⟨S8192x2048, .f32⟩
  | 112 => ⟨S_, .f32⟩
  | 113 => ⟨S8192x2048, .f32⟩
  | 114 => ⟨S8192x2048, .f32⟩
  | 115 => ⟨S8192x1, .i1⟩
  | 116 => ⟨S1x2048x1024, .f32⟩
  | 117 => ⟨S2048x1024, .f32⟩
  | 118 => ⟨S8192x1024, .f32⟩
  | 119 => ⟨S8192x1024, .i1⟩
  | 120 => ⟨S8192x1024, .f32⟩
  | 121 => ⟨S8192x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_v0 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call3_v0 : Ref sig .tc := ⟨.hbm, 67, rfl⟩
abbrev main_v51 : Ref sig .tc := ⟨.hbm, 68, rfl⟩
abbrev main_c_7 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call4_v0 : Ref sig .tc := ⟨.hbm, 82, rfl⟩
abbrev main_v63 : Ref sig .tc := ⟨.hbm, 83, rfl⟩
abbrev main_c_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call5_v0 : Ref sig .tc := ⟨.hbm, 97, rfl⟩
abbrev main_v75 : Ref sig .tc := ⟨.hbm, 98, rfl⟩
abbrev main_c_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_call6_v0 : Ref sig .tc := ⟨.hbm, 112, rfl⟩
abbrev main_v87 : Ref sig .tc := ⟨.hbm, 113, rfl⟩
abbrev main_c_13 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_call7_v0 : Ref sig .tc := ⟨.hbm, 127, rfl⟩
abbrev main_v99 : Ref sig .tc := ⟨.hbm, 128, rfl⟩
abbrev main_c_15 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_16 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_call8_v0 : Ref sig .tc := ⟨.hbm, 142, rfl⟩
abbrev main_v111 : Ref sig .tc := ⟨.hbm, 143, rfl⟩
abbrev main_c_17 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_18 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_call9_v0 : Ref sig .tc := ⟨.hbm, 157, rfl⟩
abbrev main_v123 : Ref sig .tc := ⟨.hbm, 158, rfl⟩
abbrev main_c_19 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_20 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_call10_v0 : Ref sig .tc := ⟨.hbm, 172, rfl⟩
abbrev main_v135 : Ref sig .tc := ⟨.hbm, 173, rfl⟩
abbrev main_c_21 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_22 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_call11_v0 : Ref sig .tc := ⟨.hbm, 187, rfl⟩
abbrev main_v147 : Ref sig .tc := ⟨.hbm, 188, rfl⟩
abbrev main_c_23 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_24 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_call12_v0 : Ref sig .tc := ⟨.hbm, 202, rfl⟩
abbrev main_v159 : Ref sig .tc := ⟨.hbm, 203, rfl⟩
abbrev main_c_25 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_cst_26 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_call13_v0 : Ref sig .tc := ⟨.hbm, 217, rfl⟩
abbrev main_v171 : Ref sig .tc := ⟨.hbm, 218, rfl⟩
abbrev main_c_27 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_cst_28 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_call14_v0 : Ref sig .tc := ⟨.hbm, 232, rfl⟩
abbrev main_v183 : Ref sig .tc := ⟨.hbm, 233, rfl⟩
abbrev main_c_29 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_cst_30 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_call15_v0 : Ref sig .tc := ⟨.hbm, 247, rfl⟩
abbrev main_v195 : Ref sig .tc := ⟨.hbm, 248, rfl⟩
abbrev main_v196 : Ref sig .tc := ⟨.hbm, 249, rfl⟩

abbrev nD : Nat := 1
abbrev τ : Topo := Topo.v7x

variable {F : FTy → Type} [FloatOps F]
-- ==== Proof.Tiles.lean ====
/-
The places that the elements of a rectangle of rows take in a buffer, and a buffer written tile by tile.
-/
module

public import Idealize.ShloMosaic.Lib.Pipeline.ValueKit.Geometry
public import Idealize.ShloMosaic.Lib.Pointwise.Index
public import Idealize.ShloMosaic.Lib.Tactic

@[expose] public section

namespace Cert.Tiles

open Idealize.ShloMosaic

set_option backward.proofsInPublic true in
abbrev md (n : ℕ) (a : ℕ) (h : 0 < n := by decide) : Fin n := ⟨a % n, Nat.mod_lt _ h⟩

/-! ## Where the rectangles' elements lie -/

theorem emb_rows {R N n : ℕ} (hR : 0 < R) (off : Fin 2 → ℕ) (t : ℕ) (hoff : off = ![n * t, 0]) (inb)
    (x : (Rect.unit (s := ⟨2, ![R, N]⟩) off ![n, N] inb).shape.Idx) :
    (Rect.unit (s := ⟨2, ![R, N]⟩) off ![n, N] inb).emb x = ix2 (md R (n * t + (x 0).val) hR) (x 1) := by
  subst hoff
  have h := inb 0
  have hx : (x 0).val < n := (x 0).isLt
  funext a
  apply Fin.ext
  rw [ValueKit.rect_emb_unit_val]
  match a with
  | ⟨0, _⟩ =>
    have h' : n * t + n ≤ R := h
    show n * t + (x 0).val = (n * t + (x 0).val) % R
    rw [Nat.mod_eq_of_lt (by omega)]
  | ⟨1, _⟩ => exact Nat.zero_add _

theorem emb_col {R N n : ℕ} (hR : 0 < R) (hN : 0 < N) (off : Fin 2 → ℕ) (t k : ℕ) (hoff : off = ![n * t, k]) (inb)
    (x : (Rect.unit (s := ⟨2, ![R, N]⟩) off ![n, 1] inb).shape.Idx) :
    (Rect.unit (s := ⟨2, ![R, N]⟩) off ![n, 1] inb).emb x = ix2 (md R (n * t + (x 0).val) hR) (md N k hN) := by
  subst hoff
  have h := inb 0
  have h1 := inb 1
  have hx : (x 0).val < n := (x 0).isLt
  have hx1 : (x 1).val < 1 := (x 1).isLt
  funext a
  apply Fin.ext
  rw [ValueKit.rect_emb_unit_val]
  match a with
  | ⟨0, _⟩ =>
    have h' : n * t + n ≤ R := h
    show n * t + (x 0).val = (n * t + (x 0).val) % R
    rw [Nat.mod_eq_of_lt (by omega)]
  | ⟨1, _⟩ =>
    have h' : k + 1 ≤ N := h1
    show k + (x 1).val = k % N
    rw [Nat.mod_eq_of_lt (by omega)]; omega

theorem emb_slot {J R N n : ℕ} (hJ : 0 < J) (hR : 0 < R) (off : Fin 3 → ℕ) (j t : ℕ) (hoff : off = ![j, n * t, 0]) (inb)
    (x : (Rect.unit (s := ⟨3, ![J, R, N]⟩) off ![1, n, N] inb).shape.Idx) :
    (Rect.unit (s := ⟨3, ![J, R, N]⟩) off ![1, n, N] inb).emb x = ix3 (md J j hJ) (md R (n * t + (x 1).val) hR) (x 2) := by
  subst hoff
  have h := inb 0
  have h1 := inb 1
  have hx : (x 0).val < 1 := (x 0).isLt
  have hx1 : (x 1).val < n := (x 1).isLt
  funext a
  apply Fin.ext
  rw [ValueKit.rect_emb_unit_val]
  match a with
  | ⟨0, _⟩ =>
    have h' : j + 1 ≤ J := h
    show j + (x 0).val = j % J
    rw [Nat.mod_eq_of_lt (by omega)]; omega
  | ⟨1, _⟩ =>
    have h' : n * t + n ≤ R := h1
    show n * t + (x 1).val = (n * t + (x 1).val) % R
    rw [Nat.mod_eq_of_lt (by omega)]
  | ⟨2, _⟩ => exact Nat.zero_add _

theorem emb_row1 {R n : ℕ} (hR : 0 < R) (off : Fin 1 → ℕ) (t : ℕ) (hoff : off = ![n * t]) (inb)
    (x : (Rect.unit (s := ⟨1, ![R]⟩) off ![n] inb).shape.Idx) :
    (Rect.unit (s := ⟨1, ![R]⟩) off ![n] inb).emb x = ix1 (md R (n * t + (x 0).val) hR) := by
  subst hoff
  have h := inb 0
  have hx : (x 0).val < n := (x 0).isLt
  funext a
  apply Fin.ext
  rw [ValueKit.rect_emb_unit_val]
  match a with
  | ⟨0, _⟩ =>
    have h' : n * t + n ≤ R := h
    show n * t + (x 0).val = (n * t + (x 0).val) % R
    rw [Nat.mod_eq_of_lt (by omega)]

/-- A row tile not yet covered by a rectangle of rows lies before it. -/
theorem rows_before {R N n : ℕ} (off : Fin 2 → ℕ) (t : ℕ) (hoff : off = ![n * t, 0]) (inb)
    {i : (⟨2, ![R, N]⟩ : Shape).Idx} (hi : i ∉ (Rect.unit (s := ⟨2, ![R, N]⟩) off ![n, N] inb).set) (h : (i 0).val < n * t + n) : (i 0).val < n * t := by
  subst hoff
  by_contra hn
  apply hi
  rw [Rect.mem_set_unit]
  intro a
  match a with
  | ⟨0, _⟩ => exact ⟨Nat.le_of_not_lt hn, h⟩
  | ⟨1, _⟩ => exact ⟨Nat.zero_le _, (show (i 1).val < 0 + N by have : (i 1).val < N := (i 1).isLt; omega)⟩

theorem slot_before {J R N n : ℕ} (off : Fin 3 → ℕ) (j t : ℕ) (hoff : off = ![j, n * t, 0]) (inb)
    {i : (⟨3, ![J, R, N]⟩ : Shape).Idx} (hi : i ∉ (Rect.unit (s := ⟨3, ![J, R, N]⟩) off ![1, n, N] inb).set) (hj : (i 0).val = j)
    (h : (i 1).val < n * t + n) : (i 1).val < n * t := by
  subst hoff
  by_contra hn
  apply hi
  rw [Rect.mem_set_unit]
  intro a
  match a with
  | ⟨0, _⟩ => exact ⟨(show j ≤ (i 0).val by omega), (show (i 0).val < j + 1 by omega)⟩
  | ⟨1, _⟩ => exact ⟨Nat.le_of_not_lt hn, h⟩
  | ⟨2, _⟩ => exact ⟨Nat.zero_le _, (show (i 2).val < 0 + N by have : (i 2).val < N := (i 2).isLt; omega)⟩

/-- A function given tile by tile, at a place of tile `t`. -/
theorem tile2_at {α : Type} {R N : ℕ} (hR : 0 < R) (g : ℕ → (⟨2, ![256, N]⟩ : Shape).Idx → α) (t : ℕ) (y : (⟨2, ![256, N]⟩ : Shape).Idx)
    (h : 256 * t + 256 ≤ R) :
    g ((md R (256 * t + (y 0).val) hR).val / 256) (ix2 (md 256 (md R (256 * t + (y 0).val) hR).val) (y 1)) = g t y := by
  have hy : (y 0).val < 256 := (y 0).isLt
  have e : (256 * t + (y 0).val) % R = 256 * t + (y 0).val := Nat.mod_eq_of_lt (by omega)
  show g ((256 * t + (y 0).val) % R / 256) _ = _
  rw [e, show (256 * t + (y 0).val) / 256 = t by omega]
  congr 1
  funext a
  match a with
  | ⟨0, _⟩ => apply Fin.ext; show ((256 * t + (y 0).val) % R) % 256 = (y 0).val; rw [e]; omega
  | ⟨1, _⟩ => rfl

theorem tile3_at {α : Type} (g : ℕ → ℕ → (⟨3, ![1, 256, 1024]⟩ : Shape).Idx → α) (j t : ℕ) (y : (⟨3, ![1, 256, 1024]⟩ : Shape).Idx) (hj : j < 3) (h : t < 4) :
    g (md 3 j).val ((md 1024 (256 * t + (y 1).val)).val / 256) (ix3 0 (md 256 (md 1024 (256 * t + (y 1).val)).val) (y 2)) = g j t y := by
  have hy : (y 1).val < 256 := (y 1).isLt
  have hy0 : (y 0).val < 1 := (y 0).isLt
  have e : (256 * t + (y 1).val) % 1024 = 256 * t + (y 1).val := Nat.mod_eq_of_lt (by omega)
  show g (j % 3) ((256 * t + (y 1).val) % 1024 / 256) _ = _
  rw [e, show (256 * t + (y 1).val) / 256 = t by omega, Nat.mod_eq_of_lt hj]
  congr 1
  funext a
  match a with
  | ⟨0, _⟩ => apply Fin.ext; show 0 = (y 0).val; omega
  | ⟨1, _⟩ => apply Fin.ext; show ((256 * t + (y 1).val) % 1024) % 256 = (y 1).val; rw [e]; omega
  | ⟨2, _⟩ => rfl

/-- A buffer that holds its first `t` tiles holds one more after a store of tile `t`. -/
theorem rows_step {α : Type} {R N : ℕ} (hR : 0 < R) {G f f' : (⟨2, ![R, N]⟩ : Shape).Idx → α} (g : ℕ → (⟨2, ![256, N]⟩ : Shape).Idx → α)
    (hG : ∀ i, G i = g ((i 0).val / 256) (ix2 (md 256 (i 0).val) (i 1))) {t : ℕ} (ht : 256 * t + 256 ≤ R) {off : Fin 2 → ℕ} (hoff : off = ![256 * t, 0]) {inb}
    {w : (Rect.unit (s := ⟨2, ![R, N]⟩) off ![256, N] inb).shape.Idx → α} (hw : w = g t)
    (hf' : (∀ y, f' ((Rect.unit (s := ⟨2, ![R, N]⟩) off ![256, N] inb).emb y) = w y) ∧ ∀ i, i ∉ (Rect.unit (s := ⟨2, ![R, N]⟩) off ![256, N] inb).set → f' i = f i)
    (hf : ∀ i, (i 0).val < 256 * t → f i = G i) : ∀ i, (i 0).val < 256 * (t + 1) → f' i = G i := by
  intro i hi
  by_cases hm' : i ∈ (Rect.unit (s := ⟨2, ![R, N]⟩) off ![256, N] inb).set
  · rw [← Rect.map_emb_univ] at hm'
    obtain ⟨y, -, rfl⟩ := Finset.mem_map.mp hm'
    refine (hf'.1 y).trans ?_
    rw [hw, hG, emb_rows hR off t hoff inb y]
    exact (tile2_at hR g t y ht).symm
  · rw [hf'.2 i hm']
    exact hf i (rows_before off t hoff inb hm' (by omega))

/-- The same of slot `j` of a three-slot buffer. -/
theorem slot_step {α : Type} {G f f' : (⟨3, ![3, 1024, 1024]⟩ : Shape).Idx → α} (g : ℕ → ℕ → (⟨3, ![1, 256, 1024]⟩ : Shape).Idx → α)
    (hG : ∀ i, G i = g (i 0).val ((i 1).val / 256) (ix3 0 (md 256 (i 1).val) (i 2))) {j t : ℕ} (hj : j < 3) (ht : t < 4) {off : Fin 3 → ℕ} (hoff : off = ![j, 256 * t, 0]) {inb}
    {w : (Rect.unit (s := ⟨3, ![3, 1024, 1024]⟩) off ![1, 256, 1024] inb).shape.Idx → α} (hw : w = g j t)
    (hf' : (∀ y, f' ((Rect.unit (s := ⟨3, ![3, 1024, 1024]⟩) off ![1, 256, 1024] inb).emb y) = w y) ∧ ∀ i, i ∉ (Rect.unit (s := ⟨3, ![3, 1024, 1024]⟩) off ![1, 256, 1024] inb).set → f' i = f i)
    (hf : ∀ i, (i 0).val = j → (i 1).val < 256 * t → f i = G i) : ∀ i, (i 0).val = j → (i 1).val < 256 * (t + 1) → f' i = G i := by
  intro i hij hi
  by_cases hm' : i ∈ (Rect.unit (s := ⟨3, ![3, 1024, 1024]⟩) off ![1, 256, 1024] inb).set
  · rw [← Rect.map_emb_univ] at hm'
    obtain ⟨y, -, rfl⟩ := Finset.mem_map.mp hm'
    refine (hf'.1 y).trans ?_
    rw [hw, hG, emb_slot (by decide) (by decide) off j t hoff inb y]
    exact (tile3_at g j t y hj ht).symm
  · rw [hf'.2 i hm']
    exact hf i hij (slot_before off j t hoff inb hm' hij (by omega))

/-! ## Elements by first coordinate -/

set_option backward.proofsInPublic true in
/-- The elements of slot `j`. -/
def fib (J R N j : ℕ) : Finset (⟨3, ![J, R, N]⟩ : Shape).Idx := Finset.univ.filter fun i => (i 0).val = j

theorem mem_fib {J R N j : ℕ} {i : (⟨3, ![J, R, N]⟩ : Shape).Idx} : i ∈ fib J R N j ↔ (i 0).val = j := by simp [fib]
theorem fib_set (J R N j : ℕ) (inb) : (Rect.unit (s := ⟨3, ![J, R, N]⟩) ![j, 0, 0] ![1, R, N] inb).set = fib J R N j := by
  ext i
  rw [Rect.mem_set_unit, mem_fib]
  constructor
  · intro h
    have h0 : j ≤ (i 0).val ∧ (i 0).val < j + 1 := h 0
    omega
  · intro h a
    match a with
    | ⟨0, _⟩ => exact ⟨(show j ≤ (i 0).val by omega), (show (i 0).val < j + 1 by omega)⟩
    | ⟨1, _⟩ => exact ⟨Nat.zero_le _, (show (i 1).val < 0 + R by have : (i 1).val < R := (i 1).isLt; omega)⟩
    | ⟨2, _⟩ => exact ⟨Nat.zero_le _, (show (i 2).val < 0 + N by have : (i 2).val < N := (i 2).isLt; omega)⟩

end Cert.Tiles
-- ==== Proof.KernelIdeal.Ring.lean ====
/-
The exchange of the expert-parallel kernel: peers, cells, the contents every buffer ends up with, and the schedule
of the thirteen cells each device runs.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Tiles
public import Idealize.ShloMosaic.Lib.Pipeline.Launch
public import Idealize.ShloMosaic.Lib.Pipeline.Kit
public import Idealize.ShloMosaic.Lib.Pointwise.Index
public import Idealize.ShloMosaic.Lib.Tactic

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance
/-- The local copies' counters. -/
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Peers: the four devices along the last mesh axis -/

set_option backward.proofsInPublic true in
/-- The device `j + 1` places further along the last axis: where the tokens of slot `j` go. -/
def dst (j : ℕ) (c : Dev nD) : Dev nD :=
  ⟨c.val / 4 * 4 + (c.val + j + 1) % 4, by have h : c.val < 16 := c.isLt; show _ < 16; omega⟩
set_option backward.proofsInPublic true in
/-- The device `j + 1` places back: whose tokens arrive in slot `j`. -/
def src (j : ℕ) (c : Dev nD) : Dev nD :=
  ⟨c.val / 4 * 4 + (c.val + 7 - j % 4) % 4, by have h : c.val < 16 := c.isLt; show _ < 16; omega⟩

theorem src_dst (j : ℕ) (hj : j < 3) (c : Dev nD) : src j (dst j c) = c := by
  have h : c.val < 16 := c.isLt
  apply Fin.ext; simp only [src, dst]; omega
theorem dst_src (j : ℕ) (hj : j < 3) (c : Dev nD) : dst j (src j c) = c := by
  have h : c.val < 16 := c.isLt
  apply Fin.ext; simp only [src, dst]; omega
theorem src_eq_dst (j : ℕ) (hj : j < 3) (c : Dev nD) : src j c = dst (2 - j) c := by
  have h : c.val < 16 := c.isLt
  apply Fin.ext; simp only [src, dst]; omega

theorem dev1_eq (c : Dev nD) : (⟨k0_dev1 c, k0_dev1_lt c⟩ : Dev nD) = dst 0 c := by revert c; decide
theorem dev2_eq (c : Dev nD) : (⟨k0_dev2 c, k0_dev2_lt c⟩ : Dev nD) = dst 1 c := by revert c; decide
theorem dev3_eq (c : Dev nD) : (⟨k0_dev3 c, k0_dev3_lt c⟩ : Dev nD) = dst 2 c := by revert c; decide
theorem dev4_eq (c : Dev nD) : (⟨k0_dev4 c, k0_dev4_lt c⟩ : Dev nD) = dst 0 c := by revert c; decide
theorem dev5_eq (c : Dev nD) : (⟨k0_dev5 c, k0_dev5_lt c⟩ : Dev nD) = dst 1 c := by revert c; decide
theorem dev6_eq (c : Dev nD) : (⟨k0_dev6 c, k0_dev6_lt c⟩ : Dev nD) = dst 2 c := by revert c; decide
theorem dev7_eq (c : Dev nD) : (⟨k0_dev7 c, k0_dev7_lt c⟩ : Dev nD) = src 0 c := by revert c; decide
theorem dev8_eq (c : Dev nD) : (⟨k0_dev8 c, k0_dev8_lt c⟩ : Dev nD) = src 1 c := by revert c; decide
theorem dev9_eq (c : Dev nD) : (⟨k0_dev9 c, k0_dev9_lt c⟩ : Dev nD) = src 2 c := by revert c; decide

/-! ## Cells -/

abbrev barS : Sem sig := (SemArray.scalar (sig.barrier 0 rfl) : Sems sig S_).sem
set_option backward.proofsInPublic true in
/-- The DMA semaphore at place `n` of the table (3–5 forward sends, 6–8 forward arrivals, 9–11 return sends,
    12–14 return arrivals, 15–18 the weight copies). -/
abbrev dq (n : ℕ) (h : n < 19 := by decide) : DmaSem sig := ⟨n, h⟩
abbrev barCell (c : Dev nD) : GSem nD τ sig := ((c : Thread nD τ), .reg barS)
abbrev dcell (c : Dev nD) (n : ℕ) (h : n < 19 := by decide) : GSem nD τ sig := ((c : Thread nD τ), .dma (dq n h))

set_option backward.proofsInPublic true in
/-- The cells of the exchange: the barrier, then the twelve DMA cells. -/
abbrev csem (k : Fin 13) : SemLoc sig := if k = 0 then .reg barS else .dma (dq (k.val + 2) (by omega))
abbrev kcell (ck : Dev nD × Fin 13) : GSem nD τ sig := ((ck.1 : Thread nD τ), csem ck.2)

/-! ## Slots of the three-slot buffers -/

theorem inb3 (j : ℕ) (hj : j < 3) : ∀ a, (![j, 0, 0] : Fin 3 → ℕ) a + S1x1024x1024.size a ≤ S3x1024x1024.size a := by
  intro a; fin_cases a <;> simp [S1x1024x1024, S3x1024x1024] <;> omega
set_option backward.proofsInPublic true in
/-- Slot `j` of a three-slot buffer. -/
abbrev slotRect (j : ℕ) (hj : j < 3 := by decide) : Rect S3x1024x1024 :=
  Rect.unit (s := S3x1024x1024) ![j, 0, 0] S1x1024x1024.size (inb3 j hj)
set_option backward.proofsInPublic true in
def slotSet (j : ℕ) : Finset S3x1024x1024.Idx := Finset.univ.filter fun i => (i 0).val = j

theorem slotRect_set (j : ℕ) (hj : j < 3) : (slotRect j hj).set = slotSet j := by
  ext i
  rw [Rect.mem_set_unit]
  simp only [slotSet, Finset.mem_filter, Finset.mem_univ, true_and]
  constructor
  · intro h; have := h 0; simp [S1x1024x1024] at this; omega
  · intro h a
    fin_cases a
    · simp [S1x1024x1024]; omega
    · have := (i 1).isLt; simp [S1x1024x1024, S3x1024x1024] at this ⊢; omega
    · have := (i 2).isLt; simp [S1x1024x1024, S3x1024x1024] at this ⊢; omega

/-- A slot as the memref the copies name. -/
abbrev slotM (M : Memref sig .tc .vmem S3x1024x1024 .bf16) (j : ℕ) (hj : j < 3 := by decide) : Memref sig .tc .vmem S1024x1024 .bf16 :=
  (M.slice (slotRect j hj) (fun _ => rfl)).squeeze S1024x1024 squeezes_S1x1024x1024_S1024x1024

abbrev M7 : Memref sig .tc .vmem S3x1024x1024 .bf16 := Memref.whole cc0_scratch2
abbrev M8 : Memref sig .tc .vmem S3x1024x1024 .bf16 := Memref.whole cc0_scratch3
abbrev M11 : Memref sig .tc .vmem S3x1024x1024 .bf16 := Memref.whole cc0_scratch6
abbrev M12 : Memref sig .tc .vmem S3x1024x1024 .bf16 := Memref.whole cc0_scratch7

/-- A slot's credit. -/
abbrev NB : ℕ := (slotM M8 0).view.dmaCredit
theorem NB_pos : 0 < NB := View.dmaCredit_pos _ (by decide)

/-! ## Contents -/

/-- Device `c`'s tokens, as the pipeline stages them. -/
def X (c : Dev nD) : Vec F S2048x1024 .bf16 :=
  (win0_0.blk (0 : Fin 1)).view.read (Elt F) ((s₀ m ρ).mem ((c : Thread nD τ).loc main_arg0))
/-- Device `c`'s expert assignment. -/
def A (c : Dev nD) : Vec F S2048 .i32 :=
  (win0_1.blk (0 : Fin 1)).view.read (Elt F) ((s₀ m ρ).mem ((c : Thread nD τ).loc main_arg1))
def W1 (c : Dev nD) : Vec F S4x1024x2048 .bf16 := m ((c : Thread nD τ).loc main_arg2)
def W2 (c : Dev nD) : Vec F S4x2048x1024 .bf16 := m ((c : Thread nD τ).loc main_arg3)

/-- The values of the scalars and small vectors the expert columns are made of. -/
abbrev zw (c : Dev nD) : BitVec 32 := Scalar.remsi (Scalar.divsi (Dev.word c) 1#32) 4#32
abbrev io16 : IVec S1x16 32 := iota .tc S1x16 32 [1] iota_S1x16_d1_w32
abbrev v107w : BitVec 32 := Scalar.select (Scalar.cmpi .eq 4#32 0#32) 1#32 4#32

def maskTile (c : Dev nD) (v : Vec F S256 .i32) : FVec F S256x16 .bf16 :=
  k0_pay23 (k0_pay19 (zw c) io16 4#32 k0_pay16 k0_pay17 k0_pay18) v107w (k0_pay20 io16) (k0_pay21 io16) 0#32 v
def aTile (c : Dev nD) (t : ℕ) : Vec F S256 .i32 := fun x => A m ρ c (ix1 (md 2048 (256 * t + (x 0).val)))
/-- The membership matrix: 1 where the token is assigned the column's expert. -/
def MaskF (c : Dev nD) : Vec F S2048x16 .bf16 := fun i =>
  maskTile c (aTile m ρ c ((i 0).val / 256)) (ix2 (md 256 (i 0).val) (i 1))
set_option backward.proofsInPublic true in
def rankTile (c : Dev nD) (t : ℕ) : FVec F S256x16 .bf16 :=
  k0_pay24 ⟨t % k0_t2_loop.trips, Nat.mod_lt _ (by decide)⟩ (MaskF m ρ c)
/-- The rank of each token among the tokens before it in its column. -/
def RankF (c : Dev nD) : Vec F S2048x16 .bf16 := fun i =>
  rankTile m ρ c ((i 0).val / 256) (ix2 (md 256 (i 0).val) (i 1))
/-- Rows `256t …` of column `k`. -/
def colAt (f : Vec F S2048x16 .bf16) (t k : ℕ) : Vec F S256x1 .bf16 := fun x => f (ix2 (md 2048 (256 * t + (x 0).val)) (md 16 k))
def xTile (c : Dev nD) (t : ℕ) : Vec F S256x1024 .bf16 := fun x => X m ρ c (ix2 (md 2048 (256 * t + (x 0).val)) (x 1))
/-- The bucket of column `k` accumulated over the first `n` token tiles. -/
def bacc (c : Dev nD) (k : ℕ) : ℕ → FVec F S256x1024 .f32
  | 0 => k0_pay25
  | n + 1 => k0_pay26 (bacc c k n) (colAt (RankF m ρ c) n k) (colAt (MaskF m ρ c) n k) (xTile m ρ c n)
/-- The buckets for the peers, as sent. -/
def SendF (c : Dev nD) : Vec F S3x1024x1024 .bf16 := fun i =>
  k0_pay27 (bacc m ρ c (4 * ((i 0).val + 1) + (i 1).val / 256) 8) (ix3 0 (md 256 (i 1).val) (i 2))
/-- The device's own buckets. -/
def OwnF (c : Dev nD) : Vec F S1024x1024 .bf16 := fun i =>
  k0_pay64 (bacc m ρ c ((i 0).val / 256) 8) (ix2 (md 256 (i 0).val) (i 1))
/-- The buckets as they arrive. -/
def RecvF (c : Dev nD) : Vec F S3x1024x1024 .bf16 := fun i => SendF m ρ (src (i 0).val c) i
def w1v (c : Dev nD) (e : ℕ) : Vec F S1x1024x2048 .bf16 := fun x => W1 m c (ix3 (md 4 e) (x 1) (x 2))
def w2v (c : Dev nD) (e : ℕ) : Vec F S1x2048x1024 .bf16 := fun x => W2 m c (ix3 (md 4 e) (x 1) (x 2))
def rblk (c : Dev nD) (j e : ℕ) : Vec F S1x256x1024 .bf16 := fun x => RecvF m ρ c (ix3 (md 3 j) (md 1024 (256 * e + (x 1).val)) (x 2))
def oblk (c : Dev nD) (e : ℕ) : Vec F S256x1024 .bf16 := fun x => OwnF m ρ c (ix2 (md 1024 (256 * e + (x 0).val)) (x 1))
/-- The results for the peers. -/
def YRetF (c : Dev nD) : Vec F S3x1024x1024 .bf16 := fun i =>
  k0_pay79 (rblk m ρ c (i 0).val ((i 1).val / 256)) (w1v m c ((i 1).val / 256)) (w2v m c ((i 1).val / 256)) (ix3 0 (md 256 (i 1).val) (i 2))
/-- The results of the device's own buckets. -/
def YOwnF (c : Dev nD) : Vec F S1024x1024 .bf16 := fun i =>
  k0_pay74 (oblk m ρ c ((i 0).val / 256)) (w1v m c ((i 0).val / 256)) (w2v m c ((i 0).val / 256)) (ix2 (md 256 (i 0).val) (i 1))
/-- The results as they return. -/
def RetF (c : Dev nD) : Vec F S3x1024x1024 .bf16 := fun i => YRetF m ρ (dst (i 0).val c) i
def yo (c : Dev nD) (e : ℕ) : Vec F S256x1024 .bf16 := fun x => YOwnF m ρ c (ix2 (md 1024 (256 * e + (x 0).val)) (x 1))
def yr (c : Dev nD) (j e : ℕ) : Vec F S1x256x1024 .bf16 := fun x => RetF m ρ c (ix3 (md 3 j) (md 1024 (256 * e + (x 1).val)) (x 2))

/-- Tile `t` of the output: the sixteen buckets' results gathered back into token order. -/
def outTile (c : Dev nD) (t : ℕ) : Vec F S256x1024 .bf16 :=
  let R := fun k => colAt (RankF m ρ c) t k
  let M := fun k => colAt (MaskF m ρ c) t k
  let v1 := k0_pay1 k0_pay22 (yo m ρ c 0) (R 0) (M 0) (yo m ρ c 1) (R 1) (M 1)
  let v2 := k0_pay2 k0_pay22 v1 (yo m ρ c 2) (R 2) (M 2) (yo m ρ c 3) (R 3) (M 3)
  let v3 := k0_pay6 k0_pay22 v2 (k0_pay3 (yr m ρ c 0 0)) (k0_pay4 k0_pay22 (R 4)) (k0_pay5 (M 4)) (yr m ρ c 0 1) (R 5) (M 5) (yr m ρ c 0 2) (R 6) (M 6)
  let v4 := k0_pay7 k0_pay22 v3 (yr m ρ c 0 3) (R 7) (M 7) (yr m ρ c 1 0) (R 8) (M 8)
  let v5 := k0_pay9 k0_pay22 v4 (k0_pay8 (yr m ρ c 1 1)) (R 9) (M 9) (yr m ρ c 1 2) (R 10) (M 10)
  let v6 := k0_pay13 k0_pay22 v5 (k0_pay10 (yr m ρ c 1 3)) (M 11) (k0_pay11 k0_pay22 (R 11)) k0_pay12 (yr m ρ c 2 0) (R 12) (M 12)
  let v7 := k0_pay14 k0_pay22 (yr m ρ c 2 1) (R 13) (M 13)
  k0_pay15 k0_pay22 v6 v7 (yr m ρ c 2 2) (R 14) (M 14) (yr m ρ c 2 3) (R 15) (M 15)
/-- The output block. -/
def OutF (c : Dev nD) : Vec F S2048x1024 .bf16 := fun i =>
  outTile m ρ c ((i 0).val / 256) (ix2 (md 256 (i 0).val) (i 1))

/-! ## Slots as resources -/

/-- Slot `j` of buffer `b` of device `c` holding `f`. -/
def p7 (c : Dev nD) (j : ℕ) (f : Vec F S3x1024x1024 .bf16) : sProp 𝕄 := ((c : Thread nD τ).loc cc0_scratch2) ↦[slotSet j]{fullShare} f
def p8 (c : Dev nD) (j : ℕ) (f : Vec F S3x1024x1024 .bf16) : sProp 𝕄 := ((c : Thread nD τ).loc cc0_scratch3) ↦[slotSet j]{fullShare} f
def p11 (c : Dev nD) (j : ℕ) (f : Vec F S3x1024x1024 .bf16) : sProp 𝕄 := ((c : Thread nD τ).loc cc0_scratch6) ↦[slotSet j]{fullShare} f
def p12 (c : Dev nD) (j : ℕ) (f : Vec F S3x1024x1024 .bf16) : sProp 𝕄 := ((c : Thread nD τ).loc cc0_scratch7) ↦[slotSet j]{fullShare} f

instance p7_storable (c : Dev nD) (j : ℕ) (f) : BI.Storable (upEmb : UEmb _ 𝕄) (p7 (F := F) c j f) := by unfold p7; infer_instance
instance p8_storable (c : Dev nD) (j : ℕ) (f) : BI.Storable (upEmb : UEmb _ 𝕄) (p8 (F := F) c j f) := by unfold p8; infer_instance
instance p11_storable (c : Dev nD) (j : ℕ) (f) : BI.Storable (upEmb : UEmb _ 𝕄) (p11 (F := F) c j f) := by unfold p11; infer_instance
instance p12_storable (c : Dev nD) (j : ℕ) (f) : BI.Storable (upEmb : UEmb _ 𝕄) (p12 (F := F) c j f) := by unfold p12; infer_instance

/-! ## The schedule -/

/-- What the signal of duty `j` hands device `p`: the two landing slots of the signalling device `src j p` that `p`
    will send into. -/
def barPay (p : Dev nD) (j : ℕ) : sProp 𝕄 := iprop((∃ f, p8 (src j p) (2 - j) f) ∗ (∃ f, p12 (src j p) j f))
/-- What the transfer of DMA cell `n` of device `p` delivers. -/
def xferPay (p : Dev nD) (n : ℕ) : sProp 𝕄 :=
  if n < 6 then p7 p (n - 3) (SendF m ρ p) else if n < 9 then p8 p (n - 6) (RecvF m ρ p)
  else if n < 12 then p11 p (n - 9) (YRetF m ρ p) else p12 p (n - 12) (RetF m ρ p)

instance barPay_storable (p : Dev nD) (j : ℕ) : BI.Storable (upEmb : UEmb _ 𝕄) (barPay (F := F) p j) := by unfold barPay; infer_instance
instance xferPay_storable (p : Dev nD) (n : ℕ) : BI.Storable (upEmb : UEmb _ 𝕄) (xferPay (F := F) m ρ p n) := by
  unfold xferPay; (repeat' split) <;> infer_instance

def dutiesOf : SemLoc sig → Finset (Fin 3)
  | .reg s => if s = barS then Finset.univ else ∅
  | .dma q => if 3 ≤ q.val ∧ q.val < 15 then {0} else ∅
def amountOf : SemLoc sig → ℕ
  | .reg _ => 1
  | .dma _ => NB
def payOf (p : Dev nD) (d : Fin 3) : SemLoc sig → sProp 𝕄
  | .reg _ => barPay p d.val
  | .dma q => xferPay m ρ p q.val

/-- One round: a barrier cell has three duties of one unit, a transfer cell one duty of a slot's credit. -/
def moeRd : Rounds.Schedule (GSem nD τ sig) (Fin 3) 𝕄 where
  duties g r := if r = 0 ∧ g.1.2 = .tc then dutiesOf g.2 else ∅
  unitless _ := False
  amount g _ _ := amountOf g.2
  payload g _ d := payOf m ρ g.1.1 d g.2
  amount_pos g _ _ _ := by
    rcases g with ⟨t, s | q⟩
    · exact Nat.one_pos
    · exact NB_pos

instance moeRd_payload_storable (g : GSem nD τ sig) (r : ℕ) (d : Fin 3) :
    BI.Storable (upEmb : UEmb _ 𝕄) ((moeRd (F := F) m ρ).payload g r d) := by
  show BI.Storable upEmb (payOf m ρ g.1.1 d g.2)
  rcases g with ⟨t, s | q⟩
  · unfold payOf; infer_instance
  · unfold payOf; infer_instance

section Sched
variable (c : Dev nD)

theorem duties_bar : (moeRd (F := F) m ρ).duties (barCell c) 0 = Finset.univ := rfl
theorem duties_xfer (n : ℕ) (h : n < 19) (h3 : 3 ≤ n) (h15 : n < 15) : (moeRd (F := F) m ρ).duties (dcell c n h) 0 = {0} := by
  show (if (0 : ℕ) = 0 ∧ (dcell c n h).1.2 = .tc then dutiesOf (dcell c n h).2 else ∅) = {0}
  rw [if_pos ⟨rfl, rfl⟩]; exact if_pos ⟨h3, h15⟩
theorem duties_later (g : GSem nD τ sig) : ∀ r, 1 ≤ r → (moeRd (F := F) m ρ).duties g r = ∅ :=
  fun r hr => if_neg fun h => by have := h.1; omega
theorem amount_bar (d : Fin 3) : (moeRd (F := F) m ρ).amount (barCell c) 0 d = 1 := rfl
theorem amount_xfer (n : ℕ) (h : n < 19) (d : Fin 3) : (moeRd (F := F) m ρ).amount (dcell c n h) 0 d = NB := rfl
theorem expect_bar : (moeRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_xfer (n : ℕ) (h : n < 19) (h3 : 3 ≤ n) (h15 : n < 15) : (moeRd (F := F) m ρ).expect (dcell c n h) 0 = NB := by
  unfold Schedule.expect Schedule.amountOf; rw [duties_xfer m ρ c n h h3 h15, Finset.sum_singleton, amount_xfer]
theorem payload_bar (d : Fin 3) : (moeRd (F := F) m ρ).payload (barCell c) 0 d = barPay c d.val := rfl
theorem payload_xfer (n : ℕ) (h : n < 19) (d : Fin 3) : (moeRd (F := F) m ρ).payload (dcell c n h) 0 d = xferPay m ρ c n := rfl
theorem rest_bar : bigSep ((moeRd (F := F) m ρ).duties (barCell c) 0 \ ∅) (fun d => (moeRd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_xfer (n : ℕ) (h : n < 19) (h3 : 3 ≤ n) (h15 : n < 15) :
    bigSep ((moeRd (F := F) m ρ).duties (dcell c n h) 0 \ ∅) (fun d => (moeRd (F := F) m ρ).payload (dcell c n h) 0 d) = xferPay m ρ c n := by
  rw [Finset.sdiff_empty, duties_xfer m ρ c n h h3 h15, bigSep_singleton, payload_xfer]

theorem xferPay_fs (j : ℕ) (hj : j < 3) : xferPay m ρ c (3 + j) = p7 c j (SendF m ρ c) := by
  unfold xferPay; rw [if_pos (by omega), Nat.add_sub_cancel_left]
theorem xferPay_fr (j : ℕ) (hj : j < 3) : xferPay m ρ c (6 + j) = p8 c j (RecvF m ρ c) := by
  unfold xferPay; rw [if_neg (by omega), if_pos (by omega), Nat.add_sub_cancel_left]
theorem xferPay_rs (j : ℕ) (hj : j < 3) : xferPay m ρ c (9 + j) = p11 c j (YRetF m ρ c) := by
  unfold xferPay; rw [if_neg (by omega), if_neg (by omega), if_pos (by omega), Nat.add_sub_cancel_left]
theorem xferPay_rr (j : ℕ) (hj : j < 3) : xferPay m ρ c (12 + j) = p12 c j (RetF m ρ c) := by
  unfold xferPay; rw [if_neg (by omega), if_neg (by omega), if_neg (by omega), Nat.add_sub_cancel_left]

end Sched

/-! ## What each device owes; the levels -/

/-- The debts, each the previous with the next contribution (in reverse program order) on top. -/
def R2 (c : Dev nD) : CellTallies nD τ sig Unit := tallyAt (dcell (src 2 c) 14) () NB
def R1 (c : Dev nD) : CellTallies nD τ sig Unit := R2 c + tallyAt (dcell (src 1 c) 13) () NB
def R0 (c : Dev nD) : CellTallies nD τ sig Unit := R1 c + tallyAt (dcell (src 0 c) 12) () NB
def F2 (c : Dev nD) : CellTallies nD τ sig Unit := R0 c + tallyAt (dcell (dst 2 c) 8) () NB
def F1 (c : Dev nD) : CellTallies nD τ sig Unit := F2 c + tallyAt (dcell (dst 1 c) 7) () NB
def F0 (c : Dev nD) : CellTallies nD τ sig Unit := F1 c + tallyAt (dcell (dst 0 c) 6) () NB
def B2 (c : Dev nD) : CellTallies nD τ sig Unit := F0 c + tallyAt (barCell (dst 2 c)) () 1
def B1 (c : Dev nD) : CellTallies nD τ sig Unit := B2 c + tallyAt (barCell (dst 1 c)) () 1
def O₀ (c : Dev nD) : CellTallies nD τ sig Unit := B1 c + tallyAt (barCell (dst 0 c)) () 1

def L (g : GSem nD τ sig) : Finset Unit := if g.1.2 = .tc then {()} else ∅
def lvS : SemLoc sig → ℕ
  | .reg _ => 1
  | .dma q => if q.val < 6 then 0 else if q.val < 9 then 2 else if q.val < 12 then 0 else if q.val < 15 then 3 else 0
/-- Barrier cells at 1, forward arrivals at 2, return arrivals at 3, everything else at 0. -/
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Every cell `O` owes to is a TensorCore's, above level `n`. -/
def Above (n : ℕ) (O : CellTallies nD τ sig Unit) : Prop := ∀ g u, 0 < O g u → g.1.2 = .tc ∧ n < lvS g.2

theorem above_zero (n : ℕ) : Above n 0 := fun g u h => absurd h (Nat.lt_irrefl 0)
theorem above_tally {n : ℕ} {c : Dev nD} {sm : SemLoc sig} {k : ℕ} (h : n < lvS sm) : Above n (tallyAt ((c : Thread nD τ), sm) () k) := by
  intro g u hg
  rw [tallyAt_apply] at hg
  by_cases h' : g = ((c : Thread nD τ), sm) ∧ u = ()
  · rw [h'.1]; exact ⟨rfl, h⟩
  · rw [if_neg h'] at hg; exact absurd hg (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

theorem above_R2 (c : Dev nD) : Above 2 (R2 c) := above_tally (by decide)
theorem above_R1 (c : Dev nD) : Above 2 (R1 c) := above_add (above_R2 c) (above_tally (by decide))
theorem above_R0 (c : Dev nD) : Above 2 (R0 c) := above_add (above_R1 c) (above_tally (by decide))
theorem Above.mono {n n' : ℕ} (h : n' ≤ n) {O : CellTallies nD τ sig Unit} (hO : Above n O) : Above n' O :=
  fun g u hg => ⟨(hO g u hg).1, lt_of_le_of_lt h (hO g u hg).2⟩
theorem above_F0 (c : Dev nD) : Above 1 (F0 c) :=
  above_add (above_add (above_add ((above_R0 c).mono (by decide)) (above_tally (by decide))) (above_tally (by decide))) (above_tally (by decide))
theorem above_O₀ (c : Dev nD) : Above 0 (O₀ c) :=
  above_add (above_add (above_add ((above_F0 c).mono (by decide)) (above_tally (by decide))) (above_tally (by decide))) (above_tally (by decide))

theorem mayWait (c : Dev nD) (sm : SemLoc sig) {O : CellTallies nD τ sig Unit} (h : Above (lvS sm) O) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-- What a device owes, whatever it has waited for. -/
def owesE (c : Dev nD) (O : CellTallies nD τ sig Unit) : sProp 𝕄 := iprop(∃ W, owes (c : Thread nD τ) O W)

end Cert.KernelIdeal.Moe
-- ==== Proof.KernelIdeal.Mem.lean ====
/-
Loads and stores of a rectangle of each buffer.
-/
module

public import proofs.«01_k».proof.Proof.KernelIdeal.Ring

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of device `c`'s TensorCore program. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A rectangle of a whole buffer covers the rectangle's elements. -/
theorem setOn_access (b : Ref sig .tc) (r) : ((Memref.whole b).access r).setOn Finset.univ = r.set :=
  (show _ = ((View.whole b).slice r).set from rfl).trans (View.set_slice_whole b r)

/-! ## Loads -/

theorem ldX (c : Dev nD) (r : Rect S2048x1024) {hl} {α : Type}
    {k : (r.shape.Idx → Elt F .bf16) → Prog (TpuEff nD τ sig (Elt F) Λ₀ .tc) α} {Q : α → sProp 𝕄}
    {S : Finset S2048x1024.Idx} {f : Vec F S2048x1024 .bf16} (hS : r.set ⊆ S) :
    (((c : Thread nD τ).loc cc0_stg0_0) ↦[S]{fullShare} f : sProp 𝕄)
      ⊢ iprop(((((c : Thread nD τ).loc cc0_stg0_0) ↦[S]{fullShare} f) -∗ wpc c (k (fun x => f (r.emb x))) Q)
        -∗ wpc c (.op (.load (Memref.whole cc0_stg0_0) r.toLoadRect hl) k) Q) :=
  wp_load_rect (defs := defs₀ (F := F)) 𝒱₀ (c : Thread nD τ) none (Set.univ : Set ℕ) (m := Memref.whole cc0_stg0_0) (r := r) (hl := hl) (k := k) (Q := Q)
    (S := S) (q := fullShare) (f := f) (by rw [View.set_slice_whole]; exact hS)

theorem ldA (c : Dev nD) (r : Rect S2048) {hl} {α : Type}
    {k : (r.shape.Idx → Elt F .i32) → Prog (TpuEff nD τ sig (Elt F) Λ₀ .tc) α} {Q : α → sProp 𝕄}
    {S : Finset S2048.Idx} {f : Vec F S2048 .i32} (hS : r.set ⊆ S) :
    (((c : Thread nD τ).loc cc0_stg1_0) ↦[S]{fullShare} f : sProp 𝕄)
      ⊢ iprop(((((c : Thread nD τ).loc cc0_stg1_0) ↦[S]{fullShare} f) -∗ wpc c (k (fun x => f (r.emb x))) Q)
        -∗ wpc c (.op (.load (Memref.whole cc0_stg1_0) r.toLoadRect hl) k) Q) :=
  wp_load_rect (defs := defs₀ (F := F)) 𝒱₀ (c : Thread nD τ) none (Set.univ : Set ℕ) (m := Memref.whole cc0_stg1_0) (r := r) (hl := hl) (k := k) (Q := Q)
    (S := S) (q := fullShare) (f := f) (by rw [View.set_slice_whole]; exact hS)

theorem ldO (c : Dev nD) (r : Rect S2048x1024) {hl} {α : Type}
    {k : (r.shape.Idx → Elt F .bf16) → Prog (TpuEff nD τ sig (Elt F) Λ₀ .tc) α} {Q : α → sProp 𝕄}
    {S : Finset S2048x1024.Idx} {f : Vec F S2048x1024 .bf16} (hS : r.set ⊆ S) :
    (((c : Thread nD τ).loc cc0_stg2_0) ↦[S]{fullShare} f : sProp 𝕄)
      ⊢ iprop(((((c : Thread nD τ).loc cc0_stg2_0) ↦[S]{fullShare} f) -∗ wpc c (k (fun x => f (r.emb x))) Q)
        -∗ wpc c (.op (.load (Memref.whole cc0_stg2_0) r.toLoadRect hl) k) Q) :=
  wp_load_rect (defs := defs₀ (F := F)) 𝒱₀ (c : Thread nD τ) none (Set.univ : Set ℕ) (m := Memref.whole cc0_stg2_0) (r := r) (hl := hl) (k := k) (Q := Q)
    (S := S) (q := fullShare) (f := f) (by rw [View.set_slice_whole]; exact hS)

theorem ld5 (c : Dev nD) (r : Rect S2048x16) {hl} {α : Type}
    {k : (r.shape.Idx → Elt F .bf16) → Prog (TpuEff nD τ sig (Elt F) Λ₀ .tc) α} {Q : α → sProp 𝕄}
    {S : Finset S2048x16.Idx} {f : Vec F S2048x16 .bf16} (hS : r.set ⊆ S) :
    (((c : Thread nD τ).loc cc0_scratch0) ↦[S]{fullShare} f : sProp 𝕄)
      ⊢ iprop(((((c : Thread nD τ).loc cc0_scratch0) ↦[S]{fullShare} f) -∗ wpc c (k (fun x => f (r.emb x))) Q)
        -∗ wpc c (.op (.load (Memref.whole cc0_scratch0) r.toLoadRect hl) k) Q) :=
  wp_load_rect (defs := defs₀ (F := F)) 𝒱₀ (c : Thread nD τ) none (Set.univ : Set ℕ) (m := Memref.whole cc0_scratch0) (r := r) (hl := hl) (k := k) (Q := Q)
    (S := S) (q := fullShare) (f := f) (by rw [View.set_slice_whole]; exact hS)

theorem ld6 (c : Dev nD) (r : Rect S2048x16) {hl} {α : Type}
    {k : (r.shape.Idx → Elt F .bf16) → Prog (TpuEff nD τ sig (Elt F) Λ₀ .tc) α} {Q : α → sProp 𝕄}
    {S : Finset S2048x16.Idx} {f : Vec F S2048x16 .bf16} (hS : r.set ⊆ S) :
    (((c : Thread nD τ).loc cc0_scratch1) ↦[S]{fullShare} f : sProp 𝕄)
      ⊢ iprop(((((c : Thread nD τ).loc cc0_scratch1) ↦[S]{fullShare} f) -∗ wpc c (k (fun x => f (r.emb x))) Q)
        -∗ wpc c (.op (.load (Memref.whole cc0_scratch1) r.toLoadRect hl) k) Q) :=
  wp_load_rect (defs := defs₀ (F := F)) 𝒱₀ (c : Thread nD τ) none (Set.univ : Set ℕ) (m := Memref.whole cc0_scratch1) (r := r) (hl := hl) (k := k) (Q := Q)
    (S := S) (q := fullShare) (f := f) (by rw [View.set_slice_whole]; exact hS)

theorem ld7 (c : Dev nD) (r : Rect S3x1024x1024) {hl} {α : Type}
    {k : (r.shape.Idx → Elt F .bf16) → Prog (TpuEff nD τ sig (Elt F) Λ₀ .tc) α} {Q : α → sProp 𝕄}
    {S : Finset S3x1024x1024.Idx} {f : Vec F S3x1024x1024 .bf16} (hS : r.set ⊆ S) :
    (((c : Thread nD τ).loc cc0_scratch2) ↦[S]{fullShare} f : sProp 𝕄)
      ⊢ iprop(((((c : Thread nD τ).loc cc0_scratch2) ↦[S]{fullShare} f) -∗ wpc c (k (fun x => f (r.emb x))) Q)
        -∗ wpc c (.op (.load (Memref.whole cc0_scratch2) r.toLoadRect hl) k) Q) :=
  wp_load_rect (defs := defs₀ (F := F)) 𝒱₀ (c : Thread nD τ) none (Set.univ : Set ℕ) (m := Memref.whole cc0_scratch2) (r := r) (hl := hl) (k := k) (Q := Q)
    (S := S) (q := fullShare) (f := f) (by rw [View.set_slice_whole]; exact hS)

theorem ld8 (c : Dev nD) (r : Rect S3x1024x1024) {hl} {α : Type}
    {k : (r.shape.Idx → Elt F .bf16) → Prog (TpuEff nD τ sig (Elt F) Λ₀ .tc) α} {Q : α → sProp 𝕄}
    {S : Finset S3x1024x1024.Idx} {f : Vec F S3x1024x1024 .bf16} (hS : r.set ⊆ S) :
    (((c : Thread nD τ).loc cc0_scratch3) ↦[S]{fullShare} f : sProp 𝕄)
      ⊢ iprop(((((c : Thread nD τ).loc cc0_scratch3) ↦[S]{fullShare} f) -∗ wpc c (k (fun x => f (r.emb x))) Q)
        -∗ wpc c (.op (.load (Memref.whole cc0_scratch3) r.toLoadRect hl) k) Q) :=
  wp_load_rect (defs := defs₀ (F := F)) 𝒱₀ (c : Thread nD τ) none (Set.univ : Set ℕ) (m := Memref.whole cc0_scratch3) (r := r) (hl := hl) (k := k) (Q := Q)
    (S := S) (q := fullShare) (f := f) (by rw [View.set_slice_whole]; exact hS)

theorem ld9 (c : Dev nD) (r : Rect S1024x1024) {hl} {α : Type}
    {k : (r.shape.Idx → Elt F .bf16) → Prog (TpuEff nD τ sig (Elt F) Λ₀ .tc) α} {Q : α → sProp 𝕄}
    {S : Finset S1024x1024.Idx} {f : Vec F S1024x1024 .bf16} (hS : r.set ⊆ S) :
    (((c : Thread nD τ).loc cc0_scratch4) ↦[S]{fullShare} f : sProp 𝕄)
      ⊢ iprop(((((c : Thread nD τ).loc cc0_scratch4) ↦[S]{fullShare} f) -∗ wpc c (k (fun x => f (r.emb x))) Q)
        -∗ wpc c (.op (.load (Memref.whole cc0_scratch4) r.toLoadRect hl) k) Q) :=
  wp_load_rect (defs := defs₀ (F := F)) 𝒱₀ (c : Thread nD τ) none (Set.univ : Set ℕ) (m := Memref.whole cc0_scratch4) (r := r) (hl := hl) (k := k) (Q := Q)
    (S := S) (q := fullShare) (f := f) (by rw [View.set_slice_whole]; exact hS)

theorem ld10 (c : Dev nD) (r : Rect S1024x1024) {hl} {α : Type}
    {k : (r.shape.Idx → Elt F .bf16) → Prog (TpuEff nD τ sig (Elt F) Λ₀ .tc) α} {Q : α → sProp 𝕄}
    {S : Finset S1024x1024.Idx} {f : Vec F S1024x1024 .bf16} (hS : r.set ⊆ S) :
    (((c : Thread nD τ).loc cc0_scratch5) ↦[S]{fullShare} f : sProp 𝕄)
      ⊢ iprop(((((c : Thread nD τ).loc cc0_scratch5) ↦[S]{fullShare} f) -∗ wpc c (k (fun x => f (r.emb x))) Q)
        -∗ wpc c (.op (.load (Memref.whole cc0_scratch5) r.toLoadRect hl) k) Q) :=
  wp_load_rect (defs := defs₀ (F := F)) 𝒱₀ (c : Thread nD τ) none (Set.univ : Set ℕ) (m := Memref.whole cc0_scratch5) (r := r) (hl := hl) (k := k) (Q := Q)
    (S := S) (q := fullShare) (f := f) (by rw [View.set_slice_whole]; exact hS)

theorem ld11 (c : Dev nD) (r : Rect S3x1024x1024) {hl} {α : Type}
    {k : (r.shape.Idx → Elt F .bf16) → Prog (TpuEff nD τ sig (Elt F) Λ₀ .tc) α} {Q : α → sProp 𝕄}
    {S : Finset S3x1024x1024.Idx} {f : Vec F S3x1024x1024 .bf16} (hS : r.set ⊆ S) :
    (((c : Thread nD τ).loc cc0_scratch6) ↦[S]{fullShare} f : sProp 𝕄)
      ⊢ iprop(((((c : Thread nD τ).loc cc0_scratch6) ↦[S]{fullShare} f) -∗ wpc c (k (fun x => f (r.emb x))) Q)
        -∗ wpc c (.op (.load (Memref.whole cc0_scratch6) r.toLoadRect hl) k) Q) :=
  wp_load_rect (defs := defs₀ (F := F)) 𝒱₀ (c : Thread nD τ) none (Set.univ : Set ℕ) (m := Memref.whole cc0_scratch6) (r := r) (hl := hl) (k := k) (Q := Q)
    (S := S) (q := fullShare) (f := f) (by rw [View.set_slice_whole]; exact hS)

theorem ld12 (c : Dev nD) (r : Rect S3x1024x1024) {hl} {α : Type}
    {k : (r.shape.Idx → Elt F .bf16) → Prog (TpuEff nD τ sig (Elt F) Λ₀ .tc) α} {Q : α → sProp 𝕄}
    {S : Finset S3x1024x1024.Idx} {f : Vec F S3x1024x1024 .bf16} (hS : r.set ⊆ S) :
    (((c : Thread nD τ).loc cc0_scratch7) ↦[S]{fullShare} f : sProp 𝕄)
      ⊢ iprop(((((c : Thread nD τ).loc cc0_scratch7) ↦[S]{fullShare} f) -∗ wpc c (k (fun x => f (r.emb x))) Q)
        -∗ wpc c (.op (.load (Memref.whole cc0_scratch7) r.toLoadRect hl) k) Q) :=
  wp_load_rect (defs := defs₀ (F := F)) 𝒱₀ (c : Thread nD τ) none (Set.univ : Set ℕ) (m := Memref.whole cc0_scratch7) (r := r) (hl := hl) (k := k) (Q := Q)
    (S := S) (q := fullShare) (f := f) (by rw [View.set_slice_whole]; exact hS)

theorem ld13 (c : Dev nD) (r : Rect S2x1024x2048) {hl} {α : Type}
    {k : (r.shape.Idx → Elt F .bf16) → Prog (TpuEff nD τ sig (Elt F) Λ₀ .tc) α} {Q : α → sProp 𝕄}
    {S : Finset S2x1024x2048.Idx} {f : Vec F S2x1024x2048 .bf16} (hS : r.set ⊆ S) :
    (((c : Thread nD τ).loc cc0_scratch8) ↦[S]{fullShare} f : sProp 𝕄)
      ⊢ iprop(((((c : Thread nD τ).loc cc0_scratch8) ↦[S]{fullShare} f) -∗ wpc c (k (fun x => f (r.emb x))) Q)
        -∗ wpc c (.op (.load (Memref.whole cc0_scratch8) r.toLoadRect hl) k) Q) :=
  wp_load_rect (defs := defs₀ (F := F)) 𝒱₀ (c : Thread nD τ) none (Set.univ : Set ℕ) (m := Memref.whole cc0_scratch8) (r := r) (hl := hl) (k := k) (Q := Q)
    (S := S) (q := fullShare) (f := f) (by rw [View.set_slice_whole]; exact hS)

theorem ld14 (c : Dev nD) (r : Rect S2x2048x1024) {hl} {α : Type}
    {k : (r.shape.Idx → Elt F .bf16) → Prog (TpuEff nD τ sig (Elt F) Λ₀ .tc) α} {Q : α → sProp 𝕄}
    {S : Finset S2x2048x1024.Idx} {f : Vec F S2x2048x1024 .bf16} (hS : r.set ⊆ S) :
    (((c : Thread nD τ).loc cc0_scratch9) ↦[S]{fullShare} f : sProp 𝕄)
      ⊢ iprop(((((c : Thread nD τ).loc cc0_scratch9) ↦[S]{fullShare} f) -∗ wpc c (k (fun x => f (r.emb x))) Q)
        -∗ wpc c (.op (.load (Memref.whole cc0_scratch9) r.toLoadRect hl) k) Q) :=
  wp_load_rect (defs := defs₀ (F := F)) 𝒱₀ (c : Thread nD τ) none (Set.univ : Set ℕ) (m := Memref.whole cc0_scratch9) (r := r) (hl := hl) (k := k) (Q := Q)
    (S := S) (q := fullShare) (f := f) (by rw [View.set_slice_whole]; exact hS)

/-! ## Stores -/

theorem stO (c : Dev nD) (r : Rect S2048x1024) {w : r.shape.Idx → Elt F .bf16} {hx hm} {α : Type}
    {k : PUnit → Prog (TpuEff nD τ sig (Elt F) Λ₀ .tc) α} {Q : α → sProp 𝕄}
    {S : Finset S2048x1024.Idx} {f : Vec F S2048x1024 .bf16} (hS : r.set ⊆ S) :
    (((c : Thread nD τ).loc cc0_stg2_0) ↦[S]{fullShare} f : sProp 𝕄)
      ⊢ iprop((∀ f' : Vec F S2048x1024 .bf16, ⌜(∀ y, f' (r.emb y) = w y) ∧ ∀ i, i ∉ r.set → f' i = f i⌝ -∗ (((c : Thread nD τ).loc cc0_stg2_0) ↦[S]{fullShare} f') -∗ wpc c (k ⟨⟩) Q)
        -∗ wpc c (.op (.store (Memref.whole cc0_stg2_0) r w Finset.univ hx hm) k) Q) := by
  iintro H Hk
  iapply (wp_store (defs := defs₀ (F := F)) 𝒱₀ (c : Thread nD τ) none (Set.univ : Set ℕ) (m := Memref.whole cc0_stg2_0) (r := r) (w := w) (Mk := Finset.univ) (hx := hx) (hm := hm) (k := k) (Q := Q)
    (S := S) (f := f) (by rw [setOn_access]; exact hS)) $$ H
  iintro H
  ihave Hk := Hk $$ %(((Memref.whole cc0_stg2_0).access r).write (Elt F) f w Finset.univ)
  iapply Hk $$ [] H
  ipureintro
  refine ⟨fun y => View.write_emb_of_mem (v := (Memref.whole cc0_stg2_0).access r) f w (Finset.mem_univ y), fun i hi => View.write_of_not_mem (v := (Memref.whole cc0_stg2_0).access r) f w Finset.univ ?_⟩
  rw [setOn_access]; exact hi

theorem st5 (c : Dev nD) (r : Rect S2048x16) {w : r.shape.Idx → Elt F .bf16} {hx hm} {α : Type}
    {k : PUnit → Prog (TpuEff nD τ sig (Elt F) Λ₀ .tc) α} {Q : α → sProp 𝕄}
    {S : Finset S2048x16.Idx} {f : Vec F S2048x16 .bf16} (hS : r.set ⊆ S) :
    (((c : Thread nD τ).loc cc0_scratch0) ↦[S]{fullShare} f : sProp 𝕄)
      ⊢ iprop((∀ f' : Vec F S2048x16 .bf16, ⌜(∀ y, f' (r.emb y) = w y) ∧ ∀ i, i ∉ r.set → f' i = f i⌝ -∗ (((c : Thread nD τ).loc cc0_scratch0) ↦[S]{fullShare} f') -∗ wpc c (k ⟨⟩) Q)
        -∗ wpc c (.op (.store (Memref.whole cc0_scratch0) r w Finset.univ hx hm) k) Q) := by
  iintro H Hk
  iapply (wp_store (defs := defs₀ (F := F)) 𝒱₀ (c : Thread nD τ) none (Set.univ : Set ℕ) (m := Memref.whole cc0_scratch0) (r := r) (w := w) (Mk := Finset.univ) (hx := hx) (hm := hm) (k := k) (Q := Q)
    (S := S) (f := f) (by rw [setOn_access]; exact hS)) $$ H
  iintro H
  ihave Hk := Hk $$ %(((Memref.whole cc0_scratch0).access r).write (Elt F) f w Finset.univ)
  iapply Hk $$ [] H
  ipureintro
  refine ⟨fun y => View.write_emb_of_mem (v := (Memref.whole cc0_scratch0).access r) f w (Finset.mem_univ y), fun i hi => View.write_of_not_mem (v := (Memref.whole cc0_scratch0).access r) f w Finset.univ ?_⟩
  rw [setOn_access]; exact hi

theorem st6 (c : Dev nD) (r : Rect S2048x16) {w : r.shape.Idx → Elt F .bf16} {hx hm} {α : Type}
    {k : PUnit → Prog (TpuEff nD τ sig (Elt F) Λ₀ .tc) α} {Q : α → sProp 𝕄}
    {S : Finset S2048x16.Idx} {f : Vec F S2048x16 .bf16} (hS : r.set ⊆ S) :
    (((c : Thread nD τ).loc cc0_scratch1) ↦[S]{fullShare} f : sProp 𝕄)
      ⊢ iprop((∀ f' : Vec F S2048x16 .bf16, ⌜(∀ y, f' (r.emb y) = w y) ∧ ∀ i, i ∉ r.set → f' i = f i⌝ -∗ (((c : Thread nD τ).loc cc0_scratch1) ↦[S]{fullShare} f') -∗ wpc c (k ⟨⟩) Q)
        -∗ wpc c (.op (.store (Memref.whole cc0_scratch1) r w Finset.univ hx hm) k) Q) := by
  iintro H Hk
  iapply (wp_store (defs := defs₀ (F := F)) 𝒱₀ (c : Thread nD τ) none (Set.univ : Set ℕ) (m := Memref.whole cc0_scratch1) (r := r) (w := w) (Mk := Finset.univ) (hx := hx) (hm := hm) (k := k) (Q := Q)
    (S := S) (f := f) (by rw [setOn_access]; exact hS)) $$ H
  iintro H
  ihave Hk := Hk $$ %(((Memref.whole cc0_scratch1).access r).write (Elt F) f w Finset.univ)
  iapply Hk $$ [] H
  ipureintro
  refine ⟨fun y => View.write_emb_of_mem (v := (Memref.whole cc0_scratch1).access r) f w (Finset.mem_univ y), fun i hi => View.write_of_not_mem (v := (Memref.whole cc0_scratch1).access r) f w Finset.univ ?_⟩
  rw [setOn_access]; exact hi

theorem st7 (c : Dev nD) (r : Rect S3x1024x1024) {w : r.shape.Idx → Elt F .bf16} {hx hm} {α : Type}
    {k : PUnit → Prog (TpuEff nD τ sig (Elt F) Λ₀ .tc) α} {Q : α → sProp 𝕄}
    {S : Finset S3x1024x1024.Idx} {f : Vec F S3x1024x1024 .bf16} (hS : r.set ⊆ S) :
    (((c : Thread nD τ).loc cc0_scratch2) ↦[S]{fullShare} f : sProp 𝕄)
      ⊢ iprop((∀ f' : Vec F S3x1024x1024 .bf16, ⌜(∀ y, f' (r.emb y) = w y) ∧ ∀ i, i ∉ r.set → f' i = f i⌝ -∗ (((c : Thread nD τ).loc cc0_scratch2) ↦[S]{fullShare} f') -∗ wpc c (k ⟨⟩) Q)
        -∗ wpc c (.op (.store (Memref.whole cc0_scratch2) r w Finset.univ hx hm) k) Q) := by
  iintro H Hk
  iapply (wp_store (defs := defs₀ (F := F)) 𝒱₀ (c : Thread nD τ) none (Set.univ : Set ℕ) (m := Memref.whole cc0_scratch2) (r := r) (w := w) (Mk := Finset.univ) (hx := hx) (hm := hm) (k := k) (Q := Q)
    (S := S) (f := f) (by rw [setOn_access]; exact hS)) $$ H
  iintro H
  ihave Hk := Hk $$ %(((Memref.whole cc0_scratch2).access r).write (Elt F) f w Finset.univ)
  iapply Hk $$ [] H
  ipureintro
  refine ⟨fun y => View.write_emb_of_mem (v := (Memref.whole cc0_scratch2).access r) f w (Finset.mem_univ y), fun i hi => View.write_of_not_mem (v := (Memref.whole cc0_scratch2).access r) f w Finset.univ ?_⟩
  rw [setOn_access]; exact hi

theorem st9 (c : Dev nD) (r : Rect S1024x1024) {w : r.shape.Idx → Elt F .bf16} {hx hm} {α : Type}
    {k : PUnit → Prog (TpuEff nD τ sig (Elt F) Λ₀ .tc) α} {Q : α → sProp 𝕄}
    {S : Finset S1024x1024.Idx} {f : Vec F S1024x1024 .bf16} (hS : r.set ⊆ S) :
    (((c : Thread nD τ).loc cc0_scratch4) ↦[S]{fullShare} f : sProp 𝕄)
      ⊢ iprop((∀ f' : Vec F S1024x1024 .bf16, ⌜(∀ y, f' (r.emb y) = w y) ∧ ∀ i, i ∉ r.set → f' i = f i⌝ -∗ (((c : Thread nD τ).loc cc0_scratch4) ↦[S]{fullShare} f') -∗ wpc c (k ⟨⟩) Q)
        -∗ wpc c (.op (.store (Memref.whole cc0_scratch4) r w Finset.univ hx hm) k) Q) := by
  iintro H Hk
  iapply (wp_store (defs := defs₀ (F := F)) 𝒱₀ (c : Thread nD τ) none (Set.univ : Set ℕ) (m := Memref.whole cc0_scratch4) (r := r) (w := w) (Mk := Finset.univ) (hx := hx) (hm := hm) (k := k) (Q := Q)
    (S := S) (f := f) (by rw [setOn_access]; exact hS)) $$ H
  iintro H
  ihave Hk := Hk $$ %(((Memref.whole cc0_scratch4).access r).write (Elt F) f w Finset.univ)
  iapply Hk $$ [] H
  ipureintro
  refine ⟨fun y => View.write_emb_of_mem (v := (Memref.whole cc0_scratch4).access r) f w (Finset.mem_univ y), fun i hi => View.write_of_not_mem (v := (Memref.whole cc0_scratch4).access r) f w Finset.univ ?_⟩
  rw [setOn_access]; exact hi

theorem st10 (c : Dev nD) (r : Rect S1024x1024) {w : r.shape.Idx → Elt F .bf16} {hx hm} {α : Type}
    {k : PUnit → Prog (TpuEff nD τ sig (Elt F) Λ₀ .tc) α} {Q : α → sProp 𝕄}
    {S : Finset S1024x1024.Idx} {f : Vec F S1024x1024 .bf16} (hS : r.set ⊆ S) :
    (((c : Thread nD τ).loc cc0_scratch5) ↦[S]{fullShare} f : sProp 𝕄)
      ⊢ iprop((∀ f' : Vec F S1024x1024 .bf16, ⌜(∀ y, f' (r.emb y) = w y) ∧ ∀ i, i ∉ r.set → f' i = f i⌝ -∗ (((c : Thread nD τ).loc cc0_scratch5) ↦[S]{fullShare} f') -∗ wpc c (k ⟨⟩) Q)
        -∗ wpc c (.op (.store (Memref.whole cc0_scratch5) r w Finset.univ hx hm) k) Q) := by
  iintro H Hk
  iapply (wp_store (defs := defs₀ (F := F)) 𝒱₀ (c : Thread nD τ) none (Set.univ : Set ℕ) (m := Memref.whole cc0_scratch5) (r := r) (w := w) (Mk := Finset.univ) (hx := hx) (hm := hm) (k := k) (Q := Q)
    (S := S) (f := f) (by rw [setOn_access]; exact hS)) $$ H
  iintro H
  ihave Hk := Hk $$ %(((Memref.whole cc0_scratch5).access r).write (Elt F) f w Finset.univ)
  iapply Hk $$ [] H
  ipureintro
  refine ⟨fun y => View.write_emb_of_mem (v := (Memref.whole cc0_scratch5).access r) f w (Finset.mem_univ y), fun i hi => View.write_of_not_mem (v := (Memref.whole cc0_scratch5).access r) f w Finset.univ ?_⟩
  rw [setOn_access]; exact hi

theorem st11 (c : Dev nD) (r : Rect S3x1024x1024) {w : r.shape.Idx → Elt F .bf16} {hx hm} {α : Type}
    {k : PUnit → Prog (TpuEff nD τ sig (Elt F) Λ₀ .tc) α} {Q : α → sProp 𝕄}
    {S : Finset S3x1024x1024.Idx} {f : Vec F S3x1024x1024 .bf16} (hS : r.set ⊆ S) :
    (((c : Thread nD τ).loc cc0_scratch6) ↦[S]{fullShare} f : sProp 𝕄)
      ⊢ iprop((∀ f' : Vec F S3x1024x1024 .bf16, ⌜(∀ y, f' (r.emb y) = w y) ∧ ∀ i, i ∉ r.set → f' i = f i⌝ -∗ (((c : Thread nD τ).loc cc0_scratch6) ↦[S]{fullShare} f') -∗ wpc c (k ⟨⟩) Q)
        -∗ wpc c (.op (.store (Memref.whole cc0_scratch6) r w Finset.univ hx hm) k) Q) := by
  iintro H Hk
  iapply (wp_store (defs := defs₀ (F := F)) 𝒱₀ (c : Thread nD τ) none (Set.univ : Set ℕ) (m := Memref.whole cc0_scratch6) (r := r) (w := w) (Mk := Finset.univ) (hx := hx) (hm := hm) (k := k) (Q := Q)
    (S := S) (f := f) (by rw [setOn_access]; exact hS)) $$ H
  iintro H
  ihave Hk := Hk $$ %(((Memref.whole cc0_scratch6).access r).write (Elt F) f w Finset.univ)
  iapply Hk $$ [] H
  ipureintro
  refine ⟨fun y => View.write_emb_of_mem (v := (Memref.whole cc0_scratch6).access r) f w (Finset.mem_univ y), fun i hi => View.write_of_not_mem (v := (Memref.whole cc0_scratch6).access r) f w Finset.univ ?_⟩
  rw [setOn_access]; exact hi

end Cert.KernelIdeal.Moe
-- ==== Proof.KernelIdeal.Rules.lean ====
/-
The rules the body is executed by: the local weight copies, the remote copies and the waits.
-/
module

public import proofs.«01_k».proof.Proof.KernelIdeal.Mem
public import Idealize.ShloMosaic.Lib.Transfers

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Elements by first coordinate -/

theorem mem_slotSet {j : ℕ} {i : S3x1024x1024.Idx} : i ∈ slotSet j ↔ (i 0).val = j := by simp [slotSet]

theorem slot_sub (j t : ℕ) (off : Fin 3 → ℕ) (hoff : off = ![j, 256 * t, 0]) (inb) :
    (Rect.unit (s := S3x1024x1024) off S1x256x1024.size inb).set ⊆ slotSet j := by
  subst hoff
  intro i hi
  rw [Rect.mem_set_unit] at hi
  rw [mem_slotSet]
  have h0 : j ≤ (i 0).val ∧ (i 0).val < j + 1 := hi 0
  omega

theorem lvS_w (n : ℕ) (h : n < 19) (h' : 15 ≤ n) : lvS (.dma (dq n h)) = 0 := by
  show (if n < 6 then 0 else if n < 9 then 2 else if n < 12 then 0 else if n < 15 then 3 else 0) = 0
  rw [if_neg (by omega), if_neg (by omega), if_neg (by omega), if_neg (by omega)]

/-! ## Resources -/

/-- A DMA semaphore of the device at zero. -/
def z (c : Dev nD) (n : ℕ) (h : n < 19 := by decide) : sProp 𝕄 := semVal (dcell c n h) 0

/-! ## The cells' records -/

/-- Every cell's invariant and that it has reached round 0, with the levels. -/
def recs (K : Dev nD × Fin 13 → ℕ) : sProp 𝕄 :=
  iprop((bigSep Finset.univ fun ck : Dev nD × Fin 13 => iprop(cellInv ER (moeRd m ρ) (K ck) (kcell ck) ∗ reached ER (kcell ck) 0)) ∗ levAts L lv)
instance recs_persistent (K : Dev nD × Fin 13 → ℕ) : BI.Persistent (recs m ρ K) := by unfold recs; infer_instance

variable (K : Dev nD × Fin 13 → ℕ)

theorem recs_lev : recs m ρ K ⊢ levAts L lv := by
  unfold recs; iintro ⟨-, H⟩; iexact H
theorem recs_may (c : Dev nD) (sm : SemLoc sig) {O : CellTallies nD τ sig Unit} (h : Above (lvS sm) O) : recs m ρ K ⊢ MayWait (c : Thread nD τ) sm () O := by
  unfold recs
  iintro ⟨-, H⟩
  iapply (mayWait c sm h) $$ H
theorem recs_at (ck : Dev nD × Fin 13) : recs m ρ K ⊢ iprop(cellInv ER (moeRd m ρ) (K ck) (kcell ck) ∗ reached ER (kcell ck) 0) := by
  have h := bigSep_elim (M := MT nD τ sig Unit (Elt F) ℕ UU ℕ) (Φ := fun ck : Dev nD × Fin 13 => iprop(cellInv ER (moeRd m ρ) (K ck) (kcell ck) ∗ reached ER (kcell ck) 0)) (Finset.mem_univ ck)
  unfold recs
  exact BI.Entails.trans BI.sep_and (BI.Entails.trans and_elimL h)
theorem recs_bar (c : Dev nD) : recs m ρ K ⊢ iprop(cellInv ER (moeRd m ρ) (K (c, 0)) (barCell c) ∗ reached ER (barCell c) 0) :=
  recs_at m ρ K (c, 0)
set_option backward.proofsInPublic true in
abbrev kx (n : ℕ) (h : n < 15) : Fin 13 := ⟨n - 2, by omega⟩
theorem kcell_x (c : Dev nD) (n : ℕ) (h3 : 3 ≤ n) (h15 : n < 15) : kcell (c, kx n h15) = dcell c n (by omega) := by
  show ((c : Thread nD τ), csem (kx n h15)) = _
  have h : csem (kx n h15) = .dma (dq n (by omega)) := by
    show (if kx n h15 = 0 then SemLoc.reg barS else .dma (dq ((kx n h15).val + 2) _)) = _
    rw [if_neg (fun h => by have := congrArg Fin.val h; simp [kx] at this; omega)]
    congr 2; simp [kx]; omega
  rw [h]
theorem recs_x (c : Dev nD) (n : ℕ) (h3 : 3 ≤ n) (h15 : n < 15) :
    recs m ρ K ⊢ iprop(cellInv ER (moeRd m ρ) (K (c, kx n h15)) (dcell c n (by omega)) ∗ reached ER (dcell c n (by omega)) 0) := by
  have h := recs_at m ρ K (c, kx n h15)
  rwa [kcell_x c n h3 h15] at h

/-- Expert `e`'s matrix of the weights `W1`, in the device's HBM. -/
def q1 (c : Dev nD) (e : ℕ) : sProp 𝕄 := ((c : Thread nD τ).loc main_arg2) ↦[fib 4 1024 2048 e]{fullShare} W1 m c
/-- Slot `s` of the weights' buffer. -/
def w1 (c : Dev nD) (s : ℕ) (f : Vec F S2x1024x2048 .bf16) : sProp 𝕄 := ((c : Thread nD τ).loc cc0_scratch8) ↦[fib 2 1024 2048 s]{fullShare} f
/-- A slot holding expert `e`'s matrix. -/
def WB1 (c : Dev nD) (e : ℕ) : Vec F S2x1024x2048 .bf16 := fun i => W1 m c (ix3 (md 4 e) (i 1) (i 2))
def N1 : ℕ := (((Memref.whole cc0_scratch8 : Memref sig .tc .vmem S2x1024x2048 .bf16).slice (Rect.unit (s := S2x1024x2048) ![0, 0, 0] S1x1024x2048.size inb_S2x1024x2048_S1x1024x2048_0_0_0) (fun _ => rfl)).squeeze S1024x2048 squeezes_S1x1024x2048_S1024x2048).view.dmaCredit
/-- The copy of expert `e`'s matrix into slot `s`, in flight. -/
def fl1 (c : Dev nD) (s e : ℕ) (h : 15 + s < 19 := by decide) : sProp 𝕄 := Transfers.Flight EC (c : Thread nD τ) (.dma (dq (15 + s) h)) () N1 iprop(w1 c s (WB1 m c e) ∗ q1 m c e)

theorem start1 (c : Dev nD) (s e : ℕ) (hs : s < 2) (he : e < 4) {inbs inbe} {sm : DmaSem sig} (hsm : sm = dq (15 + s) (by omega)) {h1 h2 h3} {α : Type}
    {k : PUnit → Prog (TpuEff nD τ sig (Elt F) Λ₀ .tc) α} {Q : α → sProp 𝕄} :
    iprop(q1 m c e ∗ (∃ f, w1 c s f) ∗ z c (15 + s) (by omega))
      ⊢ iprop((fl1 m c s e (by omega) -∗ wpc c (k ⟨⟩) Q)
        -∗ wpc c (.op (.enqueueDmaAs
            (((Memref.whole main_arg2 : Memref sig .tc .hbm S4x1024x2048 .bf16).slice (Rect.unit (s := S4x1024x2048) ![e, 0, 0] S1x1024x2048.size inbe) (fun _ => rfl)).squeeze S1024x2048 squeezes_S1x1024x2048_S1024x2048)
            (.here (((Memref.whole cc0_scratch8 : Memref sig .tc .vmem S2x1024x2048 .bf16).slice (Rect.unit (s := S2x1024x2048) ![s, 0, 0] S1x1024x2048.size inbs) (fun _ => rfl)).squeeze S1024x2048 squeezes_S1x1024x2048_S1024x2048))
            .same (.dma sm) h1 h2 h3) k) Q) := by
  subst hsm
  have hset : ((((Memref.whole cc0_scratch8 : Memref sig .tc .vmem S2x1024x2048 .bf16).slice (Rect.unit (s := S2x1024x2048) ![s, 0, 0] S1x1024x2048.size inbs) (fun _ => rfl)).squeeze S1024x2048 squeezes_S1x1024x2048_S1024x2048).view).set = fib 2 1024 2048 s :=
    (View.set_reshape _ _).trans ((View.set_slice_whole cc0_scratch8 _).trans (fib_set 2 1024 2048 s inbs))
  have hset' : ((((Memref.whole main_arg2 : Memref sig .tc .hbm S4x1024x2048 .bf16).slice (Rect.unit (s := S4x1024x2048) ![e, 0, 0] S1x1024x2048.size inbe) (fun _ => rfl)).squeeze S1024x2048 squeezes_S1x1024x2048_S1024x2048).view).set = fib 4 1024 2048 e :=
    (View.set_reshape _ _).trans ((View.set_slice_whole main_arg2 _).trans (fib_set 4 1024 2048 e inbe))
  iintro ⟨Hs, ⟨%f, Hd⟩, Hz⟩ Hk
  iapply (Transfers.wp_dmaLocal (defs := defs₀ (F := F)) EC 𝒱₀ (c : Thread nD τ) none
    (src := ((Memref.whole main_arg2 : Memref sig .tc .hbm S4x1024x2048 .bf16).slice (Rect.unit (s := S4x1024x2048) ![e, 0, 0] S1x1024x2048.size inbe) (fun _ => rfl)).squeeze S1024x2048 squeezes_S1x1024x2048_S1024x2048)
    (dst := ((Memref.whole cc0_scratch8 : Memref sig .tc .vmem S2x1024x2048 .bf16).slice (Rect.unit (s := S2x1024x2048) ![s, 0, 0] S1x1024x2048.size inbs) (fun _ => rfl)).squeeze S1024x2048 squeezes_S1x1024x2048_S1024x2048)
    (via := .same)
    (fs := W1 m c) (fd := f) (Sd := fib 2 1024 2048 s) (q := fullShare) () N1 rfl (View.dmaCredit_pos _ (by decide)) (le_of_eq hset)) $$ [Hs Hd Hz]
  · isplitl [Hs]; · rw [hset']; unfold q1; iexact Hs
    isplitl [Hd]; · unfold w1; iexact Hd
    unfold z; iexact Hz
  iintro Hf
  iapply Hk
  unfold fl1
  iapply (Transfers.Flight_mono EC (c : Thread nD τ) (?_)) $$ Hf
  unfold w1 q1
  refine BI.sep_mono ?_ ?_
  · refine Entails.of_eq (pointsTo_congr fun i hi => ?_)
    rw [← hset] at hi
    obtain ⟨y, -, rfl⟩ := Finset.mem_map.mp hi
    refine (View.write_emb_of_mem _ _ (Finset.mem_univ y)).trans ?_
    show W1 m c ((Rect.unit (s := S4x1024x2048) ![e, 0, 0] S1x1024x2048.size inbe).emb (Shape.reshapeEquiv _ y))
      = W1 m c (ix3 (md 4 e) ((Rect.unit (s := S2x1024x2048) ![s, 0, 0] S1x1024x2048.size inbs).emb (Shape.reshapeEquiv _ y) 1) ((Rect.unit (s := S2x1024x2048) ![s, 0, 0] S1x1024x2048.size inbs).emb (Shape.reshapeEquiv _ y) 2))
    generalize (Shape.reshapeEquiv _ y : S1x1024x2048.Idx) = x
    rw [emb_slot (J := 2) (R := 1024) (N := 2048) (n := 1024) (by decide) (by decide) ![s, 0, 0] s 0 rfl inbs x, emb_slot (J := 4) (R := 1024) (N := 2048) (n := 1024) (by decide) (by decide) ![e, 0, 0] e 0 rfl inbe x]
    rfl
  · rw [hset']; exact BI.Entails.refl _

theorem wait1 (c : Dev nD) (s e : ℕ) (hs : s < 2) {O : CellTallies nD τ sig Unit} (hO : Above 0 O) {sm : DmaSem sig} (hsm : sm = dq (15 + s) (by omega))
    {b : Ref sig .tc} {sh : Shape} {el : EltTy} {hk} (hN : b.dmaCredit sh el = N1) {α : Type}
    {k : PUnit → Prog (TpuEff nD τ sig (Elt F) Λ₀ .tc) α} {Q : α → sProp 𝕄} :
    iprop(recs m ρ K ∗ fl1 m c s e (by omega) ∗ owesE c O)
      ⊢ iprop(((w1 c s (WB1 m c e) ∗ q1 m c e ∗ z c (15 + s) (by omega) ∗ owesE c O) -∗ wpc c (k ⟨⟩) Q)
        -∗ wpc c (.op (.waitDma sm b sh el hk) k) Q) := by
  subst hsm
  unfold fl1 z owesE
  iintro ⟨#Hr, Hf, ⟨%W, HO⟩⟩ Hk
  iapply (Transfers.wp_waitLocalOSized (defs := defs₀ (F := F)) EC 𝒱₀ (c : Thread nD τ) none () hN) $$ [Hf HO]
  · isplitl [Hf]; · iexact Hf
    isplitl [HO]; · iexact HO
    iapply (recs_may m ρ K c _ (O := O) (by rw [lvS_w (15 + s) (by omega) (by omega)]; exact hO)) $$ Hr
  iintro ⟨⟨Hw, Hq⟩, Hv, HO⟩
  iapply Hk
  isplitl [Hw]; · iexact Hw
  isplitl [Hq]; · iexact Hq
  isplitl [Hv]; · iexact Hv
  iexists _; iexact HO

/-- Expert `e`'s matrix of the weights `W2`, in the device's HBM. -/
def q2 (c : Dev nD) (e : ℕ) : sProp 𝕄 := ((c : Thread nD τ).loc main_arg3) ↦[fib 4 2048 1024 e]{fullShare} W2 m c
/-- Slot `s` of the weights' buffer. -/
def w2 (c : Dev nD) (s : ℕ) (f : Vec F S2x2048x1024 .bf16) : sProp 𝕄 := ((c : Thread nD τ).loc cc0_scratch9) ↦[fib 2 2048 1024 s]{fullShare} f
/-- A slot holding expert `e`'s matrix. -/
def WB2 (c : Dev nD) (e : ℕ) : Vec F S2x2048x1024 .bf16 := fun i => W2 m c (ix3 (md 4 e) (i 1) (i 2))
def N2 : ℕ := (((Memref.whole cc0_scratch9 : Memref sig .tc .vmem S2x2048x1024 .bf16).slice (Rect.unit (s := S2x2048x1024) ![0, 0, 0] S1x2048x1024.size inb_S2x2048x1024_S1x2048x1024_0_0_0) (fun _ => rfl)).squeeze S2048x1024 squeezes_S1x2048x1024_S2048x1024).view.dmaCredit
/-- The copy of expert `e`'s matrix into slot `s`, in flight. -/
def fl2 (c : Dev nD) (s e : ℕ) (h : 17 + s < 19 := by decide) : sProp 𝕄 := Transfers.Flight EC (c : Thread nD τ) (.dma (dq (17 + s) h)) () N2 iprop(w2 c s (WB2 m c e) ∗ q2 m c e)

theorem start2 (c : Dev nD) (s e : ℕ) (hs : s < 2) (he : e < 4) {inbs inbe} {sm : DmaSem sig} (hsm : sm = dq (17 + s) (by omega)) {h1 h2 h3} {α : Type}
    {k : PUnit → Prog (TpuEff nD τ sig (Elt F) Λ₀ .tc) α} {Q : α → sProp 𝕄} :
    iprop(q2 m c e ∗ (∃ f, w2 c s f) ∗ z c (17 + s) (by omega))
      ⊢ iprop((fl2 m c s e (by omega) -∗ wpc c (k ⟨⟩) Q)
        -∗ wpc c (.op (.enqueueDmaAs
            (((Memref.whole main_arg3 : Memref sig .tc .hbm S4x2048x1024 .bf16).slice (Rect.unit (s := S4x2048x1024) ![e, 0, 0] S1x2048x1024.size inbe) (fun _ => rfl)).squeeze S2048x1024 squeezes_S1x2048x1024_S2048x1024)
            (.here (((Memref.whole cc0_scratch9 : Memref sig .tc .vmem S2x2048x1024 .bf16).slice (Rect.unit (s := S2x2048x1024) ![s, 0, 0] S1x2048x1024.size inbs) (fun _ => rfl)).squeeze S2048x1024 squeezes_S1x2048x1024_S2048x1024))
            .same (.dma sm) h1 h2 h3) k) Q) := by
  subst hsm
  have hset : ((((Memref.whole cc0_scratch9 : Memref sig .tc .vmem S2x2048x1024 .bf16).slice (Rect.unit (s := S2x2048x1024) ![s, 0, 0] S1x2048x1024.size inbs) (fun _ => rfl)).squeeze S2048x1024 squeezes_S1x2048x1024_S2048x1024).view).set = fib 2 2048 1024 s :=
    (View.set_reshape _ _).trans ((View.set_slice_whole cc0_scratch9 _).trans (fib_set 2 2048 1024 s inbs))
  have hset' : ((((Memref.whole main_arg3 : Memref sig .tc .hbm S4x2048x1024 .bf16).slice (Rect.unit (s := S4x2048x1024) ![e, 0, 0] S1x2048x1024.size inbe) (fun _ => rfl)).squeeze S2048x1024 squeezes_S1x2048x1024_S2048x1024).view).set = fib 4 2048 1024 e :=
    (View.set_reshape _ _).trans ((View.set_slice_whole main_arg3 _).trans (fib_set 4 2048 1024 e inbe))
  iintro ⟨Hs, ⟨%f, Hd⟩, Hz⟩ Hk
  iapply (Transfers.wp_dmaLocal (defs := defs₀ (F := F)) EC 𝒱₀ (c : Thread nD τ) none
    (src := ((Memref.whole main_arg3 : Memref sig .tc .hbm S4x2048x1024 .bf16).slice (Rect.unit (s := S4x2048x1024) ![e, 0, 0] S1x2048x1024.size inbe) (fun _ => rfl)).squeeze S2048x1024 squeezes_S1x2048x1024_S2048x1024)
    (dst := ((Memref.whole cc0_scratch9 : Memref sig .tc .vmem S2x2048x1024 .bf16).slice (Rect.unit (s := S2x2048x1024) ![s, 0, 0] S1x2048x1024.size inbs) (fun _ => rfl)).squeeze S2048x1024 squeezes_S1x2048x1024_S2048x1024)
    (via := .same)
    (fs := W2 m c) (fd := f) (Sd := fib 2 2048 1024 s) (q := fullShare) () N2 rfl (View.dmaCredit_pos _ (by decide)) (le_of_eq hset)) $$ [Hs Hd Hz]
  · isplitl [Hs]; · rw [hset']; unfold q2; iexact Hs
    isplitl [Hd]; · unfold w2; iexact Hd
    unfold z; iexact Hz
  iintro Hf
  iapply Hk
  unfold fl2
  iapply (Transfers.Flight_mono EC (c : Thread nD τ) (?_)) $$ Hf
  unfold w2 q2
  refine BI.sep_mono ?_ ?_
  · refine Entails.of_eq (pointsTo_congr fun i hi => ?_)
    rw [← hset] at hi
    obtain ⟨y, -, rfl⟩ := Finset.mem_map.mp hi
    refine (View.write_emb_of_mem _ _ (Finset.mem_univ y)).trans ?_
    show W2 m c ((Rect.unit (s := S4x2048x1024) ![e, 0, 0] S1x2048x1024.size inbe).emb (Shape.reshapeEquiv _ y))
      = W2 m c (ix3 (md 4 e) ((Rect.unit (s := S2x2048x1024) ![s, 0, 0] S1x2048x1024.size inbs).emb (Shape.reshapeEquiv _ y) 1) ((Rect.unit (s := S2x2048x1024) ![s, 0, 0] S1x2048x1024.size inbs).emb (Shape.reshapeEquiv _ y) 2))
    generalize (Shape.reshapeEquiv _ y : S1x2048x1024.Idx) = x
    rw [emb_slot (J := 2) (R := 2048) (N := 1024) (n := 2048) (by decide) (by decide) ![s, 0, 0] s 0 rfl inbs x, emb_slot (J := 4) (R := 2048) (N := 1024) (n := 2048) (by decide) (by decide) ![e, 0, 0] e 0 rfl inbe x]
    rfl
  · rw [hset']; exact BI.Entails.refl _

theorem wait2 (c : Dev nD) (s e : ℕ) (hs : s < 2) {O : CellTallies nD τ sig Unit} (hO : Above 0 O) {sm : DmaSem sig} (hsm : sm = dq (17 + s) (by omega))
    {b : Ref sig .tc} {sh : Shape} {el : EltTy} {hk} (hN : b.dmaCredit sh el = N2) {α : Type}
    {k : PUnit → Prog (TpuEff nD τ sig (Elt F) Λ₀ .tc) α} {Q : α → sProp 𝕄} :
    iprop(recs m ρ K ∗ fl2 m c s e (by omega) ∗ owesE c O)
      ⊢ iprop(((w2 c s (WB2 m c e) ∗ q2 m c e ∗ z c (17 + s) (by omega) ∗ owesE c O) -∗ wpc c (k ⟨⟩) Q)
        -∗ wpc c (.op (.waitDma sm b sh el hk) k) Q) := by
  subst hsm
  unfold fl2 z owesE
  iintro ⟨#Hr, Hf, ⟨%W, HO⟩⟩ Hk
  iapply (Transfers.wp_waitLocalOSized (defs := defs₀ (F := F)) EC 𝒱₀ (c : Thread nD τ) none () hN) $$ [Hf HO]
  · isplitl [Hf]; · iexact Hf
    isplitl [HO]; · iexact HO
    iapply (recs_may m ρ K c _ (O := O) (by rw [lvS_w (17 + s) (by omega) (by omega)]; exact hO)) $$ Hr
  iintro ⟨⟨Hw, Hq⟩, Hv, HO⟩
  iapply Hk
  isplitl [Hw]; · iexact Hw
  isplitl [Hq]; · iexact Hq
  isplitl [Hv]; · iexact Hv
  iexists _; iexact HO

/-- The right to wait for one's own cell `n`. -/
def wt (c : Dev nD) (n : ℕ) (h : n < 19 := by decide) : sProp 𝕄 := iprop(cred (tallyAt (dcell c n h) () NB) ∗ atPos ER (dcell c n h) 0 ∅ 0)

theorem waitX (c : Dev nD) (n : ℕ) (h3 : 3 ≤ n) (h15 : n < 15) {O : CellTallies nD τ sig Unit} (hO : Above (lvS (.dma (dq n (by omega)))) O)
    {sm : DmaSem sig} (hsm : sm = dq n (by omega)) {b : Ref sig .tc} {sh : Shape} {el : EltTy} {hk} (hN : b.dmaCredit sh el = NB) {α : Type}
    {k : PUnit → Prog (TpuEff nD τ sig (Elt F) Λ₀ .tc) α} {Q : α → sProp 𝕄} :
    iprop(recs m ρ K ∗ wt c n (by omega) ∗ owesE c O)
      ⊢ iprop(((xferPay m ρ c n ∗ z c n (by omega) ∗ owesE c O) -∗ wpc c (k ⟨⟩) Q)
        -∗ wpc c (.op (.waitDma sm b sh el hk) k) Q) := by
  subst hsm
  unfold wt z owesE
  iintro ⟨#Hr, ⟨Hcred, Hat⟩, ⟨%W, HO⟩⟩ Hk
  ihave Hx := (recs_x m ρ K c n h3 h15) $$ Hr
  icases Hx with ⟨#Hinv, -⟩
  iapply (Rounds.wp_wait_rest_token (defs := defs₀ (F := F)) 𝒱₀ ER (moeRd m ρ) (c : Thread nD τ) none (κ := K (c, kx n h15))
      (wpE_waitDma_eq 𝒱₀ (c : Thread nD τ) none Set.univ) (Set.mem_univ _) () (O := O) (W := W) (R := 0) (m := 0) (T := ∅)
      (by rw [Nat.zero_add, expect_xfer m ρ c n (by omega) h3 h15, hN])) $$ [Hcred HO Hat]
  · isplitr; · iexact Hinv
    isplitl [Hcred]; · rw [hN]; iexact Hcred
    isplitl [HO]; · iexact HO
    isplitr
    · iapply (recs_may m ρ K c (.dma (dq n _)) (O := O) hO) $$ Hr
    iexact Hat
  iintro ⟨HO, Hat, -, Hpay⟩
  ihave Hp := (Entails.of_eq (rest_xfer m ρ c n _ h3 h15)) $$ Hpay
  imod (Rounds.cell_close ER (moeRd m ρ) (Set.mem_univ (K (c, kx n h15))) (fun h => h) (R := 0 + 1) (duties_later m ρ (dcell c n (by omega)))) $$ [Hat] with Hz
  · isplitr; · iexact Hinv
    iexact Hat
  iapply Hk
  isplitl [Hp]; · iexact Hp
  isplitl [Hz]; · iexact Hz
  iexists _; iexact HO

/-! ## The remote copies -/

/-- What sending slot `j` of the buckets takes besides the slots. -/
def tF (c : Dev nD) (j : ℕ) (hj : j < 3 := by decide) : sProp 𝕄 :=
  iprop(dutyTok ER (dcell c (3 + j) (by omega)) 0 0 ∗ dutyTok ER (dcell (dst j c) (6 + j) (by omega)) 0 0 ∗ atPos ER (dcell c (3 + j) (by omega)) 0 ∅ 0)

theorem sendF (c : Dev nD) (j : ℕ) (hj : j < 3) {n : Dev nD} (hn : n = dst j c) {O O' : CellTallies nD τ sig Unit} (hO : O' = O + tallyAt (dcell (dst j c) (6 + j) (by omega)) () NB)
    {inb1 inb2} {sS sR : DmaSem sig} (hsS : sS = dq (3 + j) (by omega)) (hsR : sR = dq (6 + j) (by omega)) {hsc} {h1 h2 h3} {α : Type}
    {k : PUnit → Prog (TpuEff nD τ sig (Elt F) Λ₀ .tc) α} {Q : α → sProp 𝕄} :
    iprop(recs m ρ K ∗ tF c j hj ∗ p7 c j (SendF m ρ c) ∗ (∃ f, p8 (dst j c) j f) ∗ owesE c O')
      ⊢ iprop(((wt c (3 + j) (by omega) ∗ owesE c O) -∗ wpc c (k ⟨⟩) Q)
        -∗ wpc c (.op (.enqueueDmaAs
            (((Memref.whole cc0_scratch2 : Memref sig .tc .vmem S3x1024x1024 .bf16).slice (Rect.unit (s := S3x1024x1024) ![j, 0, 0] S1x1024x1024.size inb1) (fun _ => rfl)).squeeze S1024x1024 squeezes_S1x1024x1024_S1024x1024)
            (.remote (Dev.tc n : Thread nD τ) (((Memref.whole cc0_scratch3 : Memref sig .tc .vmem S3x1024x1024 .bf16).slice (Rect.unit (s := S3x1024x1024) ![j, 0, 0] S1x1024x1024.size inb2) (fun _ => rfl)).squeeze S1024x1024 squeezes_S1x1024x1024_S1024x1024) (.dma sS) hsc)
            .same (.dma sR) h1 h2 h3) k) Q) := by
  subst hn; subst hsS; subst hsR
  have hs1 : ((((Memref.whole cc0_scratch2 : Memref sig .tc .vmem S3x1024x1024 .bf16).slice (Rect.unit (s := S3x1024x1024) ![j, 0, 0] S1x1024x1024.size inb1) (fun _ => rfl)).squeeze S1024x1024 squeezes_S1x1024x1024_S1024x1024).view).set = slotSet j :=
    (View.set_reshape _ _).trans ((View.set_slice_whole cc0_scratch2 _).trans (slotRect_set j hj))
  have hs2 : ((((Memref.whole cc0_scratch3 : Memref sig .tc .vmem S3x1024x1024 .bf16).slice (Rect.unit (s := S3x1024x1024) ![j, 0, 0] S1x1024x1024.size inb2) (fun _ => rfl)).squeeze S1024x1024 squeezes_S1x1024x1024_S1024x1024).view).set = slotSet j :=
    (View.set_reshape _ _).trans ((View.set_slice_whole cc0_scratch3 _).trans (slotRect_set j hj))
  unfold tF owesE
  iintro ⟨#Hr, ⟨Ht1, Ht2, Hat⟩, Hs, ⟨%fd, Hd⟩, ⟨%W, HO⟩⟩ Hk
  ihave Hx := (recs_x m ρ K c (3 + j) (by omega) (by omega)) $$ Hr
  icases Hx with ⟨#Hi1, #Hr1⟩
  ihave Hx := (recs_x m ρ K (dst j c) (6 + j) (by omega) (by omega)) $$ Hr
  icases Hx with ⟨#Hi2, #Hr2⟩
  iapply (Rounds.wp_send_pointsTo (defs := defs₀ (F := F)) 𝒱₀ ER (moeRd m ρ) (c : Thread nD τ) none (c' := (Dev.tc (dst j c) : Thread nD τ))
    (src := ((Memref.whole cc0_scratch2 : Memref sig .tc .vmem S3x1024x1024 .bf16).slice (Rect.unit (s := S3x1024x1024) ![j, 0, 0] S1x1024x1024.size inb1) (fun _ => rfl)).squeeze S1024x1024 squeezes_S1x1024x1024_S1024x1024)
    (dst := ((Memref.whole cc0_scratch3 : Memref sig .tc .vmem S3x1024x1024 .bf16).slice (Rect.unit (s := S3x1024x1024) ![j, 0, 0] S1x1024x1024.size inb2) (fun _ => rfl)).squeeze S1024x1024 squeezes_S1x1024x1024_S1024x1024)

    (κ₁ := K (c, kx (3 + j) _)) (κ₂ := K (dst j c, kx (6 + j) _))
    (r₁ := 0) (r₂ := 0) (d₁ := 0) (d₂ := 0) (fs := SendF m ρ c) (fd := fd) (q := fullShare)
    (by rw [duties_xfer m ρ c (3 + j) (by omega) (by omega) (by omega)]; exact Finset.mem_singleton_self _)
    (by rw [duties_xfer m ρ (dst j c) (6 + j) (by omega) (by omega) (by omega)]; exact Finset.mem_singleton_self _)
    () () NB rfl (amount_xfer m ρ c (3 + j) _ 0) (amount_xfer m ρ (dst j c) (6 + j) _ 0) O hO (W := W)
    (by
      rw [payload_xfer, xferPay_fs m ρ c j hj, hs1]; unfold p7; exact BI.Entails.refl _)
    (by
      rw [payload_xfer, xferPay_fr m ρ (dst j c) j hj, hs2]; unfold p8
      refine Entails.of_eq (pointsTo_congr fun i hi => ?_)
      rw [← hs2] at hi
      obtain ⟨y, -, rfl⟩ := Finset.mem_map.mp hi
      refine (View.write_emb_of_mem _ _ (Finset.mem_univ y)).trans ?_
      show SendF m ρ c ((slotRect j hj).emb (Shape.reshapeEquiv _ y)) = RecvF m ρ (dst j c) ((slotRect j hj).emb (Shape.reshapeEquiv _ y))
      generalize (Shape.reshapeEquiv _ y : S1x1024x1024.Idx) = x
      have hx : ((slotRect j hj).emb x 0).val = j := by
        have h : (slotRect j hj).emb x ∈ (slotRect j hj).set := by rw [← Rect.map_emb_univ]; exact Finset.mem_map_of_mem _ (Finset.mem_univ x)
        rw [slotRect_set] at h
        exact mem_slotSet.mp h
      unfold RecvF
      rw [hx, src_dst j hj])) $$ [Hs Hd HO Ht1 Ht2]
  · isplitr; · iexact Hi1
    isplitr; · iexact Hi2
    isplitl [Hs]; · rw [hs1]; unfold p7; iexact Hs
    isplitl [Hd]; · rw [hs2]; unfold p8; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc Hat]
  · unfold wt
    isplitl [Hc]; · iexact Hc
    iexact Hat
  iexists _; iexact HO

/-- What returning slot `j` of the results takes besides the slots. -/
def tR (c : Dev nD) (j : ℕ) (hj : j < 3 := by decide) : sProp 𝕄 :=
  iprop(dutyTok ER (dcell c (9 + j) (by omega)) 0 0 ∗ dutyTok ER (dcell (src j c) (12 + j) (by omega)) 0 0 ∗ atPos ER (dcell c (9 + j) (by omega)) 0 ∅ 0)

theorem sendR (c : Dev nD) (j : ℕ) (hj : j < 3) {n : Dev nD} (hn : n = src j c) {O O' : CellTallies nD τ sig Unit} (hO : O' = O + tallyAt (dcell (src j c) (12 + j) (by omega)) () NB)
    {inb1 inb2} {sS sR : DmaSem sig} (hsS : sS = dq (9 + j) (by omega)) (hsR : sR = dq (12 + j) (by omega)) {hsc} {h1 h2 h3} {α : Type}
    {k : PUnit → Prog (TpuEff nD τ sig (Elt F) Λ₀ .tc) α} {Q : α → sProp 𝕄} :
    iprop(recs m ρ K ∗ tR c j hj ∗ p11 c j (YRetF m ρ c) ∗ (∃ f, p12 (src j c) j f) ∗ owesE c O')
      ⊢ iprop(((wt c (9 + j) (by omega) ∗ owesE c O) -∗ wpc c (k ⟨⟩) Q)
        -∗ wpc c (.op (.enqueueDmaAs
            (((Memref.whole cc0_scratch6 : Memref sig .tc .vmem S3x1024x1024 .bf16).slice (Rect.unit (s := S3x1024x1024) ![j, 0, 0] S1x1024x1024.size inb1) (fun _ => rfl)).squeeze S1024x1024 squeezes_S1x1024x1024_S1024x1024)
            (.remote (Dev.tc n : Thread nD τ) (((Memref.whole cc0_scratch7 : Memref sig .tc .vmem S3x1024x1024 .bf16).slice (Rect.unit (s := S3x1024x1024) ![j, 0, 0] S1x1024x1024.size inb2) (fun _ => rfl)).squeeze S1024x1024 squeezes_S1x1024x1024_S1024x1024) (.dma sS) hsc)
            .same (.dma sR) h1 h2 h3) k) Q) := by
  subst hn; subst hsS; subst hsR
  have hs1 : ((((Memref.whole cc0_scratch6 : Memref sig .tc .vmem S3x1024x1024 .bf16).slice (Rect.unit (s := S3x1024x1024) ![j, 0, 0] S1x1024x1024.size inb1) (fun _ => rfl)).squeeze S1024x1024 squeezes_S1x1024x1024_S1024x1024).view).set = slotSet j :=
    (View.set_reshape _ _).trans ((View.set_slice_whole cc0_scratch6 _).trans (slotRect_set j hj))
  have hs2 : ((((Memref.whole cc0_scratch7 : Memref sig .tc .vmem S3x1024x1024 .bf16).slice (Rect.unit (s := S3x1024x1024) ![j, 0, 0] S1x1024x1024.size inb2) (fun _ => rfl)).squeeze S1024x1024 squeezes_S1x1024x1024_S1024x1024).view).set = slotSet j :=
    (View.set_reshape _ _).trans ((View.set_slice_whole cc0_scratch7 _).trans (slotRect_set j hj))
  unfold tR owesE
  iintro ⟨#Hr, ⟨Ht1, Ht2, Hat⟩, Hs, ⟨%fd, Hd⟩, ⟨%W, HO⟩⟩ Hk
  ihave Hx := (recs_x m ρ K c (9 + j) (by omega) (by omega)) $$ Hr
  icases Hx with ⟨#Hi1, #Hr1⟩
  ihave Hx := (recs_x m ρ K (src j c) (12 + j) (by omega) (by omega)) $$ Hr
  icases Hx with ⟨#Hi2, #Hr2⟩
  iapply (Rounds.wp_send_pointsTo (defs := defs₀ (F := F)) 𝒱₀ ER (moeRd m ρ) (c : Thread nD τ) none (c' := (Dev.tc (src j c) : Thread nD τ))
    (src := ((Memref.whole cc0_scratch6 : Memref sig .tc .vmem S3x1024x1024 .bf16).slice (Rect.unit (s := S3x1024x1024) ![j, 0, 0] S1x1024x1024.size inb1) (fun _ => rfl)).squeeze S1024x1024 squeezes_S1x1024x1024_S1024x1024)
    (dst := ((Memref.whole cc0_scratch7 : Memref sig .tc .vmem S3x1024x1024 .bf16).slice (Rect.unit (s := S3x1024x1024) ![j, 0, 0] S1x1024x1024.size inb2) (fun _ => rfl)).squeeze S1024x1024 squeezes_S1x1024x1024_S1024x1024)

    (κ₁ := K (c, kx (9 + j) _)) (κ₂ := K (src j c, kx (12 + j) _))
    (r₁ := 0) (r₂ := 0) (d₁ := 0) (d₂ := 0) (fs := YRetF m ρ c) (fd := fd) (q := fullShare)
    (by rw [duties_xfer m ρ c (9 + j) (by omega) (by omega) (by omega)]; exact Finset.mem_singleton_self _)
    (by rw [duties_xfer m ρ (src j c) (12 + j) (by omega) (by omega) (by omega)]; exact Finset.mem_singleton_self _)
    () () NB rfl (amount_xfer m ρ c (9 + j) _ 0) (amount_xfer m ρ (src j c) (12 + j) _ 0) O hO (W := W)
    (by
      rw [payload_xfer, xferPay_rs m ρ c j hj, hs1]; unfold p11; exact BI.Entails.refl _)
    (by
      rw [payload_xfer, xferPay_rr m ρ (src j c) j hj, hs2]; unfold p12
      refine Entails.of_eq (pointsTo_congr fun i hi => ?_)
      rw [← hs2] at hi
      obtain ⟨y, -, rfl⟩ := Finset.mem_map.mp hi
      refine (View.write_emb_of_mem _ _ (Finset.mem_univ y)).trans ?_
      show YRetF m ρ c ((slotRect j hj).emb (Shape.reshapeEquiv _ y)) = RetF m ρ (src j c) ((slotRect j hj).emb (Shape.reshapeEquiv _ y))
      generalize (Shape.reshapeEquiv _ y : S1x1024x1024.Idx) = x
      have hx : ((slotRect j hj).emb x 0).val = j := by
        have h : (slotRect j hj).emb x ∈ (slotRect j hj).set := by rw [← Rect.map_emb_univ]; exact Finset.mem_map_of_mem _ (Finset.mem_univ x)
        rw [slotRect_set] at h
        exact mem_slotSet.mp h
      unfold RetF
      rw [hx, dst_src j hj])) $$ [Hs Hd HO Ht1 Ht2]
  · isplitr; · iexact Hi1
    isplitr; · iexact Hi2
    isplitl [Hs]; · rw [hs1]; unfold p11; iexact Hs
    isplitl [Hd]; · rw [hs2]; unfold p12; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc Hat]
  · unfold wt
    isplitl [Hc]; · iexact Hc
    iexact Hat
  iexists _; iexact HO

end Cert.KernelIdeal.Moe
-- ==== Proof.KernelIdeal.Steps.lean ====
/-
The memory operations of the body as steps: what each buffer holds after the tiles written so far, the loads the
values come from, the bucket loops, the signals and the barrier wait.
-/
module

public import proofs.«01_k».proof.Proof.KernelIdeal.Rules
public import Idealize.ShloMosaic.Lib.Scf

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Parts of a body -/

/-- The end of a body. -/
theorem wpc_ret {c : Dev nD} {α : Type} {a : α} {Q : α → sProp 𝕄} : Q a ⊢ wpc c (.ret a) Q := le_wp_ret _ _ _ a Q

/-- A part of a body run for the value `o` it returns. -/
theorem runAt {c : Dev nD} {α β : Type} {p : Prog (TpuEff nD τ sig (Elt F) Λ₀ .tc) β} {kk : β → Prog (TpuEff nD τ sig (Elt F) Λ₀ .tc) α} {P P' : sProp 𝕄} {Q : α → sProp 𝕄} {o : β} (h : P ⊢ wpc c p (fun r => iprop(⌜r = o⌝ ∗ P'))) : P ⊢ iprop((P' -∗ wpc c (kk o) Q) -∗ wpc c (p >>= kk) Q) := by
  iintro H Hk
  unfold wpc
  rw [wp_bind]
  iapply (wp_wand_r frame (wpE (defs₀ (F := F)) 𝒱₀ (c : Thread nD τ) none) Set.univ)
  isplitl [H]; · iapply h $$ H
  iintro %r ⟨%hr, H⟩
  subst hr
  iapply Hk $$ H

/-- A part of a body run for a value of which only `φ` is known. -/
theorem runSome {c : Dev nD} {α β : Type} {p : Prog (TpuEff nD τ sig (Elt F) Λ₀ .tc) β} {kk : β → Prog (TpuEff nD τ sig (Elt F) Λ₀ .tc) α} {P P' : sProp 𝕄} {Q : α → sProp 𝕄} {φ : β → Prop} (h : P ⊢ wpc c p (fun r => iprop(⌜φ r⌝ ∗ P'))) : P ⊢ iprop((∀ r, ⌜φ r⌝ -∗ P' -∗ wpc c (kk r) Q) -∗ wpc c (p >>= kk) Q) := by
  iintro H Hk
  unfold wpc
  rw [wp_bind]
  iapply (wp_wand_r frame (wpE (defs₀ (F := F)) 𝒱₀ (c : Thread nD τ) none) Set.univ)
  isplitl [H]; · iapply h $$ H
  iintro %r ⟨%hr, H⟩
  iapply Hk $$ %r %hr H

/-- A part of a body run for no particular value. -/
theorem runAny {c : Dev nD} {α β : Type} {p : Prog (TpuEff nD τ sig (Elt F) Λ₀ .tc) β} {kk : β → Prog (TpuEff nD τ sig (Elt F) Λ₀ .tc) α} {P P' : sProp 𝕄} {Q : α → sProp 𝕄} (h : P ⊢ wpc c p (fun _ => P')) : P ⊢ iprop((∀ r, P' -∗ wpc c (kk r) Q) -∗ wpc c (p >>= kk) Q) := by
  iintro H Hk
  unfold wpc
  rw [wp_bind]
  iapply (wp_wand_r frame (wpE (defs₀ (F := F)) 𝒱₀ (c : Thread nD τ) none) Set.univ)
  isplitl [H]; · iapply h $$ H
  iintro %r H
  iapply Hk $$ H

/-! ## Buffers written tile by tile -/

/-- The membership matrix' buffer, its first `n` tiles written. -/
def uM (c : Dev nD) (n : ℕ) : sProp 𝕄 :=
  iprop(∃ f : Vec F S2048x16 .bf16, ⌜∀ i, (i 0).val < 256 * n → f i = MaskF m ρ c i⌝ ∗ ((c : Thread nD τ).loc cc0_scratch0) ↦[Finset.univ]{fullShare} f)
/-- The membership matrix' buffer written. -/
def hM (c : Dev nD) : sProp 𝕄 := ((c : Thread nD τ).loc cc0_scratch0) ↦[Finset.univ]{fullShare} MaskF m ρ c

theorem uM_init (c : Dev nD) : iprop(∃ f : Vec F S2048x16 .bf16, ((c : Thread nD τ).loc cc0_scratch0) ↦[Finset.univ]{fullShare} f) ⊢ uM m ρ c 0 := by
  unfold uM
  iintro ⟨%f, H⟩
  iexists f
  isplitr
  · ipureintro; intro i hi; exact absurd hi (by omega)
  iexact H
theorem uM_full (c : Dev nD) : uM m ρ c 8 ⊢ hM m ρ c := by
  unfold uM hM
  iintro ⟨%f, %hf, H⟩
  rw [show f = MaskF m ρ c from funext fun i => hf i (show (i 0).val < 256 * 8 from (i 0).isLt)]
  iexact H
theorem dumM (c : Dev nD) (n : ℕ) {r : Rect S2048x16} {hl} {α : Type} {k : (r.shape.Idx → Elt F .bf16) → Prog (TpuEff nD τ sig (Elt F) Λ₀ .tc) α} {Q : α → sProp 𝕄} :
    uM m ρ c n ⊢ iprop((∀ v, uM m ρ c n -∗ wpc c (k v) Q) -∗ wpc c (.op (.load (Memref.whole cc0_scratch0) r.toLoadRect hl) k) Q) := by
  unfold uM
  iintro ⟨%f, %hf, H⟩ Hk
  iapply (ld5 c r (S := Finset.univ) (Finset.subset_univ _)) $$ H
  iintro H
  iapply Hk
  iexists f
  isplitr; · ipureintro; exact hf
  iexact H
theorem stoM (c : Dev nD) (t : ℕ) (ht : t < 8) {off : Fin 2 → ℕ} (hoff : off = ![256 * t, 0]) {inb} {w : (Rect.unit (s := S2048x16) off S256x16.size inb).shape.Idx → Elt F .bf16}
    (hw : w = (fun t => maskTile c (aTile m ρ c t)) t) {hx hm} {α : Type} {k : PUnit → Prog (TpuEff nD τ sig (Elt F) Λ₀ .tc) α} {Q : α → sProp 𝕄} :
    uM m ρ c t ⊢ iprop((uM m ρ c (t + 1) -∗ wpc c (k ⟨⟩) Q)
      -∗ wpc c (.op (.store (Memref.whole cc0_scratch0) (Rect.unit (s := S2048x16) off S256x16.size inb) w Finset.univ hx hm) k) Q) := by
  unfold uM
  iintro ⟨%f, %hf, H⟩ Hk
  iapply (st5 c (Rect.unit (s := S2048x16) off S256x16.size inb) (S := Finset.univ) (Finset.subset_univ _)) $$ H
  iintro %f' %hf' H
  iapply Hk
  iexists f'
  isplitr
  · ipureintro; exact rows_step (R := 2048) (N := 16) (by decide) (fun t => maskTile c (aTile m ρ c t)) (fun _ => rfl) (by omega) hoff hw hf' hf
  iexact H

/-- The ranks' buffer, its first `n` tiles written. -/
def uR (c : Dev nD) (n : ℕ) : sProp 𝕄 :=
  iprop(∃ f : Vec F S2048x16 .bf16, ⌜∀ i, (i 0).val < 256 * n → f i = RankF m ρ c i⌝ ∗ ((c : Thread nD τ).loc cc0_scratch1) ↦[Finset.univ]{fullShare} f)
/-- The ranks' buffer written. -/
def hR (c : Dev nD) : sProp 𝕄 := ((c : Thread nD τ).loc cc0_scratch1) ↦[Finset.univ]{fullShare} RankF m ρ c

theorem uR_init (c : Dev nD) : iprop(∃ f : Vec F S2048x16 .bf16, ((c : Thread nD τ).loc cc0_scratch1) ↦[Finset.univ]{fullShare} f) ⊢ uR m ρ c 0 := by
  unfold uR
  iintro ⟨%f, H⟩
  iexists f
  isplitr
  · ipureintro; intro i hi; exact absurd hi (by omega)
  iexact H
theorem uR_full (c : Dev nD) : uR m ρ c 8 ⊢ hR m ρ c := by
  unfold uR hR
  iintro ⟨%f, %hf, H⟩
  rw [show f = RankF m ρ c from funext fun i => hf i (show (i 0).val < 256 * 8 from (i 0).isLt)]
  iexact H
theorem dumR (c : Dev nD) (n : ℕ) {r : Rect S2048x16} {hl} {α : Type} {k : (r.shape.Idx → Elt F .bf16) → Prog (TpuEff nD τ sig (Elt F) Λ₀ .tc) α} {Q : α → sProp 𝕄} :
    uR m ρ c n ⊢ iprop((∀ v, uR m ρ c n -∗ wpc c (k v) Q) -∗ wpc c (.op (.load (Memref.whole cc0_scratch1) r.toLoadRect hl) k) Q) := by
  unfold uR
  iintro ⟨%f, %hf, H⟩ Hk
  iapply (ld6 c r (S := Finset.univ) (Finset.subset_univ _)) $$ H
  iintro H
  iapply Hk
  iexists f
  isplitr; · ipureintro; exact hf
  iexact H
theorem stoR (c : Dev nD) (t : ℕ) (ht : t < 8) {off : Fin 2 → ℕ} (hoff : off = ![256 * t, 0]) {inb} {w : (Rect.unit (s := S2048x16) off S256x16.size inb).shape.Idx → Elt F .bf16}
    (hw : w = (fun t => rankTile m ρ c t) t) {hx hm} {α : Type} {k : PUnit → Prog (TpuEff nD τ sig (Elt F) Λ₀ .tc) α} {Q : α → sProp 𝕄} :
    uR m ρ c t ⊢ iprop((uR m ρ c (t + 1) -∗ wpc c (k ⟨⟩) Q)
      -∗ wpc c (.op (.store (Memref.whole cc0_scratch1) (Rect.unit (s := S2048x16) off S256x16.size inb) w Finset.univ hx hm) k) Q) := by
  unfold uR
  iintro ⟨%f, %hf, H⟩ Hk
  iapply (st6 c (Rect.unit (s := S2048x16) off S256x16.size inb) (S := Finset.univ) (Finset.subset_univ _)) $$ H
  iintro %f' %hf' H
  iapply Hk
  iexists f'
  isplitr
  · ipureintro; exact rows_step (R := 2048) (N := 16) (by decide) (fun t => rankTile m ρ c t) (fun _ => rfl) (by omega) hoff hw hf' hf
  iexact H

/-- The output' buffer, its first `n` tiles written. -/
def uO (c : Dev nD) (n : ℕ) : sProp 𝕄 :=
  iprop(∃ f : Vec F S2048x1024 .bf16, ⌜∀ i, (i 0).val < 256 * n → f i = OutF m ρ c i⌝ ∗ ((c : Thread nD τ).loc cc0_stg2_0) ↦[Finset.univ]{fullShare} f)
/-- The output' buffer written. -/
def hO (c : Dev nD) : sProp 𝕄 := ((c : Thread nD τ).loc cc0_stg2_0) ↦[Finset.univ]{fullShare} OutF m ρ c

theorem uO_init (c : Dev nD) : iprop(∃ f : Vec F S2048x1024 .bf16, ((c : Thread nD τ).loc cc0_stg2_0) ↦[Finset.univ]{fullShare} f) ⊢ uO m ρ c 0 := by
  unfold uO
  iintro ⟨%f, H⟩
  iexists f
  isplitr
  · ipureintro; intro i hi; exact absurd hi (by omega)
  iexact H
theorem uO_full (c : Dev nD) : uO m ρ c 8 ⊢ hO m ρ c := by
  unfold uO hO
  iintro ⟨%f, %hf, H⟩
  rw [show f = OutF m ρ c from funext fun i => hf i (show (i 0).val < 256 * 8 from (i 0).isLt)]
  iexact H
theorem dumO (c : Dev nD) (n : ℕ) {r : Rect S2048x1024} {hl} {α : Type} {k : (r.shape.Idx → Elt F .bf16) → Prog (TpuEff nD τ sig (Elt F) Λ₀ .tc) α} {Q : α → sProp 𝕄} :
    uO m ρ c n ⊢ iprop((∀ v, uO m ρ c n -∗ wpc c (k v) Q) -∗ wpc c (.op (.load (Memref.whole cc0_stg2_0) r.toLoadRect hl) k) Q) := by
  unfold uO
  iintro ⟨%f, %hf, H⟩ Hk
  iapply (ldO c r (S := Finset.univ) (Finset.subset_univ _)) $$ H
  iintro H
  iapply Hk
  iexists f
  isplitr; · ipureintro; exact hf
  iexact H
theorem stoO (c : Dev nD) (t : ℕ) (ht : t < 8) {off : Fin 2 → ℕ} (hoff : off = ![256 * t, 0]) {inb} {w : (Rect.unit (s := S2048x1024) off S256x1024.size inb).shape.Idx → Elt F .bf16}
    (hw : w = (fun t => outTile m ρ c t) t) {hx hm} {α : Type} {k : PUnit → Prog (TpuEff nD τ sig (Elt F) Λ₀ .tc) α} {Q : α → sProp 𝕄} :
    uO m ρ c t ⊢ iprop((uO m ρ c (t + 1) -∗ wpc c (k ⟨⟩) Q)
      -∗ wpc c (.op (.store (Memref.whole cc0_stg2_0) (Rect.unit (s := S2048x1024) off S256x1024.size inb) w Finset.univ hx hm) k) Q) := by
  unfold uO
  iintro ⟨%f, %hf, H⟩ Hk
  iapply (stO c (Rect.unit (s := S2048x1024) off S256x1024.size inb) (S := Finset.univ) (Finset.subset_univ _)) $$ H
  iintro %f' %hf' H
  iapply Hk
  iexists f'
  isplitr
  · ipureintro; exact rows_step (R := 2048) (N := 1024) (by decide) (fun t => outTile m ρ c t) (fun _ => rfl) (by omega) hoff hw hf' hf
  iexact H

/-- The own buckets' buffer, its first `n` tiles written. -/
def uOwn (c : Dev nD) (n : ℕ) : sProp 𝕄 :=
  iprop(∃ f : Vec F S1024x1024 .bf16, ⌜∀ i, (i 0).val < 256 * n → f i = OwnF m ρ c i⌝ ∗ ((c : Thread nD τ).loc cc0_scratch4) ↦[Finset.univ]{fullShare} f)
/-- The own buckets' buffer written. -/
def hOwn (c : Dev nD) : sProp 𝕄 := ((c : Thread nD τ).loc cc0_scratch4) ↦[Finset.univ]{fullShare} OwnF m ρ c

theorem uOwn_init (c : Dev nD) : iprop(∃ f : Vec F S1024x1024 .bf16, ((c : Thread nD τ).loc cc0_scratch4) ↦[Finset.univ]{fullShare} f) ⊢ uOwn m ρ c 0 := by
  unfold uOwn
  iintro ⟨%f, H⟩
  iexists f
  isplitr
  · ipureintro; intro i hi; exact absurd hi (by omega)
  iexact H
theorem uOwn_full (c : Dev nD) : uOwn m ρ c 4 ⊢ hOwn m ρ c := by
  unfold uOwn hOwn
  iintro ⟨%f, %hf, H⟩
  rw [show f = OwnF m ρ c from funext fun i => hf i (show (i 0).val < 256 * 4 from (i 0).isLt)]
  iexact H
theorem dumOwn (c : Dev nD) (n : ℕ) {r : Rect S1024x1024} {hl} {α : Type} {k : (r.shape.Idx → Elt F .bf16) → Prog (TpuEff nD τ sig (Elt F) Λ₀ .tc) α} {Q : α → sProp 𝕄} :
    uOwn m ρ c n ⊢ iprop((∀ v, uOwn m ρ c n -∗ wpc c (k v) Q) -∗ wpc c (.op (.load (Memref.whole cc0_scratch4) r.toLoadRect hl) k) Q) := by
  unfold uOwn
  iintro ⟨%f, %hf, H⟩ Hk
  iapply (ld9 c r (S := Finset.univ) (Finset.subset_univ _)) $$ H
  iintro H
  iapply Hk
  iexists f
  isplitr; · ipureintro; exact hf
  iexact H
theorem stoOwn (c : Dev nD) (t : ℕ) (ht : t < 4) {off : Fin 2 → ℕ} (hoff : off = ![256 * t, 0]) {inb} {w : (Rect.unit (s := S1024x1024) off S256x1024.size inb).shape.Idx → Elt F .bf16}
    (hw : w = (fun t => k0_pay64 (bacc m ρ c t 8)) t) {hx hm} {α : Type} {k : PUnit → Prog (TpuEff nD τ sig (Elt F) Λ₀ .tc) α} {Q : α → sProp 𝕄} :
    uOwn m ρ c t ⊢ iprop((uOwn m ρ c (t + 1) -∗ wpc c (k ⟨⟩) Q)
      -∗ wpc c (.op (.store (Memref.whole cc0_scratch4) (Rect.unit (s := S1024x1024) off S256x1024.size inb) w Finset.univ hx hm) k) Q) := by
  unfold uOwn
  iintro ⟨%f, %hf, H⟩ Hk
  iapply (st9 c (Rect.unit (s := S1024x1024) off S256x1024.size inb) (S := Finset.univ) (Finset.subset_univ _)) $$ H
  iintro %f' %hf' H
  iapply Hk
  iexists f'
  isplitr
  · ipureintro; exact rows_step (R := 1024) (N := 1024) (by decide) (fun t => k0_pay64 (bacc m ρ c t 8)) (fun _ => rfl) (by omega) hoff hw hf' hf
  iexact H

/-- The own results' buffer, its first `n` tiles written. -/
def uY (c : Dev nD) (n : ℕ) : sProp 𝕄 :=
  iprop(∃ f : Vec F S1024x1024 .bf16, ⌜∀ i, (i 0).val < 256 * n → f i = YOwnF m ρ c i⌝ ∗ ((c : Thread nD τ).loc cc0_scratch5) ↦[Finset.univ]{fullShare} f)
/-- The own results' buffer written. -/
def hY (c : Dev nD) : sProp 𝕄 := ((c : Thread nD τ).loc cc0_scratch5) ↦[Finset.univ]{fullShare} YOwnF m ρ c

theorem uY_init (c : Dev nD) : iprop(∃ f : Vec F S1024x1024 .bf16, ((c : Thread nD τ).loc cc0_scratch5) ↦[Finset.univ]{fullShare} f) ⊢ uY m ρ c 0 := by
  unfold uY
  iintro ⟨%f, H⟩
  iexists f
  isplitr
  · ipureintro; intro i hi; exact absurd hi (by omega)
  iexact H
theorem uY_full (c : Dev nD) : uY m ρ c 4 ⊢ hY m ρ c := by
  unfold uY hY
  iintro ⟨%f, %hf, H⟩
  rw [show f = YOwnF m ρ c from funext fun i => hf i (show (i 0).val < 256 * 4 from (i 0).isLt)]
  iexact H
theorem dumY (c : Dev nD) (n : ℕ) {r : Rect S1024x1024} {hl} {α : Type} {k : (r.shape.Idx → Elt F .bf16) → Prog (TpuEff nD τ sig (Elt F) Λ₀ .tc) α} {Q : α → sProp 𝕄} :
    uY m ρ c n ⊢ iprop((∀ v, uY m ρ c n -∗ wpc c (k v) Q) -∗ wpc c (.op (.load (Memref.whole cc0_scratch5) r.toLoadRect hl) k) Q) := by
  unfold uY
  iintro ⟨%f, %hf, H⟩ Hk
  iapply (ld10 c r (S := Finset.univ) (Finset.subset_univ _)) $$ H
  iintro H
  iapply Hk
  iexists f
  isplitr; · ipureintro; exact hf
  iexact H
theorem stoY (c : Dev nD) (t : ℕ) (ht : t < 4) {off : Fin 2 → ℕ} (hoff : off = ![256 * t, 0]) {inb} {w : (Rect.unit (s := S1024x1024) off S256x1024.size inb).shape.Idx → Elt F .bf16}
    (hw : w = (fun t => k0_pay74 (oblk m ρ c t) (w1v m c t) (w2v m c t)) t) {hx hm} {α : Type} {k : PUnit → Prog (TpuEff nD τ sig (Elt F) Λ₀ .tc) α} {Q : α → sProp 𝕄} :
    uY m ρ c t ⊢ iprop((uY m ρ c (t + 1) -∗ wpc c (k ⟨⟩) Q)
      -∗ wpc c (.op (.store (Memref.whole cc0_scratch5) (Rect.unit (s := S1024x1024) off S256x1024.size inb) w Finset.univ hx hm) k) Q) := by
  unfold uY
  iintro ⟨%f, %hf, H⟩ Hk
  iapply (st10 c (Rect.unit (s := S1024x1024) off S256x1024.size inb) (S := Finset.univ) (Finset.subset_univ _)) $$ H
  iintro %f' %hf' H
  iapply Hk
  iexists f'
  isplitr
  · ipureintro; exact rows_step (R := 1024) (N := 1024) (by decide) (fun t => k0_pay74 (oblk m ρ c t) (w1v m c t) (w2v m c t)) (fun _ => rfl) (by omega) hoff hw hf' hf
  iexact H

/-- Slot `j` of the outgoing buckets, its first `n` tiles written. -/
def u7 (c : Dev nD) (j n : ℕ) : sProp 𝕄 :=
  iprop(∃ f : Vec F S3x1024x1024 .bf16, ⌜∀ i, (i 0).val = j → (i 1).val < 256 * n → f i = SendF m ρ c i⌝ ∗ p7 c j f)

theorem u7_init (c : Dev nD) (j : ℕ) : iprop(∃ f : Vec F S3x1024x1024 .bf16, p7 c j f) ⊢ u7 m ρ c j 0 := by
  unfold u7
  iintro ⟨%f, H⟩
  iexists f
  isplitr
  · ipureintro; intro i _ hi; exact absurd hi (by omega)
  iexact H
theorem u7_full (c : Dev nD) (j : ℕ) : u7 m ρ c j 4 ⊢ p7 c j (SendF m ρ c) := by
  unfold u7 p7
  iintro ⟨%f, %hf, H⟩
  iapply (Entails.of_eq (pointsTo_congr (fun i hi => hf i (mem_slotSet.mp hi) (show (i 1).val < 256 * 4 from (i 1).isLt)))) $$ H
theorem dum7 (c : Dev nD) (j n t : ℕ) {off : Fin 3 → ℕ} (hoff : off = ![j, 256 * t, 0]) {inb} {hl} {α : Type}
    {k : ((Rect.unit (s := S3x1024x1024) off S1x256x1024.size inb).shape.Idx → Elt F .bf16) → Prog (TpuEff nD τ sig (Elt F) Λ₀ .tc) α} {Q : α → sProp 𝕄} :
    u7 m ρ c j n ⊢ iprop((∀ v, u7 m ρ c j n -∗ wpc c (k v) Q) -∗ wpc c (.op (.load (Memref.whole cc0_scratch2) (Rect.unit (s := S3x1024x1024) off S1x256x1024.size inb).toLoadRect hl) k) Q) := by
  unfold u7 p7
  iintro ⟨%f, %hf, H⟩ Hk
  iapply (ld7 c (Rect.unit (s := S3x1024x1024) off S1x256x1024.size inb) (S := slotSet j) (slot_sub j t off hoff inb)) $$ H
  iintro H
  iapply Hk
  iexists f
  isplitr; · ipureintro; exact hf
  iexact H
theorem sto7 (c : Dev nD) (j t : ℕ) (hj : j < 3) (ht : t < 4) {off : Fin 3 → ℕ} (hoff : off = ![j, 256 * t, 0]) {inb} {w : (Rect.unit (s := S3x1024x1024) off S1x256x1024.size inb).shape.Idx → Elt F .bf16}
    (hw : w = (fun j t => k0_pay27 (bacc m ρ c (4 * (j + 1) + t) 8)) j t) {hx hm} {α : Type} {k : PUnit → Prog (TpuEff nD τ sig (Elt F) Λ₀ .tc) α} {Q : α → sProp 𝕄} :
    u7 m ρ c j t ⊢ iprop((u7 m ρ c j (t + 1) -∗ wpc c (k ⟨⟩) Q)
      -∗ wpc c (.op (.store (Memref.whole cc0_scratch2) (Rect.unit (s := S3x1024x1024) off S1x256x1024.size inb) w Finset.univ hx hm) k) Q) := by
  unfold u7 p7
  iintro ⟨%f, %hf, H⟩ Hk
  iapply (st7 c (Rect.unit (s := S3x1024x1024) off S1x256x1024.size inb) (S := slotSet j) (slot_sub j t off hoff inb)) $$ H
  iintro %f' %hf' H
  iapply Hk
  iexists f'
  isplitr
  · ipureintro; exact slot_step (fun j t => k0_pay27 (bacc m ρ c (4 * (j + 1) + t) 8)) (fun _ => rfl) hj ht hoff hw hf' hf
  iexact H

/-- Slot `j` of the outgoing results, its first `n` tiles written. -/
def u11 (c : Dev nD) (j n : ℕ) : sProp 𝕄 :=
  iprop(∃ f : Vec F S3x1024x1024 .bf16, ⌜∀ i, (i 0).val = j → (i 1).val < 256 * n → f i = YRetF m ρ c i⌝ ∗ p11 c j f)

theorem u11_init (c : Dev nD) (j : ℕ) : iprop(∃ f : Vec F S3x1024x1024 .bf16, p11 c j f) ⊢ u11 m ρ c j 0 := by
  unfold u11
  iintro ⟨%f, H⟩
  iexists f
  isplitr
  · ipureintro; intro i _ hi; exact absurd hi (by omega)
  iexact H
theorem u11_full (c : Dev nD) (j : ℕ) : u11 m ρ c j 4 ⊢ p11 c j (YRetF m ρ c) := by
  unfold u11 p11
  iintro ⟨%f, %hf, H⟩
  iapply (Entails.of_eq (pointsTo_congr (fun i hi => hf i (mem_slotSet.mp hi) (show (i 1).val < 256 * 4 from (i 1).isLt)))) $$ H
theorem dum11 (c : Dev nD) (j n t : ℕ) {off : Fin 3 → ℕ} (hoff : off = ![j, 256 * t, 0]) {inb} {hl} {α : Type}
    {k : ((Rect.unit (s := S3x1024x1024) off S1x256x1024.size inb).shape.Idx → Elt F .bf16) → Prog (TpuEff nD τ sig (Elt F) Λ₀ .tc) α} {Q : α → sProp 𝕄} :
    u11 m ρ c j n ⊢ iprop((∀ v, u11 m ρ c j n -∗ wpc c (k v) Q) -∗ wpc c (.op (.load (Memref.whole cc0_scratch6) (Rect.unit (s := S3x1024x1024) off S1x256x1024.size inb).toLoadRect hl) k) Q) := by
  unfold u11 p11
  iintro ⟨%f, %hf, H⟩ Hk
  iapply (ld11 c (Rect.unit (s := S3x1024x1024) off S1x256x1024.size inb) (S := slotSet j) (slot_sub j t off hoff inb)) $$ H
  iintro H
  iapply Hk
  iexists f
  isplitr; · ipureintro; exact hf
  iexact H
theorem sto11 (c : Dev nD) (j t : ℕ) (hj : j < 3) (ht : t < 4) {off : Fin 3 → ℕ} (hoff : off = ![j, 256 * t, 0]) {inb} {w : (Rect.unit (s := S3x1024x1024) off S1x256x1024.size inb).shape.Idx → Elt F .bf16}
    (hw : w = (fun j t => k0_pay79 (rblk m ρ c j t) (w1v m c t) (w2v m c t)) j t) {hx hm} {α : Type} {k : PUnit → Prog (TpuEff nD τ sig (Elt F) Λ₀ .tc) α} {Q : α → sProp 𝕄} :
    u11 m ρ c j t ⊢ iprop((u11 m ρ c j (t + 1) -∗ wpc c (k ⟨⟩) Q)
      -∗ wpc c (.op (.store (Memref.whole cc0_scratch6) (Rect.unit (s := S3x1024x1024) off S1x256x1024.size inb) w Finset.univ hx hm) k) Q) := by
  unfold u11 p11
  iintro ⟨%f, %hf, H⟩ Hk
  iapply (st11 c (Rect.unit (s := S3x1024x1024) off S1x256x1024.size inb) (S := slotSet j) (slot_sub j t off hoff inb)) $$ H
  iintro %f' %hf' H
  iapply Hk
  iexists f'
  isplitr
  · ipureintro; exact slot_step (fun j t => k0_pay79 (rblk m ρ c j t) (w1v m c t) (w2v m c t)) (fun _ => rfl) hj ht hoff hw hf' hf
  iexact H

/-! ## The loads the values come from -/

/-- The tokens and their assignment, staged. -/
def hX (c : Dev nD) : sProp 𝕄 := ((c : Thread nD τ).loc cc0_stg0_0) ↦[Finset.univ]{fullShare} X m ρ c
def hA (c : Dev nD) : sProp 𝕄 := ((c : Thread nD τ).loc cc0_stg1_0) ↦[Finset.univ]{fullShare} A m ρ c

theorem getM (c : Dev nD) (t k : ℕ) {off : Fin 2 → ℕ} (hoff : off = ![256 * t, k]) {inb} {hl} {α : Type}
    {kk : Vec F S256x1 .bf16 → Prog (TpuEff nD τ sig (Elt F) Λ₀ .tc) α} {Q : α → sProp 𝕄} :
    hM m ρ c ⊢ iprop((hM m ρ c -∗ wpc c (kk (colAt (MaskF m ρ c) t k)) Q)
      -∗ wpc c (.op (.load (Memref.whole cc0_scratch0) (Rect.unit (s := S2048x16) off S256x1.size inb).toLoadRect hl) kk) Q) := by
  unfold hM
  iintro H Hk
  iapply (ld5 c (Rect.unit (s := S2048x16) off S256x1.size inb) (S := Finset.univ) (Finset.subset_univ _)) $$ H
  iintro H
  rw [show (fun x => (MaskF m ρ c) ((Rect.unit (s := S2048x16) off S256x1.size inb).emb x)) = colAt (MaskF m ρ c) t k from
    funext fun x => congrArg (MaskF m ρ c) (emb_col (R := 2048) (N := 16) (n := 256) (by decide) (by decide) off t k hoff inb x)]
  iapply Hk $$ H

theorem getR (c : Dev nD) (t k : ℕ) {off : Fin 2 → ℕ} (hoff : off = ![256 * t, k]) {inb} {hl} {α : Type}
    {kk : Vec F S256x1 .bf16 → Prog (TpuEff nD τ sig (Elt F) Λ₀ .tc) α} {Q : α → sProp 𝕄} :
    hR m ρ c ⊢ iprop((hR m ρ c -∗ wpc c (kk (colAt (RankF m ρ c) t k)) Q)
      -∗ wpc c (.op (.load (Memref.whole cc0_scratch1) (Rect.unit (s := S2048x16) off S256x1.size inb).toLoadRect hl) kk) Q) := by
  unfold hR
  iintro H Hk
  iapply (ld6 c (Rect.unit (s := S2048x16) off S256x1.size inb) (S := Finset.univ) (Finset.subset_univ _)) $$ H
  iintro H
  rw [show (fun x => (RankF m ρ c) ((Rect.unit (s := S2048x16) off S256x1.size inb).emb x)) = colAt (RankF m ρ c) t k from
    funext fun x => congrArg (RankF m ρ c) (emb_col (R := 2048) (N := 16) (n := 256) (by decide) (by decide) off t k hoff inb x)]
  iapply Hk $$ H

theorem getX (c : Dev nD) (t : ℕ) {off : Fin 2 → ℕ} (hoff : off = ![256 * t, 0]) {inb} {hl} {α : Type}
    {kk : Vec F S256x1024 .bf16 → Prog (TpuEff nD τ sig (Elt F) Λ₀ .tc) α} {Q : α → sProp 𝕄} :
    hX m ρ c ⊢ iprop((hX m ρ c -∗ wpc c (kk (xTile m ρ c t)) Q)
      -∗ wpc c (.op (.load (Memref.whole cc0_stg0_0) (Rect.unit (s := S2048x1024) off S256x1024.size inb).toLoadRect hl) kk) Q) := by
  unfold hX
  iintro H Hk
  iapply (ldX c (Rect.unit (s := S2048x1024) off S256x1024.size inb) (S := Finset.univ) (Finset.subset_univ _)) $$ H
  iintro H
  rw [show (fun x => (X m ρ c) ((Rect.unit (s := S2048x1024) off S256x1024.size inb).emb x)) = xTile m ρ c t from funext fun x => by
    rw [emb_rows (R := 2048) (N := 1024) (n := 256) (by decide) off t hoff inb x]; rfl]
  iapply Hk $$ H

theorem getA (c : Dev nD) (t : ℕ) {off : Fin 1 → ℕ} (hoff : off = ![256 * t]) {inb} {hl} {α : Type}
    {kk : Vec F S256 .i32 → Prog (TpuEff nD τ sig (Elt F) Λ₀ .tc) α} {Q : α → sProp 𝕄} :
    hA m ρ c ⊢ iprop((hA m ρ c -∗ wpc c (kk (aTile m ρ c t)) Q)
      -∗ wpc c (.op (.load (Memref.whole cc0_stg1_0) (Rect.unit (s := S2048) off S256.size inb).toLoadRect hl) kk) Q) := by
  unfold hA
  iintro H Hk
  iapply (ldA c (Rect.unit (s := S2048) off S256.size inb) (S := Finset.univ) (Finset.subset_univ _)) $$ H
  iintro H
  rw [show (fun x => (A m ρ c) ((Rect.unit (s := S2048) off S256.size inb).emb x)) = aTile m ρ c t from funext fun x => by
    rw [emb_row1 (R := 2048) (n := 256) (by decide) off t hoff inb x]; rfl]
  iapply Hk $$ H

theorem getOwn (c : Dev nD) (t : ℕ) {off : Fin 2 → ℕ} (hoff : off = ![256 * t, 0]) {inb} {hl} {α : Type}
    {kk : Vec F S256x1024 .bf16 → Prog (TpuEff nD τ sig (Elt F) Λ₀ .tc) α} {Q : α → sProp 𝕄} :
    hOwn m ρ c ⊢ iprop((hOwn m ρ c -∗ wpc c (kk (oblk m ρ c t)) Q)
      -∗ wpc c (.op (.load (Memref.whole cc0_scratch4) (Rect.unit (s := S1024x1024) off S256x1024.size inb).toLoadRect hl) kk) Q) := by
  unfold hOwn
  iintro H Hk
  iapply (ld9 c (Rect.unit (s := S1024x1024) off S256x1024.size inb) (S := Finset.univ) (Finset.subset_univ _)) $$ H
  iintro H
  rw [show (fun x => (OwnF m ρ c) ((Rect.unit (s := S1024x1024) off S256x1024.size inb).emb x)) = oblk m ρ c t from funext fun x => by
    rw [emb_rows (R := 1024) (N := 1024) (n := 256) (by decide) off t hoff inb x]; rfl]
  iapply Hk $$ H

theorem getY (c : Dev nD) (t : ℕ) {off : Fin 2 → ℕ} (hoff : off = ![256 * t, 0]) {inb} {hl} {α : Type}
    {kk : Vec F S256x1024 .bf16 → Prog (TpuEff nD τ sig (Elt F) Λ₀ .tc) α} {Q : α → sProp 𝕄} :
    hY m ρ c ⊢ iprop((hY m ρ c -∗ wpc c (kk (yo m ρ c t)) Q)
      -∗ wpc c (.op (.load (Memref.whole cc0_scratch5) (Rect.unit (s := S1024x1024) off S256x1024.size inb).toLoadRect hl) kk) Q) := by
  unfold hY
  iintro H Hk
  iapply (ld10 c (Rect.unit (s := S1024x1024) off S256x1024.size inb) (S := Finset.univ) (Finset.subset_univ _)) $$ H
  iintro H
  rw [show (fun x => (YOwnF m ρ c) ((Rect.unit (s := S1024x1024) off S256x1024.size inb).emb x)) = yo m ρ c t from funext fun x => by
    rw [emb_rows (R := 1024) (N := 1024) (n := 256) (by decide) off t hoff inb x]; rfl]
  iapply Hk $$ H

theorem get8 (c : Dev nD) (j t : ℕ) {off : Fin 3 → ℕ} (hoff : off = ![j, 256 * t, 0]) {inb} {hl} {α : Type}
    {kk : Vec F S1x256x1024 .bf16 → Prog (TpuEff nD τ sig (Elt F) Λ₀ .tc) α} {Q : α → sProp 𝕄} :
    p8 c j (RecvF m ρ c) ⊢ iprop((p8 c j (RecvF m ρ c) -∗ wpc c (kk (rblk m ρ c j t)) Q)
      -∗ wpc c (.op (.load (Memref.whole cc0_scratch3) (Rect.unit (s := S3x1024x1024) off S1x256x1024.size inb).toLoadRect hl) kk) Q) := by
  unfold p8
  iintro H Hk
  iapply (ld8 c (Rect.unit (s := S3x1024x1024) off S1x256x1024.size inb) (S := slotSet j) (slot_sub j t off hoff inb)) $$ H
  iintro H
  rw [show (fun x => (RecvF m ρ c) ((Rect.unit (s := S3x1024x1024) off S1x256x1024.size inb).emb x)) = rblk m ρ c j t from funext fun x => by
    rw [emb_slot (J := 3) (R := 1024) (N := 1024) (n := 256) (by decide) (by decide) off j t hoff inb x]; rfl]
  iapply Hk $$ H

theorem get12 (c : Dev nD) (j t : ℕ) {off : Fin 3 → ℕ} (hoff : off = ![j, 256 * t, 0]) {inb} {hl} {α : Type}
    {kk : Vec F S1x256x1024 .bf16 → Prog (TpuEff nD τ sig (Elt F) Λ₀ .tc) α} {Q : α → sProp 𝕄} :
    p12 c j (RetF m ρ c) ⊢ iprop((p12 c j (RetF m ρ c) -∗ wpc c (kk (yr m ρ c j t)) Q)
      -∗ wpc c (.op (.load (Memref.whole cc0_scratch7) (Rect.unit (s := S3x1024x1024) off S1x256x1024.size inb).toLoadRect hl) kk) Q) := by
  unfold p12
  iintro H Hk
  iapply (ld12 c (Rect.unit (s := S3x1024x1024) off S1x256x1024.size inb) (S := slotSet j) (slot_sub j t off hoff inb)) $$ H
  iintro H
  rw [show (fun x => (RetF m ρ c) ((Rect.unit (s := S3x1024x1024) off S1x256x1024.size inb).emb x)) = yr m ρ c j t from funext fun x => by
    rw [emb_slot (J := 3) (R := 1024) (N := 1024) (n := 256) (by decide) (by decide) off j t hoff inb x]; rfl]
  iapply Hk $$ H

theorem getW1 (c : Dev nD) (s e : ℕ) {off : Fin 3 → ℕ} (hoff : off = ![s, 0, 0]) {inb} {hl} {α : Type}
    {kk : Vec F S1x1024x2048 .bf16 → Prog (TpuEff nD τ sig (Elt F) Λ₀ .tc) α} {Q : α → sProp 𝕄} :
    w1 c s (WB1 m c e) ⊢ iprop((w1 c s (WB1 m c e) -∗ wpc c (kk (w1v m c e)) Q)
      -∗ wpc c (.op (.load (Memref.whole cc0_scratch8) (Rect.unit (s := S2x1024x2048) off S1x1024x2048.size inb).toLoadRect hl) kk) Q) := by
  unfold w1
  iintro H Hk
  iapply (ld13 c (Rect.unit (s := S2x1024x2048) off S1x1024x2048.size inb) (S := fib 2 1024 2048 s) (by subst hoff; exact le_of_eq (fib_set 2 1024 2048 s inb))) $$ H
  iintro H
  rw [show (fun x => (WB1 m c e) ((Rect.unit (s := S2x1024x2048) off S1x1024x2048.size inb).emb x)) = w1v m c e from funext fun x => by
    rw [emb_slot (J := 2) (R := 1024) (N := 2048) (n := 1024) (by decide) (by decide) off s 0 hoff inb x]; exact congrArg (W1 m c) (congrArg₂ (fun a b => ix3 (md 4 e) a b) (Fin.ext (by show (1024 * 0 + (x 1).val) % 1024 = (x 1).val; rw [Nat.mul_zero, Nat.zero_add]; exact Nat.mod_eq_of_lt (x 1).isLt)) rfl)]
  iapply Hk $$ H

theorem getW2 (c : Dev nD) (s e : ℕ) {off : Fin 3 → ℕ} (hoff : off = ![s, 0, 0]) {inb} {hl} {α : Type}
    {kk : Vec F S1x2048x1024 .bf16 → Prog (TpuEff nD τ sig (Elt F) Λ₀ .tc) α} {Q : α → sProp 𝕄} :
    w2 c s (WB2 m c e) ⊢ iprop((w2 c s (WB2 m c e) -∗ wpc c (kk (w2v m c e)) Q)
      -∗ wpc c (.op (.load (Memref.whole cc0_scratch9) (Rect.unit (s := S2x2048x1024) off S1x2048x1024.size inb).toLoadRect hl) kk) Q) := by
  unfold w2
  iintro H Hk
  iapply (ld14 c (Rect.unit (s := S2x2048x1024) off S1x2048x1024.size inb) (S := fib 2 2048 1024 s) (by subst hoff; exact le_of_eq (fib_set 2 2048 1024 s inb))) $$ H
  iintro H
  rw [show (fun x => (WB2 m c e) ((Rect.unit (s := S2x2048x1024) off S1x2048x1024.size inb).emb x)) = w2v m c e from funext fun x => by
    rw [emb_slot (J := 2) (R := 2048) (N := 1024) (n := 2048) (by decide) (by decide) off s 0 hoff inb x]; exact congrArg (W2 m c) (congrArg₂ (fun a b => ix3 (md 4 e) a b) (Fin.ext (by show (2048 * 0 + (x 1).val) % 2048 = (x 1).val; rw [Nat.mul_zero, Nat.zero_add]; exact Nat.mod_eq_of_lt (x 1).isLt)) rfl)]
  iapply Hk $$ H

/-- The whole membership matrix, as the rank loop loads it. -/
theorem getM_all (c : Dev nD) {inb} {hl} {α : Type} {kk : Vec F S2048x16 .bf16 → Prog (TpuEff nD τ sig (Elt F) Λ₀ .tc) α} {Q : α → sProp 𝕄} :
    hM m ρ c ⊢ iprop((hM m ρ c -∗ wpc c (kk (MaskF m ρ c)) Q)
      -∗ wpc c (.op (.load (Memref.whole cc0_scratch0) (Rect.unit (s := S2048x16) ![0, 0] S2048x16.size inb).toLoadRect hl) kk) Q) := by
  unfold hM
  iintro H Hk
  iapply (ld5 c (Rect.unit (s := S2048x16) ![0, 0] S2048x16.size inb) (S := Finset.univ) (Finset.subset_univ _)) $$ H
  iintro H
  rw [show (fun x => (MaskF m ρ c) ((Rect.unit (s := S2048x16) ![0, 0] S2048x16.size inb).emb x)) = MaskF m ρ c from funext fun x => congrArg _ (by
    rw [emb_rows (R := 2048) (N := 16) (n := 2048) (by decide) ![0, 0] 0 rfl inb x]
    refine (congrArg (fun a => ix2 a (x 1)) (Fin.ext (by show (2048 * 0 + (x 0).val) % 2048 = (x 0).val; rw [Nat.mul_zero, Nat.zero_add]; exact Nat.mod_eq_of_lt (x 0).isLt))).trans ?_
    exact ix2_eta x)]
  iapply Hk $$ H

/-! ## A bucket's loop -/

theorem bucket_for (c : Dev nD) (k : ℕ) {w : ℕ} {l : Scf.Loop w} {hok : l.OK} (hl : l.trips = 8) {init : FVec F S256x1024 .f32} (hinit : init = k0_pay25)
    {body : Fin l.trips → FVec F S256x1024 .f32 → Prog (TpuEff nD τ sig (Elt F) Λ₀ .tc) (FVec F S256x1024 .f32)}
    (off1 off2 : Fin l.trips → Fin 2 → ℕ) (h1 : ∀ t, off1 t = ![256 * t.val, k]) (h2 : ∀ t, off2 t = ![256 * t.val, 0])
    {inb1 : ∀ t a, off1 t a + S256x1.size a ≤ S2048x16.size a} {inb2 : ∀ t a, off2 t a + S256x1024.size a ≤ S2048x1024.size a}
    {hl1 : ∀ t, (Memref.whole cc0_scratch1).view.LoadsAt (Rect.unit (s := S2048x16) (off1 t) S256x1.size (inb1 t)).toLoadRect}
    {hl2 : ∀ t, (Memref.whole cc0_scratch0).view.LoadsAt (Rect.unit (s := S2048x16) (off1 t) S256x1.size (inb1 t)).toLoadRect}
    {hl3 : ∀ t, (Memref.whole cc0_stg0_0).view.LoadsAt (Rect.unit (s := S2048x1024) (off2 t) S256x1024.size (inb2 t)).toLoadRect}
    (hbody : ∀ t acc, body t acc = .op (.load (Memref.whole cc0_scratch1) (Rect.unit (s := S2048x16) (off1 t) S256x1.size (inb1 t)).toLoadRect (hl1 t)) fun a =>
      .op (.load (Memref.whole cc0_scratch0) (Rect.unit (s := S2048x16) (off1 t) S256x1.size (inb1 t)).toLoadRect (hl2 t)) fun b =>
      .op (.load (Memref.whole cc0_stg0_0) (Rect.unit (s := S2048x1024) (off2 t) S256x1024.size (inb2 t)).toLoadRect (hl3 t)) fun x =>
      .ret (k0_pay26 acc a b x)) {α : Type}
    {kk : FVec F S256x1024 .f32 → Prog (TpuEff nD τ sig (Elt F) Λ₀ .tc) α} {Q : α → sProp 𝕄} :
    iprop(hX m ρ c ∗ hM m ρ c ∗ hR m ρ c) ⊢ iprop(((hX m ρ c ∗ hM m ρ c ∗ hR m ρ c) -∗ wpc c (kk (bacc m ρ c k 8)) Q)
      -∗ wpc c (Scf.Loop.for l hok init body >>= kk) Q) := by
  iintro H Hk
  iapply (Scf.wp_for_bind frame (wpE (defs₀ (F := F)) 𝒱₀ (c : Thread nD τ) none) Set.univ l.lb l.ub l.st hok init body
    (fun n acc => iprop(⌜acc = bacc m ρ c k n⌝ ∗ hX m ρ c ∗ hM m ρ c ∗ hR m ρ c)) (fun t acc => by
      iintro ⟨%ha, Hx, Hm, Hr⟩
      rw [hbody t acc]
      iapply (getR m ρ c t.val k (h1 t)) $$ Hr
      iintro Hr
      iapply (getM m ρ c t.val k (h1 t)) $$ Hm
      iintro Hm
      iapply (getX m ρ c t.val (h2 t)) $$ Hx
      iintro Hx
      iapply wpc_ret
      isplitr; · ipureintro; rw [ha]; rfl
      isplitl [Hx]; · iexact Hx
      isplitl [Hm]; · iexact Hm
      iexact Hr)) $$ [H]
  · isplitr; · ipureintro; exact hinit
    iexact H
  iintro %acc ⟨%ha, H⟩
  have ha' : acc = bacc m ρ c k 8 := ha.trans (congrArg _ hl)
  rw [ha']
  iapply Hk $$ H

/-- A bucket's loop at the end of a part. -/
theorem bucket_end (c : Dev nD) (k : ℕ) {w : ℕ} {l : Scf.Loop w} {hok : l.OK} (hl : l.trips = 8) {init : FVec F S256x1024 .f32} (hinit : init = k0_pay25)
    {body : Fin l.trips → FVec F S256x1024 .f32 → Prog (TpuEff nD τ sig (Elt F) Λ₀ .tc) (FVec F S256x1024 .f32)}
    (off1 off2 : Fin l.trips → Fin 2 → ℕ) (h1 : ∀ t, off1 t = ![256 * t.val, k]) (h2 : ∀ t, off2 t = ![256 * t.val, 0])
    {inb1 : ∀ t a, off1 t a + S256x1.size a ≤ S2048x16.size a} {inb2 : ∀ t a, off2 t a + S256x1024.size a ≤ S2048x1024.size a}
    {hl1 : ∀ t, (Memref.whole cc0_scratch1).view.LoadsAt (Rect.unit (s := S2048x16) (off1 t) S256x1.size (inb1 t)).toLoadRect}
    {hl2 : ∀ t, (Memref.whole cc0_scratch0).view.LoadsAt (Rect.unit (s := S2048x16) (off1 t) S256x1.size (inb1 t)).toLoadRect}
    {hl3 : ∀ t, (Memref.whole cc0_stg0_0).view.LoadsAt (Rect.unit (s := S2048x1024) (off2 t) S256x1024.size (inb2 t)).toLoadRect}
    (hbody : ∀ t acc, body t acc = .op (.load (Memref.whole cc0_scratch1) (Rect.unit (s := S2048x16) (off1 t) S256x1.size (inb1 t)).toLoadRect (hl1 t)) fun a =>
      .op (.load (Memref.whole cc0_scratch0) (Rect.unit (s := S2048x16) (off1 t) S256x1.size (inb1 t)).toLoadRect (hl2 t)) fun b =>
      .op (.load (Memref.whole cc0_stg0_0) (Rect.unit (s := S2048x1024) (off2 t) S256x1024.size (inb2 t)).toLoadRect (hl3 t)) fun x =>
      .ret (k0_pay26 acc a b x)) {Q : FVec F S256x1024 .f32 → sProp 𝕄} :
    iprop(hX m ρ c ∗ hM m ρ c ∗ hR m ρ c) ⊢ iprop(((hX m ρ c ∗ hM m ρ c ∗ hR m ρ c) -∗ wpc c (.ret (bacc m ρ c k 8)) Q)
      -∗ wpc c (Scf.Loop.for l hok init body) Q) := by
  have h := bucket_for m ρ c k (hok := hok) hl hinit off1 off2 h1 h2 hbody (kk := fun a => Prog.ret a) (Q := Q)
  rwa [show (Scf.Loop.for l hok init body >>= fun a => Prog.ret a) = Scf.Loop.for l hok init body from bind_pure _] at h

/-! ## The barrier -/

theorem signal (K : Dev nD × Fin 13 → ℕ) (c : Dev nD) (j : ℕ) (hj : j < 3) {n : Dev nD} (hn : n = dst j c) {s : Sem sig} (hs : s = barS) {v : ℤ} (hv : v = ((1 : ℕ) : ℤ))
    {O O' : CellTallies nD τ sig Unit} (hO : O' = O + tallyAt (barCell (dst j c)) () 1) {α : Type}
    {k : PUnit → Prog (TpuEff nD τ sig (Elt F) Λ₀ .tc) α} {Q : α → sProp 𝕄} :
    iprop(recs m ρ K ∗ dutyTok ER (barCell (dst j c)) 0 (⟨j, hj⟩ : Fin 3) ∗ (∃ f, p8 (F := F) c (2 - j) f) ∗ (∃ f, p12 (F := F) c j f) ∗ owesE c O')
      ⊢ iprop((owesE c O -∗ wpc c (k ⟨⟩) Q) -∗ wpc c (.op (.semSignal (n, .tc) s v) k) Q) := by
  subst hn; subst hs; subst hv
  unfold owesE
  iintro ⟨#Hr, Ht, H8, H12, ⟨%W, HO⟩⟩ Hk
  ihave Hx := (recs_bar m ρ K (dst j c)) $$ Hr
  icases Hx with ⟨#Hi, #Hre⟩
  iapply (Rounds.wp_signal (defs := defs₀ (F := F)) 𝒱₀ ER (moeRd m ρ) (c : Thread nD τ) none (dst := (dst j c : Thread nD τ)) (κ := K (dst j c, 0))
      (d := (⟨j, hj⟩ : Fin 3)) (r := 0) (by rw [duties_bar]; exact Finset.mem_univ _) (amount_bar m ρ (dst j c) ⟨j, hj⟩) () O hO) $$ [HO Ht H8 H12]
  · isplitr; · iexact Hi
    isplitl [HO]; · iexact HO
    isplitl [Ht]; · iexact Ht
    isplitl [H8 H12]
    · rw [payload_bar]; unfold barPay; rw [src_dst j hj c]
      isplitl [H8]; · iexact H8
      iexact H12
    iexact Hre
  iintro HO
  iapply Hk
  iexists _; iexact HO

theorem waitBar (K : Dev nD × Fin 13 → ℕ) (c : Dev nD) {s : Sem sig} (hs : s = barS) {v : ℤ} (hv : v = ((3 : ℕ) : ℤ)) {α : Type}
    {k : PUnit → Prog (TpuEff nD τ sig (Elt F) Λ₀ .tc) α} {Q : α → sProp 𝕄} :
    iprop(recs m ρ K ∗ cred (tallyAt (barCell c) () 3) ∗ atPos ER (barCell c) 0 ∅ 0 ∗ owesE c (F0 c))
      ⊢ iprop(((owesE c (F0 c) ∗ semVal (barCell c) 0 ∗ barPay (F := F) c 0 ∗ barPay (F := F) c 1 ∗ barPay (F := F) c 2) -∗ wpc c (k ⟨⟩) Q) -∗ wpc c (.op (.semWait s v) k) Q) := by
  subst hs; subst hv
  unfold owesE
  iintro ⟨#Hr, Hc, Hat, ⟨%W, HO⟩⟩ Hk
  ihave Hx := (recs_bar m ρ K c) $$ Hr
  icases Hx with ⟨#Hi, -⟩
  iapply (Rounds.wp_wait_rest_token (defs := defs₀ (F := F)) 𝒱₀ ER (moeRd m ρ) (c : Thread nD τ) none (κ := K (c, 0))
      (wpE_semWait_eq 𝒱₀ (c : Thread nD τ) none Set.univ) (Set.mem_univ _) () (O := F0 c) (W := W) (R := 0) (m := 0) (T := ∅)
      (by rw [expect_bar])) $$ [Hc HO Hat]
  · isplitr; · iexact Hi
    isplitl [Hc]; · iexact Hc
    isplitl [HO]; · iexact HO
    isplitr
    · iapply (recs_may m ρ K c (.reg barS) (O := F0 c) (above_F0 c)) $$ Hr
    iexact Hat
  iintro ⟨HO, Hat, -, Hpay⟩
  ihave Hp := (Entails.of_eq (rest_bar m ρ c)) $$ Hpay
  imod (Rounds.cell_close ER (moeRd m ρ) (Set.mem_univ (K (c, 0))) (fun h => h) (R := 0 + 1) (duties_later m ρ (barCell c))) $$ [Hat] with Hz
  · isplitr; · iexact Hi
    iexact Hat
  iapply Hk
  isplitl [HO]; · iexists _; iexact HO
  isplitl [Hz]; · iexact Hz
  iexact Hp

end Cert.KernelIdeal.Moe
-- ==== Proof.KernelIdeal.Parts1.lean ====
/-
The parts of the body before the exchange of results: the handshake, the membership matrix and ranks, the buckets and their sends.
-/
module

public import proofs.«01_k».proof.Proof.KernelIdeal.Steps

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-- A part of the body at the buffers the launch gives it. -/
abbrev atBufs {β : Sort*} (f : ∀ (arg0 : Memref sig .tc .vmem S2048x1024 .bf16) (harg0 : arg0.IsWhole) (arg1 : Memref sig .tc .vmem S2048 .i32) (harg1 : arg1.IsWhole) (arg2 : Memref sig .tc .hbm S4x1024x2048 .bf16) (harg2 : arg2.IsWhole) (arg3 : Memref sig .tc .hbm S4x2048x1024 .bf16) (harg3 : arg3.IsWhole) (arg4 : Memref sig .tc .vmem S2048x1024 .bf16) (harg4 : arg4.IsWhole) (arg5 : Memref sig .tc .vmem S2048x16 .bf16) (harg5 : arg5.IsWhole) (arg6 : Memref sig .tc .vmem S2048x16 .bf16) (harg6 : arg6.IsWhole) (arg7 : Memref sig .tc .vmem S3x1024x1024 .bf16) (harg7 : arg7.IsWhole) (arg8 : Memref sig .tc .vmem S3x1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S3x1024x1024 .bf16) (harg11 : arg11.IsWhole) (arg12 : Memref sig .tc .vmem S3x1024x1024 .bf16) (harg12 : arg12.IsWhole) (arg13 : Memref sig .tc .vmem S2x1024x2048 .bf16) (harg13 : arg13.IsWhole) (arg14 : Memref sig .tc .vmem S2x2048x1024 .bf16) (harg14 : arg14.IsWhole) (arg15 : DmaSems sig S3) (arg16 : DmaSems sig S3) (arg17 : DmaSems sig S3) (arg18 : DmaSems sig S3) (arg19 : DmaSems sig S2) (arg20 : DmaSems sig S2), β) : β :=
  f (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15
/-- The membership matrix, tile by tile. -/
theorem mask_for (c : Dev nD) {α : Type} {kk : Unit → Prog (TpuEff nD τ sig (Elt F) Λ₀ .tc) α} {Q : α → sProp 𝕄} :
    iprop(hA m ρ c ∗ uM m ρ c 0) ⊢ iprop(((hA m ρ c ∗ hM m ρ c) -∗ wpc c (kk ⟨⟩) Q)
      -∗ wpc c (Scf.Loop.for k0_t1_loop k0_t1_ok ⟨⟩ (atBufs (k0_t1_body (F := F)) (k0_pay19 (zw c) io16 4#32 k0_pay16 k0_pay17 k0_pay18) v107w (k0_pay20 io16) (k0_pay21 io16) 0#32) >>= kk) Q) := by
  iintro H Hk
  iapply (Scf.wp_for_bind frame (wpE (defs₀ (F := F)) 𝒱₀ (c : Thread nD τ) none) Set.univ k0_t1_loop.lb k0_t1_loop.ub k0_t1_loop.st k0_t1_ok ⟨⟩ _
    (fun n _ => iprop(hA m ρ c ∗ uM m ρ c n)) (fun t acc => by
      unfold k0_t1_body
      simp only [Prog.lift, Prog.bind_op, Prog.bind_ret, Prog.pure_eq_ret]
      iintro ⟨HA, HM⟩
      iapply (getA m ρ c t.val (off := k0_off1 t) (k0_off1_eq t)) $$ HA
      iintro HA
      iapply (dumM m ρ c t.val) $$ HM
      iintro %v HM
      iapply (stoM m ρ c t.val (lt_of_lt_of_le t.isLt k0_t1_abs.2.1) (off := k0_off2 t) (k0_off2_eq t) rfl) $$ HM
      iintro HM
      iapply wpc_ret
      isplitl [HA]; · iexact HA
      iexact HM)) $$ [H]
  · iexact H
  iintro %acc ⟨HA, HM⟩
  iapply Hk
  isplitl [HA]; · iexact HA
  rw [show Scf.trips k0_t1_loop.lb k0_t1_loop.ub k0_t1_loop.st = 8 from by decide]
  iapply (uM_full m ρ c) $$ HM

/-- The ranks, tile by tile. -/
theorem rank_for (c : Dev nD) (v105 : IVec S1x16 32) (v107 : BitVec 32) (v109 : IVec S1x16 32) (v111 : IVec S1x16 1) (w : BitVec 32) {α : Type} {kk : Unit → Prog (TpuEff nD τ sig (Elt F) Λ₀ .tc) α} {Q : α → sProp 𝕄} :
    iprop(hM m ρ c ∗ uR m ρ c 0) ⊢ iprop(((hM m ρ c ∗ hR m ρ c) -∗ wpc c (kk ⟨⟩) Q)
      -∗ wpc c (Scf.Loop.for k0_t2_loop k0_t2_ok ⟨⟩ (atBufs (k0_t2_body (F := F)) v105 v107 v109 v111 w) >>= kk) Q) := by
  iintro H Hk
  iapply (Scf.wp_for_bind frame (wpE (defs₀ (F := F)) 𝒱₀ (c : Thread nD τ) none) Set.univ k0_t2_loop.lb k0_t2_loop.ub k0_t2_loop.st k0_t2_ok ⟨⟩ _
    (fun n _ => iprop(hM m ρ c ∗ uR m ρ c n)) (fun t acc => by
      unfold k0_t2_body
      simp only [Prog.lift, Prog.bind_op, Prog.bind_ret, Prog.pure_eq_ret]
      iintro ⟨HM, HR⟩
      iapply (getM_all m ρ c) $$ HM
      iintro HM
      iapply (dumR m ρ c t.val) $$ HR
      iintro %v HR
      iapply (stoR m ρ c t.val (lt_of_lt_of_le t.isLt k0_t2_abs.2.1) (off := k0_off3 t) (k0_off3_eq t)
        (show k0_pay24 t (MaskF m ρ c) = rankTile m ρ c t.val from congrArg (fun s => k0_pay24 s (MaskF m ρ c)) (Fin.ext (Nat.mod_eq_of_lt t.isLt).symm))) $$ HR
      iintro HR
      iapply wpc_ret
      isplitl [HM]; · iexact HM
      iexact HR)) $$ [H]
  · iexact H
  iintro %acc ⟨HM, HR⟩
  iapply Hk
  isplitl [HM]; · iexact HM
  rw [show Scf.trips k0_t2_loop.lb k0_t2_loop.ub k0_t2_loop.st = 8 from by decide]
  iapply (uR_full m ρ c) $$ HR

/-- The handshake's first signal. -/
theorem part8_run (K : Dev nD × Fin 13 → ℕ) (c : Dev nD) :
    iprop(recs m ρ K ∗ dutyTok ER (barCell (dst 0 c)) 0 (⟨0, by decide⟩ : Fin 3) ∗ (∃ f, p8 (F := F) c 2 f) ∗ (∃ f, p12 (F := F) c 0 f) ∗ owesE c (O₀ c))
      ⊢ wpc c (atBufs (k0_part8 (F := F))) (fun r => iprop(⌜∃ (v2 v5 v29 v30 : BitVec 32) (v31 v32 : BitVec 1), r = ⟨c, v2, v5, zw c, SemArray.scalar (sig.barrier 0 rfl), v29, v30, v31, v32, 0#32⟩⌝ ∗ owesE c (B1 c))) := by
  simp only [k0_part8_eq_skeleton]
  unfold k0_part8_skel
  simp only [semSignalWord, Prog.lift, Prog.bind_op, Prog.bind_ret, Prog.pure_eq_ret]
  unfold wpc
  rw [wp_deviceId]
  iintro ⟨#Hrec, Ht, H8, H12, How⟩
  iapply (signal m ρ K c 0 (by decide) (dev1_eq c) rfl rfl (O := B1 c) (O' := O₀ c) rfl) $$ [Ht H8 H12 How]
  · isplitr; · iexact Hrec
    isplitl [Ht]; · iexact Ht
    isplitl [H8]; · iexact H8
    isplitl [H12]; · iexact H12
    iexact How
  iintro How
  iapply wpc_ret
  isplitr; · ipureintro; exact ⟨_, _, _, _, _, _, rfl⟩
  iexact How

/-- The other two signals and the wait for the three peers. -/
theorem part9_run (K : Dev nD × Fin 13 → ℕ) (c : Dev nD) (v2 v5 v8 v29 v30 : BitVec 32) (v31 v32 : BitVec 1) (w : BitVec 32) :
    iprop(recs m ρ K ∗ dutyTok ER (barCell (dst 1 c)) 0 (⟨1, by decide⟩ : Fin 3) ∗ (∃ f, p8 (F := F) c 1 f) ∗ (∃ f, p12 (F := F) c 1 f)
        ∗ dutyTok ER (barCell (dst 2 c)) 0 (⟨2, by decide⟩ : Fin 3) ∗ (∃ f, p8 (F := F) c 0 f) ∗ (∃ f, p12 (F := F) c 2 f)
        ∗ cred (tallyAt (barCell c) () 3) ∗ atPos ER (barCell c) 0 ∅ 0 ∗ owesE c (B1 c))
      ⊢ wpc c (atBufs (k0_part9 (F := F)) c v2 v5 v8 (SemArray.scalar (sig.barrier 0 rfl)) v29 v30 v31 v32 w) (fun r => iprop(⌜r = ⟨io16, 4#32, k0_pay16, k0_pay17, k0_pay18⟩⌝
        ∗ (owesE c (F0 c) ∗ semVal (barCell c) 0 ∗ (∃ f, p8 (F := F) (dst 0 c) 0 f) ∗ (∃ f, p8 (F := F) (dst 1 c) 1 f) ∗ (∃ f, p8 (F := F) (dst 2 c) 2 f)
          ∗ (∃ f, p12 (F := F) (src 0 c) 0 f) ∗ (∃ f, p12 (F := F) (src 1 c) 1 f) ∗ (∃ f, p12 (F := F) (src 2 c) 2 f)))) := by
  simp only [k0_part9_eq_skeleton]
  unfold k0_part9_skel
  simp only [semSignalWord, semWaitWord, Prog.lift, Prog.bind_op, Prog.bind_ret, Prog.pure_eq_ret]
  iintro ⟨#Hrec, Ht1, H81, H121, Ht2, H82, H122, Hc, Hat, How⟩
  iapply (signal m ρ K c 1 (by decide) (dev2_eq c) rfl rfl (O := B2 c) (O' := B1 c) rfl) $$ [Ht1 H81 H121 How]
  · isplitr; · iexact Hrec
    isplitl [Ht1]; · iexact Ht1
    isplitl [H81]; · iexact H81
    isplitl [H121]; · iexact H121
    iexact How
  iintro How
  iapply (signal m ρ K c 2 (by decide) (dev3_eq c) rfl rfl (O := F0 c) (O' := B2 c) rfl) $$ [Ht2 H82 H122 How]
  · isplitr; · iexact Hrec
    isplitl [Ht2]; · iexact Ht2
    isplitl [H82]; · iexact H82
    isplitl [H122]; · iexact H122
    iexact How
  iintro How
  iapply (waitBar m ρ K c rfl rfl) $$ [Hc Hat How]
  · isplitr; · iexact Hrec
    isplitl [Hc]; · iexact Hc
    isplitl [Hat]; · iexact Hat
    iexact How
  unfold barPay
  iintro ⟨How, Hz, ⟨H80, H120⟩, ⟨H81, H121⟩, ⟨H82, H122⟩⟩
  iapply wpc_ret
  isplitr; · ipureintro; rfl
  isplitl [How]; · iexact How
  isplitl [Hz]; · iexact Hz
  isplitl [H82]
  · rw [src_eq_dst 2 (by decide) c]; iexact H82
  isplitl [H81]
  · rw [src_eq_dst 1 (by decide) c]; iexact H81
  isplitl [H80]
  · rw [src_eq_dst 0 (by decide) c]; iexact H80
  isplitl [H120]; · iexact H120
  isplitl [H121]; · iexact H121
  iexact H122

theorem part10_run (c : Dev nD) (P : sProp 𝕄) :
    P ⊢ wpc c (atBufs (k0_part10 (F := F)) (zw c) io16 4#32 k0_pay16 k0_pay17 k0_pay18) (fun r => iprop(⌜r = ⟨k0_pay19 (zw c) io16 4#32 k0_pay16 k0_pay17 k0_pay18, v107w, k0_pay20 io16, k0_pay21 io16, 0#32⟩⌝ ∗ P)) := by
  simp only [k0_part10_eq_skeleton]
  unfold k0_part10_skel
  simp only [Prog.lift, Prog.bind_op, Prog.bind_ret, Prog.pure_eq_ret]
  iintro H
  iapply wpc_ret
  isplitr; · ipureintro; rfl
  iexact H

/-- The membership matrix, the ranks and the first two buckets. -/
theorem part11_run (c : Dev nD)  :
    iprop(hA m ρ c ∗ hX m ρ c ∗ uM m ρ c 0 ∗ uR m ρ c 0 ∗ u7 m ρ c 0 0)
      ⊢ wpc c (atBufs (k0_part11 (F := F)) (k0_pay19 (zw c) io16 4#32 k0_pay16 k0_pay17 k0_pay18) v107w (k0_pay20 io16) (k0_pay21 io16) 0#32) (fun r => iprop(⌜r = ⟨k0_pay22 (F := F), Scalar.ofBits .f32 0x00000000#32⟩⌝ ∗ (hA m ρ c ∗ hX m ρ c ∗ hM m ρ c ∗ hR m ρ c ∗ u7 m ρ c 0 2))) := by
  simp only [k0_part11_eq_skeleton]
  unfold k0_part11_skel
  simp only [Prog.lift, Prog.bind_op, Prog.bind_ret, Prog.pure_eq_ret]
  iintro ⟨HA, HX, HM, HR, Hs7x0⟩
  iapply (mask_for m ρ c) $$ [HA HM]
  · isplitl [HA]; · iexact HA
    iexact HM
  iintro ⟨HA, HM⟩
  iapply (rank_for m ρ c) $$ [HM HR]
  · isplitl [HM]; · iexact HM
    iexact HR
  iintro ⟨HM, HR⟩
  iapply (bucket_for m ρ c 4 (l := k0_t3_loop) (by decide) rfl k0_off4 k0_off5 k0_off4_eq k0_off5_eq (fun _ _ => rfl)) $$ [HX HM HR]
  · isplitl [HX]; · iexact HX
    isplitl [HM]; · iexact HM
    iexact HR
  iintro ⟨HX, HM, HR⟩
  iapply (dum7 m ρ c 0 0 0 (off := ![0, 0, 0]) rfl) $$ Hs7x0
  iintro %v Hs7x0
  iapply (sto7 m ρ c 0 0 (by decide) (by decide) (off := ![0, 0, 0]) rfl rfl) $$ Hs7x0
  iintro Hs7x0
  iapply (bucket_for m ρ c 5 (l := k0_t4_loop) (by decide) rfl k0_off6 k0_off7 k0_off6_eq k0_off7_eq (fun _ _ => rfl)) $$ [HX HM HR]
  · isplitl [HX]; · iexact HX
    isplitl [HM]; · iexact HM
    iexact HR
  iintro ⟨HX, HM, HR⟩
  iapply (dum7 m ρ c 0 1 1 (off := ![0, 256, 0]) rfl) $$ Hs7x0
  iintro %v Hs7x0
  iapply (sto7 m ρ c 0 1 (by decide) (by decide) (off := ![0, 256, 0]) rfl rfl) $$ Hs7x0
  iintro Hs7x0
  iapply wpc_ret
  isplitr; · ipureintro; rfl
  isplitl [HA]; · iexact HA
  isplitl [HX]; · iexact HX
  isplitl [HM]; · iexact HM
  isplitl [HR]; · iexact HR
  iexact Hs7x0

theorem part12_run (c : Dev nD) (v2 : BitVec 32) (v5 : BitVec 32) (v8 : BitVec 32) :
    iprop(hX m ρ c ∗ hM m ρ c ∗ hR m ρ c ∗ u7 m ρ c 0 2)
      ⊢ wpc c (atBufs (k0_part12 (F := F)) v2 v5 v8 (k0_pay22 (F := F)) (Scalar.ofBits .f32 0x00000000#32 : F .f32)) (fun _ => iprop(hX m ρ c ∗ hM m ρ c ∗ hR m ρ c ∗ p7 c 0 (SendF m ρ c))) := by
  simp only [k0_part12_eq_skeleton]
  unfold k0_part12_skel
  simp only [Prog.lift, Prog.bind_op, Prog.bind_ret, Prog.pure_eq_ret]
  iintro ⟨HX, HM, HR, Hs7x0⟩
  iapply (bucket_for m ρ c 6 (l := k0_t5_loop) (by decide) rfl k0_off8 k0_off9 k0_off8_eq k0_off9_eq (fun _ _ => rfl)) $$ [HX HM HR]
  · isplitl [HX]; · iexact HX
    isplitl [HM]; · iexact HM
    iexact HR
  iintro ⟨HX, HM, HR⟩
  iapply (dum7 m ρ c 0 2 2 (off := ![0, 512, 0]) rfl) $$ Hs7x0
  iintro %v Hs7x0
  iapply (sto7 m ρ c 0 2 (by decide) (by decide) (off := ![0, 512, 0]) rfl rfl) $$ Hs7x0
  iintro Hs7x0
  iapply (bucket_for m ρ c 7 (l := k0_t6_loop) (by decide) rfl k0_off10 k0_off11 k0_off10_eq k0_off11_eq (fun _ _ => rfl)) $$ [HX HM HR]
  · isplitl [HX]; · iexact HX
    isplitl [HM]; · iexact HM
    iexact HR
  iintro ⟨HX, HM, HR⟩
  iapply (dum7 m ρ c 0 3 3 (off := ![0, 768, 0]) rfl) $$ Hs7x0
  iintro %v Hs7x0
  iapply (sto7 m ρ c 0 3 (by decide) (by decide) (off := ![0, 768, 0]) rfl rfl) $$ Hs7x0
  iintro Hs7x0
  ihave Hs7x0 := (u7_full m ρ c 0) $$ Hs7x0
  iapply wpc_ret
  isplitl [HX]; · iexact HX
  isplitl [HM]; · iexact HM
  isplitl [HR]; · iexact HR
  iexact Hs7x0

theorem part13_run (K : Dev nD × Fin 13 → ℕ) (c : Dev nD) (v166 : BitVec 32) (v170 : BitVec 32) :
    iprop(recs m ρ K ∗ owesE c (F0 c) ∗ tF c 0 ∗ p7 c 0 (SendF m ρ c) ∗ (∃ f, p8 (F := F) (dst 0 c) 0 f) ∗ hX m ρ c ∗ hM m ρ c ∗ hR m ρ c ∗ u7 m ρ c 1 0)
      ⊢ wpc c (atBufs (k0_part13 (F := F)) c (k0_pay22 (F := F)) v166 v170) (fun r => iprop(⌜r = (k0_pay45 (bacc m ρ c 10 8))⌝ ∗ (owesE c (F1 c) ∗ wt c 3 ∗ hX m ρ c ∗ hM m ρ c ∗ hR m ρ c ∗ u7 m ρ c 1 2))) := by
  simp only [k0_part13_eq_skeleton]
  unfold k0_part13_skel
  simp only [Prog.lift, Prog.bind_op, Prog.bind_ret, Prog.pure_eq_ret]
  iintro ⟨#Hrec, How, HtF0, Hs7x0, Hd8x0, HX, HM, HR, Hs7x1⟩
  iapply (sendF m ρ K c 0 (by decide) (dev4_eq c) (O := F1 c) (O' := F0 c) rfl rfl rfl) $$ [HtF0 Hs7x0 Hd8x0 How]
  · isplitr; · iexact Hrec
    isplitl [HtF0]; · iexact HtF0
    isplitl [Hs7x0]; · iexact Hs7x0
    isplitl [Hd8x0]; · iexact Hd8x0
    iexact How
  iintro ⟨Hwt3, How⟩
  iapply (bucket_for m ρ c 8 (l := k0_t7_loop) (by decide) rfl k0_off12 k0_off13 k0_off12_eq k0_off13_eq (fun _ _ => rfl)) $$ [HX HM HR]
  · isplitl [HX]; · iexact HX
    isplitl [HM]; · iexact HM
    iexact HR
  iintro ⟨HX, HM, HR⟩
  iapply (dum7 m ρ c 1 0 0 (off := ![1, 0, 0]) rfl) $$ Hs7x1
  iintro %v Hs7x1
  iapply (sto7 m ρ c 1 0 (by decide) (by decide) (off := ![1, 0, 0]) rfl rfl) $$ Hs7x1
  iintro Hs7x1
  iapply (bucket_for m ρ c 9 (l := k0_t8_loop) (by decide) rfl k0_off14 k0_off15 k0_off14_eq k0_off15_eq (fun _ _ => rfl)) $$ [HX HM HR]
  · isplitl [HX]; · iexact HX
    isplitl [HM]; · iexact HM
    iexact HR
  iintro ⟨HX, HM, HR⟩
  iapply (dum7 m ρ c 1 1 1 (off := ![1, 256, 0]) rfl) $$ Hs7x1
  iintro %v Hs7x1
  iapply (sto7 m ρ c 1 1 (by decide) (by decide) (off := ![1, 256, 0]) rfl rfl) $$ Hs7x1
  iintro Hs7x1
  iapply (bucket_for m ρ c 10 (l := k0_t9_loop) (by decide) rfl k0_off16 k0_off17 k0_off16_eq k0_off17_eq (fun _ _ => rfl)) $$ [HX HM HR]
  · isplitl [HX]; · iexact HX
    isplitl [HM]; · iexact HM
    iexact HR
  iintro ⟨HX, HM, HR⟩
  iapply wpc_ret
  isplitr; · ipureintro; rfl
  isplitl [How]; · iexact How
  isplitl [Hwt3]; · iexact Hwt3
  isplitl [HX]; · iexact HX
  isplitl [HM]; · iexact HM
  isplitl [HR]; · iexact HR
  iexact Hs7x1

theorem part14_run (c : Dev nD) (v2 : BitVec 32) (v5 : BitVec 32) (v8 : BitVec 32) :
    iprop(u7 m ρ c 1 2 ∗ hX m ρ c ∗ hM m ρ c ∗ hR m ρ c)
      ⊢ wpc c (atBufs (k0_part14 (F := F)) v2 v5 v8 (k0_pay22 (F := F)) (k0_pay45 (bacc m ρ c 10 8))) (fun _ => iprop(p7 c 1 (SendF m ρ c) ∗ hX m ρ c ∗ hM m ρ c ∗ hR m ρ c)) := by
  simp only [k0_part14_eq_skeleton]
  unfold k0_part14_skel
  simp only [Prog.lift, Prog.bind_op, Prog.bind_ret, Prog.pure_eq_ret]
  iintro ⟨Hs7x1, HX, HM, HR⟩
  iapply (dum7 m ρ c 1 2 2 (off := ![1, 512, 0]) rfl) $$ Hs7x1
  iintro %v Hs7x1
  iapply (sto7 m ρ c 1 2 (by decide) (by decide) (off := ![1, 512, 0]) rfl rfl) $$ Hs7x1
  iintro Hs7x1
  iapply (bucket_for m ρ c 11 (l := k0_t10_loop) (by decide) rfl k0_off18 k0_off19 k0_off18_eq k0_off19_eq (fun _ _ => rfl)) $$ [HX HM HR]
  · isplitl [HX]; · iexact HX
    isplitl [HM]; · iexact HM
    iexact HR
  iintro ⟨HX, HM, HR⟩
  iapply (dum7 m ρ c 1 3 3 (off := ![1, 768, 0]) rfl) $$ Hs7x1
  iintro %v Hs7x1
  iapply (sto7 m ρ c 1 3 (by decide) (by decide) (off := ![1, 768, 0]) rfl rfl) $$ Hs7x1
  iintro Hs7x1
  ihave Hs7x1 := (u7_full m ρ c 1) $$ Hs7x1
  iapply wpc_ret
  isplitl [Hs7x1]; · iexact Hs7x1
  isplitl [HX]; · iexact HX
  isplitl [HM]; · iexact HM
  iexact HR

theorem part15_run (K : Dev nD × Fin 13 → ℕ) (c : Dev nD)  :
    iprop(recs m ρ K ∗ owesE c (F1 c) ∗ tF c 1 ∗ p7 c 1 (SendF m ρ c) ∗ (∃ f, p8 (F := F) (dst 1 c) 1 f) ∗ hX m ρ c ∗ hM m ρ c ∗ hR m ρ c ∗ u7 m ρ c 2 0)
      ⊢ wpc c (atBufs (k0_part15 (F := F)) c (k0_pay22 (F := F))) (fun r => iprop(⌜r = (bacc m ρ c 15 8)⌝ ∗ (owesE c (F2 c) ∗ wt c 4 ∗ hX m ρ c ∗ hM m ρ c ∗ hR m ρ c ∗ u7 m ρ c 2 3))) := by
  simp only [k0_part15_eq_skeleton]
  unfold k0_part15_skel
  simp only [Prog.lift, Prog.bind_op, Prog.bind_ret, Prog.pure_eq_ret]
  iintro ⟨#Hrec, How, HtF1, Hs7x1, Hd8x1, HX, HM, HR, Hs7x2⟩
  iapply (sendF m ρ K c 1 (by decide) (dev5_eq c) (O := F2 c) (O' := F1 c) rfl rfl rfl) $$ [HtF1 Hs7x1 Hd8x1 How]
  · isplitr; · iexact Hrec
    isplitl [HtF1]; · iexact HtF1
    isplitl [Hs7x1]; · iexact Hs7x1
    isplitl [Hd8x1]; · iexact Hd8x1
    iexact How
  iintro ⟨Hwt4, How⟩
  iapply (bucket_for m ρ c 12 (l := k0_t11_loop) (by decide) rfl k0_off20 k0_off21 k0_off20_eq k0_off21_eq (fun _ _ => rfl)) $$ [HX HM HR]
  · isplitl [HX]; · iexact HX
    isplitl [HM]; · iexact HM
    iexact HR
  iintro ⟨HX, HM, HR⟩
  iapply (dum7 m ρ c 2 0 0 (off := ![2, 0, 0]) rfl) $$ Hs7x2
  iintro %v Hs7x2
  iapply (sto7 m ρ c 2 0 (by decide) (by decide) (off := ![2, 0, 0]) rfl rfl) $$ Hs7x2
  iintro Hs7x2
  iapply (bucket_for m ρ c 13 (l := k0_t12_loop) (by decide) rfl k0_off22 k0_off23 k0_off22_eq k0_off23_eq (fun _ _ => rfl)) $$ [HX HM HR]
  · isplitl [HX]; · iexact HX
    isplitl [HM]; · iexact HM
    iexact HR
  iintro ⟨HX, HM, HR⟩
  iapply (dum7 m ρ c 2 1 1 (off := ![2, 256, 0]) rfl) $$ Hs7x2
  iintro %v Hs7x2
  iapply (sto7 m ρ c 2 1 (by decide) (by decide) (off := ![2, 256, 0]) rfl rfl) $$ Hs7x2
  iintro Hs7x2
  iapply (bucket_for m ρ c 14 (l := k0_t13_loop) (by decide) rfl k0_off24 k0_off25 k0_off24_eq k0_off25_eq (fun _ _ => rfl)) $$ [HX HM HR]
  · isplitl [HX]; · iexact HX
    isplitl [HM]; · iexact HM
    iexact HR
  iintro ⟨HX, HM, HR⟩
  iapply (dum7 m ρ c 2 2 2 (off := ![2, 512, 0]) rfl) $$ Hs7x2
  iintro %v Hs7x2
  iapply (sto7 m ρ c 2 2 (by decide) (by decide) (off := ![2, 512, 0]) rfl rfl) $$ Hs7x2
  iintro Hs7x2
  iapply (bucket_end m ρ c 15 (l := k0_t14_loop) (by decide) rfl k0_off26 k0_off27 k0_off26_eq k0_off27_eq (fun _ _ => rfl)) $$ [HX HM HR]
  · isplitl [HX]; · iexact HX
    isplitl [HM]; · iexact HM
    iexact HR
  iintro ⟨HX, HM, HR⟩
  iapply wpc_ret
  isplitr; · ipureintro; rfl
  isplitl [How]; · iexact How
  isplitl [Hwt4]; · iexact Hwt4
  isplitl [HX]; · iexact HX
  isplitl [HM]; · iexact HM
  isplitl [HR]; · iexact HR
  iexact Hs7x2

theorem part16_run (K : Dev nD × Fin 13 → ℕ) (c : Dev nD) (v2 : BitVec 32) (v5 : BitVec 32) (v8 : BitVec 32) :
    iprop(recs m ρ K ∗ u7 m ρ c 2 3 ∗ owesE c (F2 c) ∗ tF c 2 ∗ (∃ f, p8 (F := F) (dst 2 c) 2 f))
      ⊢ wpc c (atBufs (k0_part16 (F := F)) c v2 v5 v8 (bacc m ρ c 15 8)) (fun r => iprop(⌜∃ v, r = ⟨v, k0_pay62, 0#32, 1#32⟩⌝ ∗ (owesE c (R0 c) ∗ wt c 5))) := by
  simp only [k0_part16_eq_skeleton]
  unfold k0_part16_skel
  simp only [Prog.lift, Prog.bind_op, Prog.bind_ret, Prog.pure_eq_ret]
  iintro ⟨#Hrec, Hs7x2, How, HtF2, Hd8x2⟩
  iapply (dum7 m ρ c 2 3 3 (off := ![2, 768, 0]) rfl) $$ Hs7x2
  iintro %v Hs7x2
  iapply (sto7 m ρ c 2 3 (by decide) (by decide) (off := ![2, 768, 0]) rfl rfl) $$ Hs7x2
  iintro Hs7x2
  ihave Hs7x2 := (u7_full m ρ c 2) $$ Hs7x2
  iapply (sendF m ρ K c 2 (by decide) (dev6_eq c) (O := R0 c) (O' := F2 c) rfl rfl rfl) $$ [HtF2 Hs7x2 Hd8x2 How]
  · isplitr; · iexact Hrec
    isplitl [HtF2]; · iexact HtF2
    isplitl [Hs7x2]; · iexact Hs7x2
    isplitl [Hd8x2]; · iexact Hd8x2
    iexact How
  iintro ⟨Hwt5, How⟩
  iapply wpc_ret
  isplitr; · ipureintro; exact ⟨_, rfl⟩
  isplitl [How]; · iexact How
  iexact Hwt5

theorem part17_run (c : Dev nD) (c0_i32_212 : BitVec 32) (c1_i32_214 : BitVec 32) :
    iprop(hX m ρ c ∗ hM m ρ c ∗ hR m ρ c ∗ uOwn m ρ c 0)
      ⊢ wpc c (atBufs (k0_part17 (F := F)) (k0_pay22 (F := F)) (k0_pay62 (F := F)) c0_i32_212 c1_i32_214) (fun _ => iprop(hX m ρ c ∗ hM m ρ c ∗ hR m ρ c ∗ hOwn m ρ c)) := by
  simp only [k0_part17_eq_skeleton]
  unfold k0_part17_skel
  simp only [Prog.lift, Prog.bind_op, Prog.bind_ret, Prog.pure_eq_ret]
  iintro ⟨HX, HM, HR, HOwn⟩
  iapply (bucket_for m ρ c 0 (l := k0_t15_loop) (by decide) rfl k0_off28 k0_off29 k0_off28_eq k0_off29_eq (fun _ _ => rfl)) $$ [HX HM HR]
  · isplitl [HX]; · iexact HX
    isplitl [HM]; · iexact HM
    iexact HR
  iintro ⟨HX, HM, HR⟩
  iapply (dumOwn m ρ c 0) $$ HOwn
  iintro %v HOwn
  iapply (stoOwn m ρ c 0 (by decide) (off := ![0, 0]) rfl rfl) $$ HOwn
  iintro HOwn
  iapply (bucket_for m ρ c 1 (l := k0_t16_loop) (by decide) rfl k0_off30 k0_off31 k0_off30_eq k0_off31_eq (fun _ _ => rfl)) $$ [HX HM HR]
  · isplitl [HX]; · iexact HX
    isplitl [HM]; · iexact HM
    iexact HR
  iintro ⟨HX, HM, HR⟩
  iapply (dumOwn m ρ c 1) $$ HOwn
  iintro %v HOwn
  iapply (stoOwn m ρ c 1 (by decide) (off := ![256, 0]) rfl rfl) $$ HOwn
  iintro HOwn
  iapply (bucket_for m ρ c 2 (l := k0_t17_loop) (by decide) rfl k0_off32 k0_off33 k0_off32_eq k0_off33_eq (fun _ _ => rfl)) $$ [HX HM HR]
  · isplitl [HX]; · iexact HX
    isplitl [HM]; · iexact HM
    iexact HR
  iintro ⟨HX, HM, HR⟩
  iapply (dumOwn m ρ c 2) $$ HOwn
  iintro %v HOwn
  iapply (stoOwn m ρ c 2 (by decide) (off := ![512, 0]) rfl rfl) $$ HOwn
  iintro HOwn
  iapply (bucket_for m ρ c 3 (l := k0_t18_loop) (by decide) rfl k0_off34 k0_off35 k0_off34_eq k0_off35_eq (fun _ _ => rfl)) $$ [HX HM HR]
  · isplitl [HX]; · iexact HX
    isplitl [HM]; · iexact HM
    iexact HR
  iintro ⟨HX, HM, HR⟩
  iapply (dumOwn m ρ c 3) $$ HOwn
  iintro %v HOwn
  iapply (stoOwn m ρ c 3 (by decide) (off := ![768, 0]) rfl rfl) $$ HOwn
  iintro HOwn
  ihave HOwn := (uOwn_full m ρ c) $$ HOwn
  iapply wpc_ret
  isplitl [HX]; · iexact HX
  isplitl [HM]; · iexact HM
  isplitl [HR]; · iexact HR
  iexact HOwn

end Cert.KernelIdeal.Moe
-- ==== Proof.KernelIdeal.Parts2.lean ====
/-
The parts of the body that run the device's own buckets through the two layers.
-/
module

public import proofs.«01_k».proof.Proof.KernelIdeal.Parts1

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
theorem part18_run (c : Dev nD)  :
    iprop(q1 m c 0 ∗ (∃ f, w1 (F := F) c 0 f) ∗ z c 15 ∗ q2 m c 0 ∗ (∃ f, w2 (F := F) c 0 f) ∗ z c 17 ∗ q1 m c 1 ∗ (∃ f, w1 (F := F) c 1 f) ∗ z c 16 ∗ q2 m c 1 ∗ (∃ f, w2 (F := F) c 1 f) ∗ z c 18)
      ⊢ wpc c (atBufs (k0_part18 (F := F)) ) (fun _ => iprop(fl1 m c 0 0 ∗ fl2 m c 0 0 ∗ fl1 m c 1 1 ∗ fl2 m c 1 1)) := by
  simp only [k0_part18_eq_skeleton]
  unfold k0_part18_skel
  simp only [Prog.lift, Prog.bind_op, Prog.bind_ret, Prog.pure_eq_ret]
  iintro ⟨Hq1x0, Hw1x0, Hz15, Hq2x0, Hw2x0, Hz17, Hq1x1, Hw1x1, Hz16, Hq2x1, Hw2x1, Hz18⟩
  iapply (start1 m c 0 0 (by decide) (by decide) rfl) $$ [Hq1x0 Hw1x0 Hz15]
  · isplitl [Hq1x0]; · iexact Hq1x0
    isplitl [Hw1x0]; · iexact Hw1x0
    iexact Hz15
  iintro Hf1x0
  iapply (start2 m c 0 0 (by decide) (by decide) rfl) $$ [Hq2x0 Hw2x0 Hz17]
  · isplitl [Hq2x0]; · iexact Hq2x0
    isplitl [Hw2x0]; · iexact Hw2x0
    iexact Hz17
  iintro Hf2x0
  iapply (start1 m c 1 1 (by decide) (by decide) rfl) $$ [Hq1x1 Hw1x1 Hz16]
  · isplitl [Hq1x1]; · iexact Hq1x1
    isplitl [Hw1x1]; · iexact Hw1x1
    iexact Hz16
  iintro Hf1x1
  iapply (start2 m c 1 1 (by decide) (by decide) rfl) $$ [Hq2x1 Hw2x1 Hz18]
  · isplitl [Hq2x1]; · iexact Hq2x1
    isplitl [Hw2x1]; · iexact Hw2x1
    iexact Hz18
  iintro Hf2x1
  iapply wpc_ret
  isplitl [Hf1x0]; · iexact Hf1x0
  isplitl [Hf2x0]; · iexact Hf2x0
  isplitl [Hf1x1]; · iexact Hf1x1
  iexact Hf2x1

theorem part19_run (K : Dev nD × Fin 13 → ℕ) (c : Dev nD)  :
    iprop(recs m ρ K ∗ owesE c (R0 c) ∗ fl1 m c 0 0 ∗ fl2 m c 0 0 ∗ hOwn m ρ c ∗ uY m ρ c 0 ∗ q1 m c 2)
      ⊢ wpc c (atBufs (k0_part19 (F := F)) ) (fun _ => iprop(owesE c (R0 c) ∗ fl1 m c 0 2 ∗ q1 m c 0 ∗ w2 c 0 (WB2 m c 0) ∗ q2 m c 0 ∗ z c 17 ∗ hOwn m ρ c ∗ uY m ρ c 1)) := by
  simp only [k0_part19_eq_skeleton]
  unfold k0_part19_skel
  simp only [Prog.lift, Prog.bind_op, Prog.bind_ret, Prog.pure_eq_ret]
  iintro ⟨#Hrec, How, Hf1x0, Hf2x0, HOwn, HY, Hq1x2⟩
  iapply (wait1 m ρ K c 0 0 (by decide) (O := R0 c) ((above_R0 c).mono (by decide)) rfl rfl) $$ [Hf1x0 How]
  · isplitr; · iexact Hrec
    isplitl [Hf1x0]; · iexact Hf1x0
    iexact How
  iintro ⟨Hw1x0, Hq1x0, Hz15, How⟩
  iapply (wait2 m ρ K c 0 0 (by decide) (O := R0 c) ((above_R0 c).mono (by decide)) rfl rfl) $$ [Hf2x0 How]
  · isplitr; · iexact Hrec
    isplitl [Hf2x0]; · iexact Hf2x0
    iexact How
  iintro ⟨Hw2x0, Hq2x0, Hz17, How⟩
  iapply (getOwn m ρ c 0 (off := ![0, 0]) rfl) $$ HOwn
  iintro HOwn
  iapply (getW1 m c 0 0 (off := ![0, 0, 0]) rfl) $$ Hw1x0
  iintro Hw1x0
  iapply (getW2 m c 0 0 (off := ![0, 0, 0]) rfl) $$ Hw2x0
  iintro Hw2x0
  iapply (dumY m ρ c 0) $$ HY
  iintro %v HY
  iapply (stoY m ρ c 0 (by decide) (off := ![0, 0]) rfl rfl) $$ HY
  iintro HY
  iapply (start1 m c 0 2 (by decide) (by decide) rfl) $$ [Hq1x2 Hw1x0 Hz15]
  · isplitl [Hq1x2]; · iexact Hq1x2
    isplitl [Hw1x0]; · iexists (WB1 m c 0); iexact Hw1x0
    iexact Hz15
  iintro Hf1x0
  iapply wpc_ret
  isplitl [How]; · iexact How
  isplitl [Hf1x0]; · iexact Hf1x0
  isplitl [Hq1x0]; · iexact Hq1x0
  isplitl [Hw2x0]; · iexact Hw2x0
  isplitl [Hq2x0]; · iexact Hq2x0
  isplitl [Hz17]; · iexact Hz17
  isplitl [HOwn]; · iexact HOwn
  iexact HY

theorem part20_run (K : Dev nD × Fin 13 → ℕ) (c : Dev nD)  :
    iprop(recs m ρ K ∗ q2 m c 2 ∗ w2 c 0 (WB2 m c 0) ∗ z c 17 ∗ owesE c (R0 c) ∗ fl1 m c 1 1 ∗ fl2 m c 1 1 ∗ hOwn m ρ c)
      ⊢ wpc c (atBufs (k0_part20 (F := F)) ) (fun r => iprop(⌜r = ⟨k0_pay75 (oblk m ρ c 1) (w1v m c 1), (w2v m c 1)⟩⌝ ∗ (fl2 m c 0 2 ∗ owesE c (R0 c) ∗ w1 c 1 (WB1 m c 1) ∗ q1 m c 1 ∗ z c 16 ∗ w2 c 1 (WB2 m c 1) ∗ q2 m c 1 ∗ z c 18 ∗ hOwn m ρ c))) := by
  simp only [k0_part20_eq_skeleton]
  unfold k0_part20_skel
  simp only [Prog.lift, Prog.bind_op, Prog.bind_ret, Prog.pure_eq_ret]
  iintro ⟨#Hrec, Hq2x2, Hw2x0, Hz17, How, Hf1x1, Hf2x1, HOwn⟩
  iapply (start2 m c 0 2 (by decide) (by decide) rfl) $$ [Hq2x2 Hw2x0 Hz17]
  · isplitl [Hq2x2]; · iexact Hq2x2
    isplitl [Hw2x0]; · iexists (WB2 m c 0); iexact Hw2x0
    iexact Hz17
  iintro Hf2x0
  iapply (wait1 m ρ K c 1 1 (by decide) (O := R0 c) ((above_R0 c).mono (by decide)) rfl rfl) $$ [Hf1x1 How]
  · isplitr; · iexact Hrec
    isplitl [Hf1x1]; · iexact Hf1x1
    iexact How
  iintro ⟨Hw1x1, Hq1x1, Hz16, How⟩
  iapply (wait2 m ρ K c 1 1 (by decide) (O := R0 c) ((above_R0 c).mono (by decide)) rfl rfl) $$ [Hf2x1 How]
  · isplitr; · iexact Hrec
    isplitl [Hf2x1]; · iexact Hf2x1
    iexact How
  iintro ⟨Hw2x1, Hq2x1, Hz18, How⟩
  iapply (getOwn m ρ c 1 (off := ![256, 0]) rfl) $$ HOwn
  iintro HOwn
  iapply (getW1 m c 1 1 (off := ![1, 0, 0]) rfl) $$ Hw1x1
  iintro Hw1x1
  iapply (getW2 m c 1 1 (off := ![1, 0, 0]) rfl) $$ Hw2x1
  iintro Hw2x1
  iapply wpc_ret
  isplitr; · ipureintro; rfl
  isplitl [Hf2x0]; · iexact Hf2x0
  isplitl [How]; · iexact How
  isplitl [Hw1x1]; · iexact Hw1x1
  isplitl [Hq1x1]; · iexact Hq1x1
  isplitl [Hz16]; · iexact Hz16
  isplitl [Hw2x1]; · iexact Hw2x1
  isplitl [Hq2x1]; · iexact Hq2x1
  isplitl [Hz18]; · iexact Hz18
  iexact HOwn

theorem part21_run (K : Dev nD × Fin 13 → ℕ) (c : Dev nD)  :
    iprop(recs m ρ K ∗ uY m ρ c 1 ∗ q1 m c 3 ∗ w1 c 1 (WB1 m c 1) ∗ z c 16 ∗ q2 m c 3 ∗ w2 c 1 (WB2 m c 1) ∗ z c 18 ∗ owesE c (R0 c) ∗ fl1 m c 0 2)
      ⊢ wpc c (atBufs (k0_part21 (F := F)) (k0_pay75 (oblk m ρ c 1) (w1v m c 1)) (w2v m c 1)) (fun _ => iprop(uY m ρ c 2 ∗ fl1 m c 1 3 ∗ fl2 m c 1 3 ∗ owesE c (R0 c) ∗ w1 c 0 (WB1 m c 2) ∗ q1 m c 2 ∗ z c 15)) := by
  simp only [k0_part21_eq_skeleton]
  unfold k0_part21_skel
  simp only [Prog.lift, Prog.bind_op, Prog.bind_ret, Prog.pure_eq_ret]
  iintro ⟨#Hrec, HY, Hq1x3, Hw1x1, Hz16, Hq2x3, Hw2x1, Hz18, How, Hf1x0⟩
  iapply (dumY m ρ c 1) $$ HY
  iintro %v HY
  iapply (stoY m ρ c 1 (by decide) (off := ![256, 0]) rfl rfl) $$ HY
  iintro HY
  iapply (start1 m c 1 3 (by decide) (by decide) rfl) $$ [Hq1x3 Hw1x1 Hz16]
  · isplitl [Hq1x3]; · iexact Hq1x3
    isplitl [Hw1x1]; · iexists (WB1 m c 1); iexact Hw1x1
    iexact Hz16
  iintro Hf1x1
  iapply (start2 m c 1 3 (by decide) (by decide) rfl) $$ [Hq2x3 Hw2x1 Hz18]
  · isplitl [Hq2x3]; · iexact Hq2x3
    isplitl [Hw2x1]; · iexists (WB2 m c 1); iexact Hw2x1
    iexact Hz18
  iintro Hf2x1
  iapply (wait1 m ρ K c 0 2 (by decide) (O := R0 c) ((above_R0 c).mono (by decide)) rfl rfl) $$ [Hf1x0 How]
  · isplitr; · iexact Hrec
    isplitl [Hf1x0]; · iexact Hf1x0
    iexact How
  iintro ⟨Hw1x0, Hq1x2, Hz15, How⟩
  iapply wpc_ret
  isplitl [HY]; · iexact HY
  isplitl [Hf1x1]; · iexact Hf1x1
  isplitl [Hf2x1]; · iexact Hf2x1
  isplitl [How]; · iexact How
  isplitl [Hw1x0]; · iexact Hw1x0
  isplitl [Hq1x2]; · iexact Hq1x2
  iexact Hz15

theorem part22_run (K : Dev nD × Fin 13 → ℕ) (c : Dev nD)  :
    iprop(recs m ρ K ∗ owesE c (R0 c) ∗ fl2 m c 0 2 ∗ hOwn m ρ c ∗ w1 c 0 (WB1 m c 2) ∗ uY m ρ c 2 ∗ fl1 m c 1 3)
      ⊢ wpc c (atBufs (k0_part22 (F := F)) ) (fun _ => iprop(owesE c (R0 c) ∗ w2 c 0 (WB2 m c 2) ∗ q2 m c 2 ∗ z c 17 ∗ hOwn m ρ c ∗ w1 c 0 (WB1 m c 2) ∗ uY m ρ c 3 ∗ w1 c 1 (WB1 m c 3) ∗ q1 m c 3 ∗ z c 16)) := by
  simp only [k0_part22_eq_skeleton]
  unfold k0_part22_skel
  simp only [Prog.lift, Prog.bind_op, Prog.bind_ret, Prog.pure_eq_ret]
  iintro ⟨#Hrec, How, Hf2x0, HOwn, Hw1x0, HY, Hf1x1⟩
  iapply (wait2 m ρ K c 0 2 (by decide) (O := R0 c) ((above_R0 c).mono (by decide)) rfl rfl) $$ [Hf2x0 How]
  · isplitr; · iexact Hrec
    isplitl [Hf2x0]; · iexact Hf2x0
    iexact How
  iintro ⟨Hw2x0, Hq2x2, Hz17, How⟩
  iapply (getOwn m ρ c 2 (off := ![512, 0]) rfl) $$ HOwn
  iintro HOwn
  iapply (getW1 m c 0 2 (off := ![0, 0, 0]) rfl) $$ Hw1x0
  iintro Hw1x0
  iapply (getW2 m c 0 2 (off := ![0, 0, 0]) rfl) $$ Hw2x0
  iintro Hw2x0
  iapply (dumY m ρ c 2) $$ HY
  iintro %v HY
  iapply (stoY m ρ c 2 (by decide) (off := ![512, 0]) rfl rfl) $$ HY
  iintro HY
  iapply (wait1 m ρ K c 1 3 (by decide) (O := R0 c) ((above_R0 c).mono (by decide)) rfl rfl) $$ [Hf1x1 How]
  · isplitr; · iexact Hrec
    isplitl [Hf1x1]; · iexact Hf1x1
    iexact How
  iintro ⟨Hw1x1, Hq1x3, Hz16, How⟩
  iapply wpc_ret
  isplitl [How]; · iexact How
  isplitl [Hw2x0]; · iexact Hw2x0
  isplitl [Hq2x2]; · iexact Hq2x2
  isplitl [Hz17]; · iexact Hz17
  isplitl [HOwn]; · iexact HOwn
  isplitl [Hw1x0]; · iexact Hw1x0
  isplitl [HY]; · iexact HY
  isplitl [Hw1x1]; · iexact Hw1x1
  isplitl [Hq1x3]; · iexact Hq1x3
  iexact Hz16

theorem part23_run (K : Dev nD × Fin 13 → ℕ) (c : Dev nD) (v2 : BitVec 32) (v5 : BitVec 32) (v166 : BitVec 32) :
    iprop(recs m ρ K ∗ owesE c (R0 c) ∗ fl2 m c 1 3 ∗ hOwn m ρ c ∗ w1 c 1 (WB1 m c 3) ∗ uY m ρ c 3 ∗ wt c 6)
      ⊢ wpc c (atBufs (k0_part23 (F := F)) v2 v5 v166) (fun _ => iprop(owesE c (R0 c) ∗ w2 c 1 (WB2 m c 3) ∗ q2 m c 3 ∗ z c 18 ∗ hOwn m ρ c ∗ w1 c 1 (WB1 m c 3) ∗ hY m ρ c ∗ p8 c 0 (RecvF m ρ c) ∗ z c 6)) := by
  simp only [k0_part23_eq_skeleton]
  unfold k0_part23_skel
  simp only [Prog.lift, Prog.bind_op, Prog.bind_ret, Prog.pure_eq_ret]
  iintro ⟨#Hrec, How, Hf2x1, HOwn, Hw1x1, HY, Hwt6⟩
  iapply (wait2 m ρ K c 1 3 (by decide) (O := R0 c) ((above_R0 c).mono (by decide)) rfl rfl) $$ [Hf2x1 How]
  · isplitr; · iexact Hrec
    isplitl [Hf2x1]; · iexact Hf2x1
    iexact How
  iintro ⟨Hw2x1, Hq2x3, Hz18, How⟩
  iapply (getOwn m ρ c 3 (off := ![768, 0]) rfl) $$ HOwn
  iintro HOwn
  iapply (getW1 m c 1 3 (off := ![1, 0, 0]) rfl) $$ Hw1x1
  iintro Hw1x1
  iapply (getW2 m c 1 3 (off := ![1, 0, 0]) rfl) $$ Hw2x1
  iintro Hw2x1
  iapply (dumY m ρ c 3) $$ HY
  iintro %v HY
  iapply (stoY m ρ c 3 (by decide) (off := ![768, 0]) rfl rfl) $$ HY
  iintro HY
  ihave HY := (uY_full m ρ c) $$ HY
  iapply (waitX m ρ K c 6 (by decide) (by decide) (O := R0 c) (above_R0 c) rfl rfl) $$ [Hwt6 How]
  · isplitr; · iexact Hrec
    isplitl [Hwt6]; · iexact Hwt6
    iexact How
  iintro ⟨Hr8x0, Hz6, How⟩
  ihave Hr8x0 := (Entails.of_eq (xferPay_fr m ρ c 0 (by decide))) $$ Hr8x0
  iapply wpc_ret
  isplitl [How]; · iexact How
  isplitl [Hw2x1]; · iexact Hw2x1
  isplitl [Hq2x3]; · iexact Hq2x3
  isplitl [Hz18]; · iexact Hz18
  isplitl [HOwn]; · iexact HOwn
  isplitl [Hw1x1]; · iexact Hw1x1
  isplitl [HY]; · iexact HY
  isplitl [Hr8x0]; · iexact Hr8x0
  iexact Hz6

end Cert.KernelIdeal.Moe
-- ==== Proof.KernelIdeal.Parts3.lean ====
/-
The parts of the body that run the peers' buckets through the two layers and return the results.
-/
module

public import proofs.«01_k».proof.Proof.KernelIdeal.Parts1

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
theorem part24_run (c : Dev nD)  :
    iprop(q1 m c 0 ∗ w1 c 0 (WB1 m c 2) ∗ z c 15 ∗ q2 m c 0 ∗ w2 c 0 (WB2 m c 2) ∗ z c 17 ∗ q1 m c 1 ∗ w1 c 1 (WB1 m c 3) ∗ z c 16 ∗ q2 m c 1 ∗ w2 c 1 (WB2 m c 3) ∗ z c 18)
      ⊢ wpc c (atBufs (k0_part24 (F := F)) ) (fun _ => iprop(fl1 m c 0 0 ∗ fl2 m c 0 0 ∗ fl1 m c 1 1 ∗ fl2 m c 1 1)) := by
  simp only [k0_part24_eq_skeleton]
  unfold k0_part24_skel
  simp only [Prog.lift, Prog.bind_op, Prog.bind_ret, Prog.pure_eq_ret]
  iintro ⟨Hq1x0, Hw1x0, Hz15, Hq2x0, Hw2x0, Hz17, Hq1x1, Hw1x1, Hz16, Hq2x1, Hw2x1, Hz18⟩
  iapply (start1 m c 0 0 (by decide) (by decide) rfl) $$ [Hq1x0 Hw1x0 Hz15]
  · isplitl [Hq1x0]; · iexact Hq1x0
    isplitl [Hw1x0]; · iexists (WB1 m c 2); iexact Hw1x0
    iexact Hz15
  iintro Hf1x0
  iapply (start2 m c 0 0 (by decide) (by decide) rfl) $$ [Hq2x0 Hw2x0 Hz17]
  · isplitl [Hq2x0]; · iexact Hq2x0
    isplitl [Hw2x0]; · iexists (WB2 m c 2); iexact Hw2x0
    iexact Hz17
  iintro Hf2x0
  iapply (start1 m c 1 1 (by decide) (by decide) rfl) $$ [Hq1x1 Hw1x1 Hz16]
  · isplitl [Hq1x1]; · iexact Hq1x1
    isplitl [Hw1x1]; · iexists (WB1 m c 3); iexact Hw1x1
    iexact Hz16
  iintro Hf1x1
  iapply (start2 m c 1 1 (by decide) (by decide) rfl) $$ [Hq2x1 Hw2x1 Hz18]
  · isplitl [Hq2x1]; · iexact Hq2x1
    isplitl [Hw2x1]; · iexists (WB2 m c 3); iexact Hw2x1
    iexact Hz18
  iintro Hf2x1
  iapply wpc_ret
  isplitl [Hf1x0]; · iexact Hf1x0
  isplitl [Hf2x0]; · iexact Hf2x0
  isplitl [Hf1x1]; · iexact Hf1x1
  iexact Hf2x1

theorem part25_run (K : Dev nD × Fin 13 → ℕ) (c : Dev nD)  :
    iprop(recs m ρ K ∗ owesE c (R0 c) ∗ fl1 m c 0 0 ∗ fl2 m c 0 0 ∗ p8 c 0 (RecvF m ρ c) ∗ u11 m ρ c 0 0)
      ⊢ wpc c (atBufs (k0_part25 (F := F)) ) (fun _ => iprop(owesE c (R0 c) ∗ w1 c 0 (WB1 m c 0) ∗ q1 m c 0 ∗ z c 15 ∗ w2 c 0 (WB2 m c 0) ∗ q2 m c 0 ∗ z c 17 ∗ p8 c 0 (RecvF m ρ c) ∗ u11 m ρ c 0 1)) := by
  simp only [k0_part25_eq_skeleton]
  unfold k0_part25_skel
  simp only [Prog.lift, Prog.bind_op, Prog.bind_ret, Prog.pure_eq_ret]
  iintro ⟨#Hrec, How, Hf1x0, Hf2x0, Hr8x0, Hs11x0⟩
  iapply (wait1 m ρ K c 0 0 (by decide) (O := R0 c) ((above_R0 c).mono (by decide)) rfl rfl) $$ [Hf1x0 How]
  · isplitr; · iexact Hrec
    isplitl [Hf1x0]; · iexact Hf1x0
    iexact How
  iintro ⟨Hw1x0, Hq1x0, Hz15, How⟩
  iapply (wait2 m ρ K c 0 0 (by decide) (O := R0 c) ((above_R0 c).mono (by decide)) rfl rfl) $$ [Hf2x0 How]
  · isplitr; · iexact Hrec
    isplitl [Hf2x0]; · iexact Hf2x0
    iexact How
  iintro ⟨Hw2x0, Hq2x0, Hz17, How⟩
  iapply (get8 m ρ c 0 0 (off := ![0, 0, 0]) rfl) $$ Hr8x0
  iintro Hr8x0
  iapply (getW1 m c 0 0 (off := ![0, 0, 0]) rfl) $$ Hw1x0
  iintro Hw1x0
  iapply (getW2 m c 0 0 (off := ![0, 0, 0]) rfl) $$ Hw2x0
  iintro Hw2x0
  iapply (dum11 m ρ c 0 0 0 (off := ![0, 0, 0]) rfl) $$ Hs11x0
  iintro %v Hs11x0
  iapply (sto11 m ρ c 0 0 (by decide) (by decide) (off := ![0, 0, 0]) rfl rfl) $$ Hs11x0
  iintro Hs11x0
  iapply wpc_ret
  isplitl [How]; · iexact How
  isplitl [Hw1x0]; · iexact Hw1x0
  isplitl [Hq1x0]; · iexact Hq1x0
  isplitl [Hz15]; · iexact Hz15
  isplitl [Hw2x0]; · iexact Hw2x0
  isplitl [Hq2x0]; · iexact Hq2x0
  isplitl [Hz17]; · iexact Hz17
  isplitl [Hr8x0]; · iexact Hr8x0
  iexact Hs11x0

theorem part26_run (K : Dev nD × Fin 13 → ℕ) (c : Dev nD)  :
    iprop(recs m ρ K ∗ q1 m c 2 ∗ w1 c 0 (WB1 m c 0) ∗ z c 15 ∗ q2 m c 2 ∗ w2 c 0 (WB2 m c 0) ∗ z c 17 ∗ owesE c (R0 c) ∗ fl1 m c 1 1 ∗ fl2 m c 1 1 ∗ p8 c 0 (RecvF m ρ c))
      ⊢ wpc c (atBufs (k0_part26 (F := F)) ) (fun r => iprop(⌜r = ⟨k0_pay80 (rblk m ρ c 0 1) (w1v m c 1), k0_pay81 (F := F)⟩⌝ ∗ (fl1 m c 0 2 ∗ fl2 m c 0 2 ∗ owesE c (R0 c) ∗ w1 c 1 (WB1 m c 1) ∗ q1 m c 1 ∗ z c 16 ∗ w2 c 1 (WB2 m c 1) ∗ q2 m c 1 ∗ z c 18 ∗ p8 c 0 (RecvF m ρ c)))) := by
  simp only [k0_part26_eq_skeleton]
  unfold k0_part26_skel
  simp only [Prog.lift, Prog.bind_op, Prog.bind_ret, Prog.pure_eq_ret]
  iintro ⟨#Hrec, Hq1x2, Hw1x0, Hz15, Hq2x2, Hw2x0, Hz17, How, Hf1x1, Hf2x1, Hr8x0⟩
  iapply (start1 m c 0 2 (by decide) (by decide) rfl) $$ [Hq1x2 Hw1x0 Hz15]
  · isplitl [Hq1x2]; · iexact Hq1x2
    isplitl [Hw1x0]; · iexists (WB1 m c 0); iexact Hw1x0
    iexact Hz15
  iintro Hf1x0
  iapply (start2 m c 0 2 (by decide) (by decide) rfl) $$ [Hq2x2 Hw2x0 Hz17]
  · isplitl [Hq2x2]; · iexact Hq2x2
    isplitl [Hw2x0]; · iexists (WB2 m c 0); iexact Hw2x0
    iexact Hz17
  iintro Hf2x0
  iapply (wait1 m ρ K c 1 1 (by decide) (O := R0 c) ((above_R0 c).mono (by decide)) rfl rfl) $$ [Hf1x1 How]
  · isplitr; · iexact Hrec
    isplitl [Hf1x1]; · iexact Hf1x1
    iexact How
  iintro ⟨Hw1x1, Hq1x1, Hz16, How⟩
  iapply (wait2 m ρ K c 1 1 (by decide) (O := R0 c) ((above_R0 c).mono (by decide)) rfl rfl) $$ [Hf2x1 How]
  · isplitr; · iexact Hrec
    isplitl [Hf2x1]; · iexact Hf2x1
    iexact How
  iintro ⟨Hw2x1, Hq2x1, Hz18, How⟩
  iapply (get8 m ρ c 0 1 (off := ![0, 256, 0]) rfl) $$ Hr8x0
  iintro Hr8x0
  iapply (getW1 m c 1 1 (off := ![1, 0, 0]) rfl) $$ Hw1x1
  iintro Hw1x1
  iapply wpc_ret
  isplitr; · ipureintro; rfl
  isplitl [Hf1x0]; · iexact Hf1x0
  isplitl [Hf2x0]; · iexact Hf2x0
  isplitl [How]; · iexact How
  isplitl [Hw1x1]; · iexact Hw1x1
  isplitl [Hq1x1]; · iexact Hq1x1
  isplitl [Hz16]; · iexact Hz16
  isplitl [Hw2x1]; · iexact Hw2x1
  isplitl [Hq2x1]; · iexact Hq2x1
  isplitl [Hz18]; · iexact Hz18
  iexact Hr8x0

theorem part27_run (K : Dev nD × Fin 13 → ℕ) (c : Dev nD)  :
    iprop(recs m ρ K ∗ w2 c 1 (WB2 m c 1) ∗ u11 m ρ c 0 1 ∗ q1 m c 3 ∗ w1 c 1 (WB1 m c 1) ∗ z c 16 ∗ q2 m c 3 ∗ z c 18 ∗ owesE c (R0 c) ∗ fl1 m c 0 2)
      ⊢ wpc c (atBufs (k0_part27 (F := F)) (k0_pay80 (rblk m ρ c 0 1) (w1v m c 1)) (k0_pay81 (F := F))) (fun _ => iprop(u11 m ρ c 0 2 ∗ fl1 m c 1 3 ∗ fl2 m c 1 3 ∗ owesE c (R0 c) ∗ w1 c 0 (WB1 m c 2) ∗ q1 m c 2 ∗ z c 15)) := by
  simp only [k0_part27_eq_skeleton]
  unfold k0_part27_skel
  simp only [Prog.lift, Prog.bind_op, Prog.bind_ret, Prog.pure_eq_ret]
  iintro ⟨#Hrec, Hw2x1, Hs11x0, Hq1x3, Hw1x1, Hz16, Hq2x3, Hz18, How, Hf1x0⟩
  iapply (getW2 m c 1 1 (off := ![1, 0, 0]) rfl) $$ Hw2x1
  iintro Hw2x1
  iapply (dum11 m ρ c 0 1 1 (off := ![0, 256, 0]) rfl) $$ Hs11x0
  iintro %v Hs11x0
  iapply (sto11 m ρ c 0 1 (by decide) (by decide) (off := ![0, 256, 0]) rfl rfl) $$ Hs11x0
  iintro Hs11x0
  iapply (start1 m c 1 3 (by decide) (by decide) rfl) $$ [Hq1x3 Hw1x1 Hz16]
  · isplitl [Hq1x3]; · iexact Hq1x3
    isplitl [Hw1x1]; · iexists (WB1 m c 1); iexact Hw1x1
    iexact Hz16
  iintro Hf1x1
  iapply (start2 m c 1 3 (by decide) (by decide) rfl) $$ [Hq2x3 Hw2x1 Hz18]
  · isplitl [Hq2x3]; · iexact Hq2x3
    isplitl [Hw2x1]; · iexists (WB2 m c 1); iexact Hw2x1
    iexact Hz18
  iintro Hf2x1
  iapply (wait1 m ρ K c 0 2 (by decide) (O := R0 c) ((above_R0 c).mono (by decide)) rfl rfl) $$ [Hf1x0 How]
  · isplitr; · iexact Hrec
    isplitl [Hf1x0]; · iexact Hf1x0
    iexact How
  iintro ⟨Hw1x0, Hq1x2, Hz15, How⟩
  iapply wpc_ret
  isplitl [Hs11x0]; · iexact Hs11x0
  isplitl [Hf1x1]; · iexact Hf1x1
  isplitl [Hf2x1]; · iexact Hf2x1
  isplitl [How]; · iexact How
  isplitl [Hw1x0]; · iexact Hw1x0
  isplitl [Hq1x2]; · iexact Hq1x2
  iexact Hz15

theorem part28_run (K : Dev nD × Fin 13 → ℕ) (c : Dev nD)  :
    iprop(recs m ρ K ∗ owesE c (R0 c) ∗ fl2 m c 0 2 ∗ p8 c 0 (RecvF m ρ c) ∗ w1 c 0 (WB1 m c 2) ∗ u11 m ρ c 0 2 ∗ fl1 m c 1 3)
      ⊢ wpc c (atBufs (k0_part28 (F := F)) ) (fun _ => iprop(owesE c (R0 c) ∗ w2 c 0 (WB2 m c 2) ∗ q2 m c 2 ∗ z c 17 ∗ p8 c 0 (RecvF m ρ c) ∗ w1 c 0 (WB1 m c 2) ∗ u11 m ρ c 0 3 ∗ w1 c 1 (WB1 m c 3) ∗ q1 m c 3 ∗ z c 16)) := by
  simp only [k0_part28_eq_skeleton]
  unfold k0_part28_skel
  simp only [Prog.lift, Prog.bind_op, Prog.bind_ret, Prog.pure_eq_ret]
  iintro ⟨#Hrec, How, Hf2x0, Hr8x0, Hw1x0, Hs11x0, Hf1x1⟩
  iapply (wait2 m ρ K c 0 2 (by decide) (O := R0 c) ((above_R0 c).mono (by decide)) rfl rfl) $$ [Hf2x0 How]
  · isplitr; · iexact Hrec
    isplitl [Hf2x0]; · iexact Hf2x0
    iexact How
  iintro ⟨Hw2x0, Hq2x2, Hz17, How⟩
  iapply (get8 m ρ c 0 2 (off := ![0, 512, 0]) rfl) $$ Hr8x0
  iintro Hr8x0
  iapply (getW1 m c 0 2 (off := ![0, 0, 0]) rfl) $$ Hw1x0
  iintro Hw1x0
  iapply (getW2 m c 0 2 (off := ![0, 0, 0]) rfl) $$ Hw2x0
  iintro Hw2x0
  iapply (dum11 m ρ c 0 2 2 (off := ![0, 512, 0]) rfl) $$ Hs11x0
  iintro %v Hs11x0
  iapply (sto11 m ρ c 0 2 (by decide) (by decide) (off := ![0, 512, 0]) rfl rfl) $$ Hs11x0
  iintro Hs11x0
  iapply (wait1 m ρ K c 1 3 (by decide) (O := R0 c) ((above_R0 c).mono (by decide)) rfl rfl) $$ [Hf1x1 How]
  · isplitr; · iexact Hrec
    isplitl [Hf1x1]; · iexact Hf1x1
    iexact How
  iintro ⟨Hw1x1, Hq1x3, Hz16, How⟩
  iapply wpc_ret
  isplitl [How]; · iexact How
  isplitl [Hw2x0]; · iexact Hw2x0
  isplitl [Hq2x2]; · iexact Hq2x2
  isplitl [Hz17]; · iexact Hz17
  isplitl [Hr8x0]; · iexact Hr8x0
  isplitl [Hw1x0]; · iexact Hw1x0
  isplitl [Hs11x0]; · iexact Hs11x0
  isplitl [Hw1x1]; · iexact Hw1x1
  isplitl [Hq1x3]; · iexact Hq1x3
  iexact Hz16

theorem part29_run (K : Dev nD × Fin 13 → ℕ) (c : Dev nD) (v8 : BitVec 32) :
    iprop(recs m ρ K ∗ owesE c (R0 c) ∗ fl2 m c 1 3 ∗ p8 c 0 (RecvF m ρ c) ∗ w1 c 1 (WB1 m c 3) ∗ u11 m ρ c 0 3)
      ⊢ wpc c (atBufs (k0_part29 (F := F)) v8) (fun _ => iprop(owesE c (R0 c) ∗ w2 c 1 (WB2 m c 3) ∗ q2 m c 3 ∗ z c 18 ∗ p8 c 0 (RecvF m ρ c) ∗ w1 c 1 (WB1 m c 3) ∗ p11 c 0 (YRetF m ρ c))) := by
  simp only [k0_part29_eq_skeleton]
  unfold k0_part29_skel
  simp only [Prog.lift, Prog.bind_op, Prog.bind_ret, Prog.pure_eq_ret]
  iintro ⟨#Hrec, How, Hf2x1, Hr8x0, Hw1x1, Hs11x0⟩
  iapply (wait2 m ρ K c 1 3 (by decide) (O := R0 c) ((above_R0 c).mono (by decide)) rfl rfl) $$ [Hf2x1 How]
  · isplitr; · iexact Hrec
    isplitl [Hf2x1]; · iexact Hf2x1
    iexact How
  iintro ⟨Hw2x1, Hq2x3, Hz18, How⟩
  iapply (get8 m ρ c 0 3 (off := ![0, 768, 0]) rfl) $$ Hr8x0
  iintro Hr8x0
  iapply (getW1 m c 1 3 (off := ![1, 0, 0]) rfl) $$ Hw1x1
  iintro Hw1x1
  iapply (getW2 m c 1 3 (off := ![1, 0, 0]) rfl) $$ Hw2x1
  iintro Hw2x1
  iapply (dum11 m ρ c 0 3 3 (off := ![0, 768, 0]) rfl) $$ Hs11x0
  iintro %v Hs11x0
  iapply (sto11 m ρ c 0 3 (by decide) (by decide) (off := ![0, 768, 0]) rfl rfl) $$ Hs11x0
  iintro Hs11x0
  ihave Hs11x0 := (u11_full m ρ c 0) $$ Hs11x0
  iapply wpc_ret
  isplitl [How]; · iexact How
  isplitl [Hw2x1]; · iexact Hw2x1
  isplitl [Hq2x3]; · iexact Hq2x3
  isplitl [Hz18]; · iexact Hz18
  isplitl [Hr8x0]; · iexact Hr8x0
  isplitl [Hw1x1]; · iexact Hw1x1
  iexact Hs11x0

theorem part30_run (K : Dev nD × Fin 13 → ℕ) (c : Dev nD) (v2 : BitVec 32) (v5 : BitVec 32) (v219 : BitVec 32) (v638 : BitVec 32) (v643 : BitVec 1) (v644 : BitVec 32) :
    iprop(recs m ρ K ∗ owesE c (R0 c) ∗ tR c 0 ∗ p11 c 0 (YRetF m ρ c) ∗ (∃ f, p12 (F := F) (src 0 c) 0 f) ∗ wt c 7)
      ⊢ wpc c (atBufs (k0_part30 (F := F)) c v2 v5 v219 v638 v643 v644) (fun _ => iprop(owesE c (R1 c) ∗ wt c 9 ∗ p8 c 1 (RecvF m ρ c) ∗ z c 7)) := by
  simp only [k0_part30_eq_skeleton]
  unfold k0_part30_skel
  simp only [Prog.lift, Prog.bind_op, Prog.bind_ret, Prog.pure_eq_ret]
  iintro ⟨#Hrec, How, HtR0, Hs11x0, Hd12x0, Hwt7⟩
  iapply (sendR m ρ K c 0 (by decide) (dev7_eq c) (O := R1 c) (O' := R0 c) rfl rfl rfl) $$ [HtR0 Hs11x0 Hd12x0 How]
  · isplitr; · iexact Hrec
    isplitl [HtR0]; · iexact HtR0
    isplitl [Hs11x0]; · iexact Hs11x0
    isplitl [Hd12x0]; · iexact Hd12x0
    iexact How
  iintro ⟨Hwt9, How⟩
  iapply (waitX m ρ K c 7 (by decide) (by decide) (O := R1 c) (above_R1 c) rfl rfl) $$ [Hwt7 How]
  · isplitr; · iexact Hrec
    isplitl [Hwt7]; · iexact Hwt7
    iexact How
  iintro ⟨Hr8x1, Hz7, How⟩
  ihave Hr8x1 := (Entails.of_eq (xferPay_fr m ρ c 1 (by decide))) $$ Hr8x1
  iapply wpc_ret
  isplitl [How]; · iexact How
  isplitl [Hwt9]; · iexact Hwt9
  isplitl [Hr8x1]; · iexact Hr8x1
  iexact Hz7

theorem part31_run (c : Dev nD)  :
    iprop(q1 m c 0 ∗ w1 c 0 (WB1 m c 2) ∗ z c 15 ∗ q2 m c 0 ∗ w2 c 0 (WB2 m c 2) ∗ z c 17 ∗ q1 m c 1 ∗ w1 c 1 (WB1 m c 3) ∗ z c 16 ∗ q2 m c 1 ∗ w2 c 1 (WB2 m c 3) ∗ z c 18)
      ⊢ wpc c (atBufs (k0_part31 (F := F)) ) (fun _ => iprop(fl1 m c 0 0 ∗ fl2 m c 0 0 ∗ fl1 m c 1 1 ∗ fl2 m c 1 1)) := by
  simp only [k0_part31_eq_skeleton]
  unfold k0_part31_skel
  simp only [Prog.lift, Prog.bind_op, Prog.bind_ret, Prog.pure_eq_ret]
  iintro ⟨Hq1x0, Hw1x0, Hz15, Hq2x0, Hw2x0, Hz17, Hq1x1, Hw1x1, Hz16, Hq2x1, Hw2x1, Hz18⟩
  iapply (start1 m c 0 0 (by decide) (by decide) rfl) $$ [Hq1x0 Hw1x0 Hz15]
  · isplitl [Hq1x0]; · iexact Hq1x0
    isplitl [Hw1x0]; · iexists (WB1 m c 2); iexact Hw1x0
    iexact Hz15
  iintro Hf1x0
  iapply (start2 m c 0 0 (by decide) (by decide) rfl) $$ [Hq2x0 Hw2x0 Hz17]
  · isplitl [Hq2x0]; · iexact Hq2x0
    isplitl [Hw2x0]; · iexists (WB2 m c 2); iexact Hw2x0
    iexact Hz17
  iintro Hf2x0
  iapply (start1 m c 1 1 (by decide) (by decide) rfl) $$ [Hq1x1 Hw1x1 Hz16]
  · isplitl [Hq1x1]; · iexact Hq1x1
    isplitl [Hw1x1]; · iexists (WB1 m c 3); iexact Hw1x1
    iexact Hz16
  iintro Hf1x1
  iapply (start2 m c 1 1 (by decide) (by decide) rfl) $$ [Hq2x1 Hw2x1 Hz18]
  · isplitl [Hq2x1]; · iexact Hq2x1
    isplitl [Hw2x1]; · iexists (WB2 m c 3); iexact Hw2x1
    iexact Hz18
  iintro Hf2x1
  iapply wpc_ret
  isplitl [Hf1x0]; · iexact Hf1x0
  isplitl [Hf2x0]; · iexact Hf2x0
  isplitl [Hf1x1]; · iexact Hf1x1
  iexact Hf2x1

theorem part32_run (K : Dev nD × Fin 13 → ℕ) (c : Dev nD)  :
    iprop(recs m ρ K ∗ owesE c (R1 c) ∗ fl1 m c 0 0 ∗ fl2 m c 0 0 ∗ p8 c 1 (RecvF m ρ c) ∗ u11 m ρ c 1 0)
      ⊢ wpc c (atBufs (k0_part32 (F := F)) ) (fun _ => iprop(owesE c (R1 c) ∗ w1 c 0 (WB1 m c 0) ∗ q1 m c 0 ∗ z c 15 ∗ w2 c 0 (WB2 m c 0) ∗ q2 m c 0 ∗ z c 17 ∗ p8 c 1 (RecvF m ρ c) ∗ u11 m ρ c 1 1)) := by
  simp only [k0_part32_eq_skeleton]
  unfold k0_part32_skel
  simp only [Prog.lift, Prog.bind_op, Prog.bind_ret, Prog.pure_eq_ret]
  iintro ⟨#Hrec, How, Hf1x0, Hf2x0, Hr8x1, Hs11x1⟩
  iapply (wait1 m ρ K c 0 0 (by decide) (O := R1 c) ((above_R1 c).mono (by decide)) rfl rfl) $$ [Hf1x0 How]
  · isplitr; · iexact Hrec
    isplitl [Hf1x0]; · iexact Hf1x0
    iexact How
  iintro ⟨Hw1x0, Hq1x0, Hz15, How⟩
  iapply (wait2 m ρ K c 0 0 (by decide) (O := R1 c) ((above_R1 c).mono (by decide)) rfl rfl) $$ [Hf2x0 How]
  · isplitr; · iexact Hrec
    isplitl [Hf2x0]; · iexact Hf2x0
    iexact How
  iintro ⟨Hw2x0, Hq2x0, Hz17, How⟩
  iapply (get8 m ρ c 1 0 (off := ![1, 0, 0]) rfl) $$ Hr8x1
  iintro Hr8x1
  iapply (getW1 m c 0 0 (off := ![0, 0, 0]) rfl) $$ Hw1x0
  iintro Hw1x0
  iapply (getW2 m c 0 0 (off := ![0, 0, 0]) rfl) $$ Hw2x0
  iintro Hw2x0
  iapply (dum11 m ρ c 1 0 0 (off := ![1, 0, 0]) rfl) $$ Hs11x1
  iintro %v Hs11x1
  iapply (sto11 m ρ c 1 0 (by decide) (by decide) (off := ![1, 0, 0]) rfl rfl) $$ Hs11x1
  iintro Hs11x1
  iapply wpc_ret
  isplitl [How]; · iexact How
  isplitl [Hw1x0]; · iexact Hw1x0
  isplitl [Hq1x0]; · iexact Hq1x0
  isplitl [Hz15]; · iexact Hz15
  isplitl [Hw2x0]; · iexact Hw2x0
  isplitl [Hq2x0]; · iexact Hq2x0
  isplitl [Hz17]; · iexact Hz17
  isplitl [Hr8x1]; · iexact Hr8x1
  iexact Hs11x1

theorem part33_run (K : Dev nD × Fin 13 → ℕ) (c : Dev nD)  :
    iprop(recs m ρ K ∗ q1 m c 2 ∗ w1 c 0 (WB1 m c 0) ∗ z c 15 ∗ q2 m c 2 ∗ w2 c 0 (WB2 m c 0) ∗ z c 17 ∗ owesE c (R1 c) ∗ fl1 m c 1 1 ∗ fl2 m c 1 1 ∗ p8 c 1 (RecvF m ρ c))
      ⊢ wpc c (atBufs (k0_part33 (F := F)) ) (fun r => iprop(⌜r = (k0_pay86 (rblk m ρ c 1 1) (w1v m c 1))⌝ ∗ (fl1 m c 0 2 ∗ fl2 m c 0 2 ∗ owesE c (R1 c) ∗ w1 c 1 (WB1 m c 1) ∗ q1 m c 1 ∗ z c 16 ∗ w2 c 1 (WB2 m c 1) ∗ q2 m c 1 ∗ z c 18 ∗ p8 c 1 (RecvF m ρ c)))) := by
  simp only [k0_part33_eq_skeleton]
  unfold k0_part33_skel
  simp only [Prog.lift, Prog.bind_op, Prog.bind_ret, Prog.pure_eq_ret]
  iintro ⟨#Hrec, Hq1x2, Hw1x0, Hz15, Hq2x2, Hw2x0, Hz17, How, Hf1x1, Hf2x1, Hr8x1⟩
  iapply (start1 m c 0 2 (by decide) (by decide) rfl) $$ [Hq1x2 Hw1x0 Hz15]
  · isplitl [Hq1x2]; · iexact Hq1x2
    isplitl [Hw1x0]; · iexists (WB1 m c 0); iexact Hw1x0
    iexact Hz15
  iintro Hf1x0
  iapply (start2 m c 0 2 (by decide) (by decide) rfl) $$ [Hq2x2 Hw2x0 Hz17]
  · isplitl [Hq2x2]; · iexact Hq2x2
    isplitl [Hw2x0]; · iexists (WB2 m c 0); iexact Hw2x0
    iexact Hz17
  iintro Hf2x0
  iapply (wait1 m ρ K c 1 1 (by decide) (O := R1 c) ((above_R1 c).mono (by decide)) rfl rfl) $$ [Hf1x1 How]
  · isplitr; · iexact Hrec
    isplitl [Hf1x1]; · iexact Hf1x1
    iexact How
  iintro ⟨Hw1x1, Hq1x1, Hz16, How⟩
  iapply (wait2 m ρ K c 1 1 (by decide) (O := R1 c) ((above_R1 c).mono (by decide)) rfl rfl) $$ [Hf2x1 How]
  · isplitr; · iexact Hrec
    isplitl [Hf2x1]; · iexact Hf2x1
    iexact How
  iintro ⟨Hw2x1, Hq2x1, Hz18, How⟩
  iapply (get8 m ρ c 1 1 (off := ![1, 256, 0]) rfl) $$ Hr8x1
  iintro Hr8x1
  iapply (getW1 m c 1 1 (off := ![1, 0, 0]) rfl) $$ Hw1x1
  iintro Hw1x1
  iapply wpc_ret
  isplitr; · ipureintro; rfl
  isplitl [Hf1x0]; · iexact Hf1x0
  isplitl [Hf2x0]; · iexact Hf2x0
  isplitl [How]; · iexact How
  isplitl [Hw1x1]; · iexact Hw1x1
  isplitl [Hq1x1]; · iexact Hq1x1
  isplitl [Hz16]; · iexact Hz16
  isplitl [Hw2x1]; · iexact Hw2x1
  isplitl [Hq2x1]; · iexact Hq2x1
  isplitl [Hz18]; · iexact Hz18
  iexact Hr8x1

theorem part34_run (K : Dev nD × Fin 13 → ℕ) (c : Dev nD)  :
    iprop(recs m ρ K ∗ w2 c 1 (WB2 m c 1) ∗ u11 m ρ c 1 1 ∗ q1 m c 3 ∗ w1 c 1 (WB1 m c 1) ∗ z c 16 ∗ q2 m c 3 ∗ z c 18 ∗ owesE c (R1 c) ∗ fl1 m c 0 2)
      ⊢ wpc c (atBufs (k0_part34 (F := F)) (k0_pay86 (rblk m ρ c 1 1) (w1v m c 1))) (fun _ => iprop(u11 m ρ c 1 2 ∗ fl1 m c 1 3 ∗ fl2 m c 1 3 ∗ owesE c (R1 c) ∗ w1 c 0 (WB1 m c 2) ∗ q1 m c 2 ∗ z c 15)) := by
  simp only [k0_part34_eq_skeleton]
  unfold k0_part34_skel
  simp only [Prog.lift, Prog.bind_op, Prog.bind_ret, Prog.pure_eq_ret]
  iintro ⟨#Hrec, Hw2x1, Hs11x1, Hq1x3, Hw1x1, Hz16, Hq2x3, Hz18, How, Hf1x0⟩
  iapply (getW2 m c 1 1 (off := ![1, 0, 0]) rfl) $$ Hw2x1
  iintro Hw2x1
  iapply (dum11 m ρ c 1 1 1 (off := ![1, 256, 0]) rfl) $$ Hs11x1
  iintro %v Hs11x1
  iapply (sto11 m ρ c 1 1 (by decide) (by decide) (off := ![1, 256, 0]) rfl rfl) $$ Hs11x1
  iintro Hs11x1
  iapply (start1 m c 1 3 (by decide) (by decide) rfl) $$ [Hq1x3 Hw1x1 Hz16]
  · isplitl [Hq1x3]; · iexact Hq1x3
    isplitl [Hw1x1]; · iexists (WB1 m c 1); iexact Hw1x1
    iexact Hz16
  iintro Hf1x1
  iapply (start2 m c 1 3 (by decide) (by decide) rfl) $$ [Hq2x3 Hw2x1 Hz18]
  · isplitl [Hq2x3]; · iexact Hq2x3
    isplitl [Hw2x1]; · iexists (WB2 m c 1); iexact Hw2x1
    iexact Hz18
  iintro Hf2x1
  iapply (wait1 m ρ K c 0 2 (by decide) (O := R1 c) ((above_R1 c).mono (by decide)) rfl rfl) $$ [Hf1x0 How]
  · isplitr; · iexact Hrec
    isplitl [Hf1x0]; · iexact Hf1x0
    iexact How
  iintro ⟨Hw1x0, Hq1x2, Hz15, How⟩
  iapply wpc_ret
  isplitl [Hs11x1]; · iexact Hs11x1
  isplitl [Hf1x1]; · iexact Hf1x1
  isplitl [Hf2x1]; · iexact Hf2x1
  isplitl [How]; · iexact How
  isplitl [Hw1x0]; · iexact Hw1x0
  isplitl [Hq1x2]; · iexact Hq1x2
  iexact Hz15

theorem part35_run (K : Dev nD × Fin 13 → ℕ) (c : Dev nD)  :
    iprop(recs m ρ K ∗ owesE c (R1 c) ∗ fl2 m c 0 2 ∗ p8 c 1 (RecvF m ρ c) ∗ w1 c 0 (WB1 m c 2) ∗ u11 m ρ c 1 2 ∗ fl1 m c 1 3)
      ⊢ wpc c (atBufs (k0_part35 (F := F)) ) (fun _ => iprop(owesE c (R1 c) ∗ w2 c 0 (WB2 m c 2) ∗ q2 m c 2 ∗ z c 17 ∗ p8 c 1 (RecvF m ρ c) ∗ w1 c 0 (WB1 m c 2) ∗ u11 m ρ c 1 3 ∗ w1 c 1 (WB1 m c 3) ∗ q1 m c 3 ∗ z c 16)) := by
  simp only [k0_part35_eq_skeleton]
  unfold k0_part35_skel
  simp only [Prog.lift, Prog.bind_op, Prog.bind_ret, Prog.pure_eq_ret]
  iintro ⟨#Hrec, How, Hf2x0, Hr8x1, Hw1x0, Hs11x1, Hf1x1⟩
  iapply (wait2 m ρ K c 0 2 (by decide) (O := R1 c) ((above_R1 c).mono (by decide)) rfl rfl) $$ [Hf2x0 How]
  · isplitr; · iexact Hrec
    isplitl [Hf2x0]; · iexact Hf2x0
    iexact How
  iintro ⟨Hw2x0, Hq2x2, Hz17, How⟩
  iapply (get8 m ρ c 1 2 (off := ![1, 512, 0]) rfl) $$ Hr8x1
  iintro Hr8x1
  iapply (getW1 m c 0 2 (off := ![0, 0, 0]) rfl) $$ Hw1x0
  iintro Hw1x0
  iapply (getW2 m c 0 2 (off := ![0, 0, 0]) rfl) $$ Hw2x0
  iintro Hw2x0
  iapply (dum11 m ρ c 1 2 2 (off := ![1, 512, 0]) rfl) $$ Hs11x1
  iintro %v Hs11x1
  iapply (sto11 m ρ c 1 2 (by decide) (by decide) (off := ![1, 512, 0]) rfl rfl) $$ Hs11x1
  iintro Hs11x1
  iapply (wait1 m ρ K c 1 3 (by decide) (O := R1 c) ((above_R1 c).mono (by decide)) rfl rfl) $$ [Hf1x1 How]
  · isplitr; · iexact Hrec
    isplitl [Hf1x1]; · iexact Hf1x1
    iexact How
  iintro ⟨Hw1x1, Hq1x3, Hz16, How⟩
  iapply wpc_ret
  isplitl [How]; · iexact How
  isplitl [Hw2x0]; · iexact Hw2x0
  isplitl [Hq2x2]; · iexact Hq2x2
  isplitl [Hz17]; · iexact Hz17
  isplitl [Hr8x1]; · iexact Hr8x1
  isplitl [Hw1x0]; · iexact Hw1x0
  isplitl [Hs11x1]; · iexact Hs11x1
  isplitl [Hw1x1]; · iexact Hw1x1
  isplitl [Hq1x3]; · iexact Hq1x3
  iexact Hz16

theorem part36_run (K : Dev nD × Fin 13 → ℕ) (c : Dev nD) (v8 : BitVec 32) :
    iprop(recs m ρ K ∗ owesE c (R1 c) ∗ fl2 m c 1 3 ∗ p8 c 1 (RecvF m ρ c) ∗ w1 c 1 (WB1 m c 3) ∗ u11 m ρ c 1 3)
      ⊢ wpc c (atBufs (k0_part36 (F := F)) v8) (fun _ => iprop(owesE c (R1 c) ∗ w2 c 1 (WB2 m c 3) ∗ q2 m c 3 ∗ z c 18 ∗ p8 c 1 (RecvF m ρ c) ∗ w1 c 1 (WB1 m c 3) ∗ p11 c 1 (YRetF m ρ c))) := by
  simp only [k0_part36_eq_skeleton]
  unfold k0_part36_skel
  simp only [Prog.lift, Prog.bind_op, Prog.bind_ret, Prog.pure_eq_ret]
  iintro ⟨#Hrec, How, Hf2x1, Hr8x1, Hw1x1, Hs11x1⟩
  iapply (wait2 m ρ K c 1 3 (by decide) (O := R1 c) ((above_R1 c).mono (by decide)) rfl rfl) $$ [Hf2x1 How]
  · isplitr; · iexact Hrec
    isplitl [Hf2x1]; · iexact Hf2x1
    iexact How
  iintro ⟨Hw2x1, Hq2x3, Hz18, How⟩
  iapply (get8 m ρ c 1 3 (off := ![1, 768, 0]) rfl) $$ Hr8x1
  iintro Hr8x1
  iapply (getW1 m c 1 3 (off := ![1, 0, 0]) rfl) $$ Hw1x1
  iintro Hw1x1
  iapply (getW2 m c 1 3 (off := ![1, 0, 0]) rfl) $$ Hw2x1
  iintro Hw2x1
  iapply (dum11 m ρ c 1 3 3 (off := ![1, 768, 0]) rfl) $$ Hs11x1
  iintro %v Hs11x1
  iapply (sto11 m ρ c 1 3 (by decide) (by decide) (off := ![1, 768, 0]) rfl rfl) $$ Hs11x1
  iintro Hs11x1
  ihave Hs11x1 := (u11_full m ρ c 1) $$ Hs11x1
  iapply wpc_ret
  isplitl [How]; · iexact How
  isplitl [Hw2x1]; · iexact Hw2x1
  isplitl [Hq2x3]; · iexact Hq2x3
  isplitl [Hz18]; · iexact Hz18
  isplitl [Hr8x1]; · iexact Hr8x1
  isplitl [Hw1x1]; · iexact Hw1x1
  iexact Hs11x1

theorem part37_run (K : Dev nD × Fin 13 → ℕ) (c : Dev nD) (v2 : BitVec 32) (v5 : BitVec 32) (v272 : BitVec 32) (v838 : BitVec 32) :
    iprop(recs m ρ K ∗ owesE c (R1 c) ∗ tR c 1 ∗ p11 c 1 (YRetF m ρ c) ∗ (∃ f, p12 (F := F) (src 1 c) 1 f) ∗ wt c 8)
      ⊢ wpc c (atBufs (k0_part37 (F := F)) c v2 v5 v272 v838) (fun _ => iprop(owesE c (R2 c) ∗ wt c 10 ∗ p8 c 2 (RecvF m ρ c) ∗ z c 8)) := by
  simp only [k0_part37_eq_skeleton]
  unfold k0_part37_skel
  simp only [Prog.lift, Prog.bind_op, Prog.bind_ret, Prog.pure_eq_ret]
  iintro ⟨#Hrec, How, HtR1, Hs11x1, Hd12x1, Hwt8⟩
  iapply (sendR m ρ K c 1 (by decide) (dev8_eq c) (O := R2 c) (O' := R1 c) rfl rfl rfl) $$ [HtR1 Hs11x1 Hd12x1 How]
  · isplitr; · iexact Hrec
    isplitl [HtR1]; · iexact HtR1
    isplitl [Hs11x1]; · iexact Hs11x1
    isplitl [Hd12x1]; · iexact Hd12x1
    iexact How
  iintro ⟨Hwt10, How⟩
  iapply (waitX m ρ K c 8 (by decide) (by decide) (O := R2 c) (above_R2 c) rfl rfl) $$ [Hwt8 How]
  · isplitr; · iexact Hrec
    isplitl [Hwt8]; · iexact Hwt8
    iexact How
  iintro ⟨Hr8x2, Hz8, How⟩
  ihave Hr8x2 := (Entails.of_eq (xferPay_fr m ρ c 2 (by decide))) $$ Hr8x2
  iapply wpc_ret
  isplitl [How]; · iexact How
  isplitl [Hwt10]; · iexact Hwt10
  isplitl [Hr8x2]; · iexact Hr8x2
  iexact Hz8

end Cert.KernelIdeal.Moe
-- ==== Proof.KernelIdeal.Parts4.lean ====
/-
The parts of the body that run the last peer's buckets, gather the results and close the sends.
-/
module

public import proofs.«01_k».proof.Proof.KernelIdeal.Parts1

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
theorem part38_run (c : Dev nD)  :
    iprop(q1 m c 0 ∗ w1 c 0 (WB1 m c 2) ∗ z c 15 ∗ q2 m c 0 ∗ w2 c 0 (WB2 m c 2) ∗ z c 17 ∗ q1 m c 1 ∗ w1 c 1 (WB1 m c 3) ∗ z c 16 ∗ q2 m c 1 ∗ w2 c 1 (WB2 m c 3) ∗ z c 18)
      ⊢ wpc c (atBufs (k0_part38 (F := F)) ) (fun _ => iprop(fl1 m c 0 0 ∗ fl2 m c 0 0 ∗ fl1 m c 1 1 ∗ fl2 m c 1 1)) := by
  simp only [k0_part38_eq_skeleton]
  unfold k0_part38_skel
  simp only [Prog.lift, Prog.bind_op, Prog.bind_ret, Prog.pure_eq_ret]
  iintro ⟨Hq1x0, Hw1x0, Hz15, Hq2x0, Hw2x0, Hz17, Hq1x1, Hw1x1, Hz16, Hq2x1, Hw2x1, Hz18⟩
  iapply (start1 m c 0 0 (by decide) (by decide) rfl) $$ [Hq1x0 Hw1x0 Hz15]
  · isplitl [Hq1x0]; · iexact Hq1x0
    isplitl [Hw1x0]; · iexists (WB1 m c 2); iexact Hw1x0
    iexact Hz15
  iintro Hf1x0
  iapply (start2 m c 0 0 (by decide) (by decide) rfl) $$ [Hq2x0 Hw2x0 Hz17]
  · isplitl [Hq2x0]; · iexact Hq2x0
    isplitl [Hw2x0]; · iexists (WB2 m c 2); iexact Hw2x0
    iexact Hz17
  iintro Hf2x0
  iapply (start1 m c 1 1 (by decide) (by decide) rfl) $$ [Hq1x1 Hw1x1 Hz16]
  · isplitl [Hq1x1]; · iexact Hq1x1
    isplitl [Hw1x1]; · iexists (WB1 m c 3); iexact Hw1x1
    iexact Hz16
  iintro Hf1x1
  iapply (start2 m c 1 1 (by decide) (by decide) rfl) $$ [Hq2x1 Hw2x1 Hz18]
  · isplitl [Hq2x1]; · iexact Hq2x1
    isplitl [Hw2x1]; · iexists (WB2 m c 3); iexact Hw2x1
    iexact Hz18
  iintro Hf2x1
  iapply wpc_ret
  isplitl [Hf1x0]; · iexact Hf1x0
  isplitl [Hf2x0]; · iexact Hf2x0
  isplitl [Hf1x1]; · iexact Hf1x1
  iexact Hf2x1

theorem part39_run (K : Dev nD × Fin 13 → ℕ) (c : Dev nD)  :
    iprop(recs m ρ K ∗ owesE c (R2 c) ∗ fl1 m c 0 0 ∗ fl2 m c 0 0 ∗ p8 c 2 (RecvF m ρ c) ∗ u11 m ρ c 2 0 ∗ q1 m c 2)
      ⊢ wpc c (atBufs (k0_part39 (F := F)) ) (fun _ => iprop(owesE c (R2 c) ∗ fl1 m c 0 2 ∗ q1 m c 0 ∗ w2 c 0 (WB2 m c 0) ∗ q2 m c 0 ∗ z c 17 ∗ p8 c 2 (RecvF m ρ c) ∗ u11 m ρ c 2 1)) := by
  simp only [k0_part39_eq_skeleton]
  unfold k0_part39_skel
  simp only [Prog.lift, Prog.bind_op, Prog.bind_ret, Prog.pure_eq_ret]
  iintro ⟨#Hrec, How, Hf1x0, Hf2x0, Hr8x2, Hs11x2, Hq1x2⟩
  iapply (wait1 m ρ K c 0 0 (by decide) (O := R2 c) ((above_R2 c).mono (by decide)) rfl rfl) $$ [Hf1x0 How]
  · isplitr; · iexact Hrec
    isplitl [Hf1x0]; · iexact Hf1x0
    iexact How
  iintro ⟨Hw1x0, Hq1x0, Hz15, How⟩
  iapply (wait2 m ρ K c 0 0 (by decide) (O := R2 c) ((above_R2 c).mono (by decide)) rfl rfl) $$ [Hf2x0 How]
  · isplitr; · iexact Hrec
    isplitl [Hf2x0]; · iexact Hf2x0
    iexact How
  iintro ⟨Hw2x0, Hq2x0, Hz17, How⟩
  iapply (get8 m ρ c 2 0 (off := ![2, 0, 0]) rfl) $$ Hr8x2
  iintro Hr8x2
  iapply (getW1 m c 0 0 (off := ![0, 0, 0]) rfl) $$ Hw1x0
  iintro Hw1x0
  iapply (getW2 m c 0 0 (off := ![0, 0, 0]) rfl) $$ Hw2x0
  iintro Hw2x0
  iapply (dum11 m ρ c 2 0 0 (off := ![2, 0, 0]) rfl) $$ Hs11x2
  iintro %v Hs11x2
  iapply (sto11 m ρ c 2 0 (by decide) (by decide) (off := ![2, 0, 0]) rfl rfl) $$ Hs11x2
  iintro Hs11x2
  iapply (start1 m c 0 2 (by decide) (by decide) rfl) $$ [Hq1x2 Hw1x0 Hz15]
  · isplitl [Hq1x2]; · iexact Hq1x2
    isplitl [Hw1x0]; · iexists (WB1 m c 0); iexact Hw1x0
    iexact Hz15
  iintro Hf1x0
  iapply wpc_ret
  isplitl [How]; · iexact How
  isplitl [Hf1x0]; · iexact Hf1x0
  isplitl [Hq1x0]; · iexact Hq1x0
  isplitl [Hw2x0]; · iexact Hw2x0
  isplitl [Hq2x0]; · iexact Hq2x0
  isplitl [Hz17]; · iexact Hz17
  isplitl [Hr8x2]; · iexact Hr8x2
  iexact Hs11x2

theorem part40_run (K : Dev nD × Fin 13 → ℕ) (c : Dev nD)  :
    iprop(recs m ρ K ∗ q2 m c 2 ∗ w2 c 0 (WB2 m c 0) ∗ z c 17 ∗ owesE c (R2 c) ∗ fl1 m c 1 1 ∗ fl2 m c 1 1 ∗ p8 c 2 (RecvF m ρ c))
      ⊢ wpc c (atBufs (k0_part40 (F := F)) ) (fun r => iprop(⌜r = (k0_pay91 (rblk m ρ c 2 1) (w1v m c 1))⌝ ∗ (fl2 m c 0 2 ∗ owesE c (R2 c) ∗ w1 c 1 (WB1 m c 1) ∗ q1 m c 1 ∗ z c 16 ∗ w2 c 1 (WB2 m c 1) ∗ q2 m c 1 ∗ z c 18 ∗ p8 c 2 (RecvF m ρ c)))) := by
  simp only [k0_part40_eq_skeleton]
  unfold k0_part40_skel
  simp only [Prog.lift, Prog.bind_op, Prog.bind_ret, Prog.pure_eq_ret]
  iintro ⟨#Hrec, Hq2x2, Hw2x0, Hz17, How, Hf1x1, Hf2x1, Hr8x2⟩
  iapply (start2 m c 0 2 (by decide) (by decide) rfl) $$ [Hq2x2 Hw2x0 Hz17]
  · isplitl [Hq2x2]; · iexact Hq2x2
    isplitl [Hw2x0]; · iexists (WB2 m c 0); iexact Hw2x0
    iexact Hz17
  iintro Hf2x0
  iapply (wait1 m ρ K c 1 1 (by decide) (O := R2 c) ((above_R2 c).mono (by decide)) rfl rfl) $$ [Hf1x1 How]
  · isplitr; · iexact Hrec
    isplitl [Hf1x1]; · iexact Hf1x1
    iexact How
  iintro ⟨Hw1x1, Hq1x1, Hz16, How⟩
  iapply (wait2 m ρ K c 1 1 (by decide) (O := R2 c) ((above_R2 c).mono (by decide)) rfl rfl) $$ [Hf2x1 How]
  · isplitr; · iexact Hrec
    isplitl [Hf2x1]; · iexact Hf2x1
    iexact How
  iintro ⟨Hw2x1, Hq2x1, Hz18, How⟩
  iapply (get8 m ρ c 2 1 (off := ![2, 256, 0]) rfl) $$ Hr8x2
  iintro Hr8x2
  iapply (getW1 m c 1 1 (off := ![1, 0, 0]) rfl) $$ Hw1x1
  iintro Hw1x1
  iapply wpc_ret
  isplitr; · ipureintro; rfl
  isplitl [Hf2x0]; · iexact Hf2x0
  isplitl [How]; · iexact How
  isplitl [Hw1x1]; · iexact Hw1x1
  isplitl [Hq1x1]; · iexact Hq1x1
  isplitl [Hz16]; · iexact Hz16
  isplitl [Hw2x1]; · iexact Hw2x1
  isplitl [Hq2x1]; · iexact Hq2x1
  isplitl [Hz18]; · iexact Hz18
  iexact Hr8x2

theorem part41_run (K : Dev nD × Fin 13 → ℕ) (c : Dev nD)  :
    iprop(recs m ρ K ∗ w2 c 1 (WB2 m c 1) ∗ u11 m ρ c 2 1 ∗ q1 m c 3 ∗ w1 c 1 (WB1 m c 1) ∗ z c 16 ∗ q2 m c 3 ∗ z c 18 ∗ owesE c (R2 c) ∗ fl1 m c 0 2)
      ⊢ wpc c (atBufs (k0_part41 (F := F)) (k0_pay91 (rblk m ρ c 2 1) (w1v m c 1))) (fun _ => iprop(u11 m ρ c 2 2 ∗ fl1 m c 1 3 ∗ fl2 m c 1 3 ∗ owesE c (R2 c) ∗ w1 c 0 (WB1 m c 2) ∗ q1 m c 2 ∗ z c 15)) := by
  simp only [k0_part41_eq_skeleton]
  unfold k0_part41_skel
  simp only [Prog.lift, Prog.bind_op, Prog.bind_ret, Prog.pure_eq_ret]
  iintro ⟨#Hrec, Hw2x1, Hs11x2, Hq1x3, Hw1x1, Hz16, Hq2x3, Hz18, How, Hf1x0⟩
  iapply (getW2 m c 1 1 (off := ![1, 0, 0]) rfl) $$ Hw2x1
  iintro Hw2x1
  iapply (dum11 m ρ c 2 1 1 (off := ![2, 256, 0]) rfl) $$ Hs11x2
  iintro %v Hs11x2
  iapply (sto11 m ρ c 2 1 (by decide) (by decide) (off := ![2, 256, 0]) rfl rfl) $$ Hs11x2
  iintro Hs11x2
  iapply (start1 m c 1 3 (by decide) (by decide) rfl) $$ [Hq1x3 Hw1x1 Hz16]
  · isplitl [Hq1x3]; · iexact Hq1x3
    isplitl [Hw1x1]; · iexists (WB1 m c 1); iexact Hw1x1
    iexact Hz16
  iintro Hf1x1
  iapply (start2 m c 1 3 (by decide) (by decide) rfl) $$ [Hq2x3 Hw2x1 Hz18]
  · isplitl [Hq2x3]; · iexact Hq2x3
    isplitl [Hw2x1]; · iexists (WB2 m c 1); iexact Hw2x1
    iexact Hz18
  iintro Hf2x1
  iapply (wait1 m ρ K c 0 2 (by decide) (O := R2 c) ((above_R2 c).mono (by decide)) rfl rfl) $$ [Hf1x0 How]
  · isplitr; · iexact Hrec
    isplitl [Hf1x0]; · iexact Hf1x0
    iexact How
  iintro ⟨Hw1x0, Hq1x2, Hz15, How⟩
  iapply wpc_ret
  isplitl [Hs11x2]; · iexact Hs11x2
  isplitl [Hf1x1]; · iexact Hf1x1
  isplitl [Hf2x1]; · iexact Hf2x1
  isplitl [How]; · iexact How
  isplitl [Hw1x0]; · iexact Hw1x0
  isplitl [Hq1x2]; · iexact Hq1x2
  iexact Hz15

theorem part42_run (K : Dev nD × Fin 13 → ℕ) (c : Dev nD)  :
    iprop(recs m ρ K ∗ owesE c (R2 c) ∗ fl2 m c 0 2 ∗ p8 c 2 (RecvF m ρ c) ∗ w1 c 0 (WB1 m c 2) ∗ u11 m ρ c 2 2 ∗ fl1 m c 1 3)
      ⊢ wpc c (atBufs (k0_part42 (F := F)) ) (fun _ => iprop(owesE c (R2 c) ∗ w2 c 0 (WB2 m c 2) ∗ q2 m c 2 ∗ z c 17 ∗ p8 c 2 (RecvF m ρ c) ∗ w1 c 0 (WB1 m c 2) ∗ u11 m ρ c 2 3 ∗ w1 c 1 (WB1 m c 3) ∗ q1 m c 3 ∗ z c 16)) := by
  simp only [k0_part42_eq_skeleton]
  unfold k0_part42_skel
  simp only [Prog.lift, Prog.bind_op, Prog.bind_ret, Prog.pure_eq_ret]
  iintro ⟨#Hrec, How, Hf2x0, Hr8x2, Hw1x0, Hs11x2, Hf1x1⟩
  iapply (wait2 m ρ K c 0 2 (by decide) (O := R2 c) ((above_R2 c).mono (by decide)) rfl rfl) $$ [Hf2x0 How]
  · isplitr; · iexact Hrec
    isplitl [Hf2x0]; · iexact Hf2x0
    iexact How
  iintro ⟨Hw2x0, Hq2x2, Hz17, How⟩
  iapply (get8 m ρ c 2 2 (off := ![2, 512, 0]) rfl) $$ Hr8x2
  iintro Hr8x2
  iapply (getW1 m c 0 2 (off := ![0, 0, 0]) rfl) $$ Hw1x0
  iintro Hw1x0
  iapply (getW2 m c 0 2 (off := ![0, 0, 0]) rfl) $$ Hw2x0
  iintro Hw2x0
  iapply (dum11 m ρ c 2 2 2 (off := ![2, 512, 0]) rfl) $$ Hs11x2
  iintro %v Hs11x2
  iapply (sto11 m ρ c 2 2 (by decide) (by decide) (off := ![2, 512, 0]) rfl rfl) $$ Hs11x2
  iintro Hs11x2
  iapply (wait1 m ρ K c 1 3 (by decide) (O := R2 c) ((above_R2 c).mono (by decide)) rfl rfl) $$ [Hf1x1 How]
  · isplitr; · iexact Hrec
    isplitl [Hf1x1]; · iexact Hf1x1
    iexact How
  iintro ⟨Hw1x1, Hq1x3, Hz16, How⟩
  iapply wpc_ret
  isplitl [How]; · iexact How
  isplitl [Hw2x0]; · iexact Hw2x0
  isplitl [Hq2x2]; · iexact Hq2x2
  isplitl [Hz17]; · iexact Hz17
  isplitl [Hr8x2]; · iexact Hr8x2
  isplitl [Hw1x0]; · iexact Hw1x0
  isplitl [Hs11x2]; · iexact Hs11x2
  isplitl [Hw1x1]; · iexact Hw1x1
  isplitl [Hq1x3]; · iexact Hq1x3
  iexact Hz16

theorem part43_run (K : Dev nD × Fin 13 → ℕ) (c : Dev nD) (v8 : BitVec 32) :
    iprop(recs m ρ K ∗ owesE c (R2 c) ∗ fl2 m c 1 3 ∗ p8 c 2 (RecvF m ρ c) ∗ w1 c 1 (WB1 m c 3) ∗ u11 m ρ c 2 3)
      ⊢ wpc c (atBufs (k0_part43 (F := F)) v8) (fun _ => iprop(owesE c (R2 c) ∗ w2 c 1 (WB2 m c 3) ∗ q2 m c 3 ∗ z c 18 ∗ p8 c 2 (RecvF m ρ c) ∗ w1 c 1 (WB1 m c 3) ∗ p11 c 2 (YRetF m ρ c))) := by
  simp only [k0_part43_eq_skeleton]
  unfold k0_part43_skel
  simp only [Prog.lift, Prog.bind_op, Prog.bind_ret, Prog.pure_eq_ret]
  iintro ⟨#Hrec, How, Hf2x1, Hr8x2, Hw1x1, Hs11x2⟩
  iapply (wait2 m ρ K c 1 3 (by decide) (O := R2 c) ((above_R2 c).mono (by decide)) rfl rfl) $$ [Hf2x1 How]
  · isplitr; · iexact Hrec
    isplitl [Hf2x1]; · iexact Hf2x1
    iexact How
  iintro ⟨Hw2x1, Hq2x3, Hz18, How⟩
  iapply (get8 m ρ c 2 3 (off := ![2, 768, 0]) rfl) $$ Hr8x2
  iintro Hr8x2
  iapply (getW1 m c 1 3 (off := ![1, 0, 0]) rfl) $$ Hw1x1
  iintro Hw1x1
  iapply (getW2 m c 1 3 (off := ![1, 0, 0]) rfl) $$ Hw2x1
  iintro Hw2x1
  iapply (dum11 m ρ c 2 3 3 (off := ![2, 768, 0]) rfl) $$ Hs11x2
  iintro %v Hs11x2
  iapply (sto11 m ρ c 2 3 (by decide) (by decide) (off := ![2, 768, 0]) rfl rfl) $$ Hs11x2
  iintro Hs11x2
  ihave Hs11x2 := (u11_full m ρ c 2) $$ Hs11x2
  iapply wpc_ret
  isplitl [How]; · iexact How
  isplitl [Hw2x1]; · iexact Hw2x1
  isplitl [Hq2x3]; · iexact Hq2x3
  isplitl [Hz18]; · iexact Hz18
  isplitl [Hr8x2]; · iexact Hr8x2
  isplitl [Hw1x1]; · iexact Hw1x1
  iexact Hs11x2

theorem part44_run (K : Dev nD × Fin 13 → ℕ) (c : Dev nD) (v2 : BitVec 32) (v5 : BitVec 32) (v645 : BitVec 32) (v1031 : BitVec 32) :
    iprop(recs m ρ K ∗ owesE c (R2 c) ∗ tR c 2 ∗ p11 c 2 (YRetF m ρ c) ∗ (∃ f, p12 (F := F) (src 2 c) 2 f) ∗ wt c 12)
      ⊢ wpc c (atBufs (k0_part44 (F := F)) c v2 v5 v645 v1031) (fun _ => iprop(owesE (F := F) c 0 ∗ wt c 11 ∗ p12 c 0 (RetF m ρ c) ∗ z c 12)) := by
  simp only [k0_part44_eq_skeleton]
  unfold k0_part44_skel
  simp only [Prog.lift, Prog.bind_op, Prog.bind_ret, Prog.pure_eq_ret]
  iintro ⟨#Hrec, How, HtR2, Hs11x2, Hd12x2, Hwt12⟩
  iapply (sendR m ρ K c 2 (by decide) (dev9_eq c) (O := 0) (O' := R2 c) (zero_add _).symm rfl rfl) $$ [HtR2 Hs11x2 Hd12x2 How]
  · isplitr; · iexact Hrec
    isplitl [HtR2]; · iexact HtR2
    isplitl [Hs11x2]; · iexact Hs11x2
    isplitl [Hd12x2]; · iexact Hd12x2
    iexact How
  iintro ⟨Hwt11, How⟩
  iapply (waitX m ρ K c 12 (by decide) (by decide) (O := 0) (above_zero _) rfl rfl) $$ [Hwt12 How]
  · isplitr; · iexact Hrec
    isplitl [Hwt12]; · iexact Hwt12
    iexact How
  iintro ⟨Hr12x0, Hz12, How⟩
  ihave Hr12x0 := (Entails.of_eq (xferPay_rr m ρ c 0 (by decide))) $$ Hr12x0
  iapply wpc_ret
  isplitl [How]; · iexact How
  isplitl [Hwt11]; · iexact Hwt11
  isplitl [Hr12x0]; · iexact Hr12x0
  iexact Hz12

theorem part1_run (c : Dev nD) (v125 : FVec F S256x256 .bf16) (c0_i32_1048 : BitVec 32) (c1_i32_1050 : BitVec 32) (t : Fin k0_t19_loop.trips) :
    iprop(hY m ρ c ∗ hR m ρ c ∗ hM m ρ c)
      ⊢ wpc c (atBufs (k0_part1 (F := F)) v125 c0_i32_1048 c1_i32_1050 t) (fun r => iprop(⌜∃ (arg21 : BitVec 32) (v1119 : BitVec 32) (v1156 : BitVec 32), r = ⟨arg21, v1119, k0_pay1 v125 (yo m ρ c 0) (colAt (RankF m ρ c) t.val 0) (colAt (MaskF m ρ c) t.val 0) (yo m ρ c 1) (colAt (RankF m ρ c) t.val 1) (colAt (MaskF m ρ c) t.val 1), (yo m ρ c 2), v1156⟩⌝ ∗ (hY m ρ c ∗ hR m ρ c ∗ hM m ρ c))) := by
  simp only [k0_part1_eq_skeleton]
  unfold k0_part1_skel
  simp only [Prog.lift, Prog.bind_op, Prog.bind_ret, Prog.pure_eq_ret]
  iintro ⟨HY, HR, HM⟩
  iapply (getY m ρ c 0 (off := ![0, 0]) rfl) $$ HY
  iintro HY
  iapply (getR m ρ c t.val 0 (off := (k0_off36 t)) (k0_off36_eq t)) $$ HR
  iintro HR
  iapply (getM m ρ c t.val 0 (off := (k0_off36 t)) (k0_off36_eq t)) $$ HM
  iintro HM
  iapply (getY m ρ c 1 (off := ![256, 0]) rfl) $$ HY
  iintro HY
  iapply (getR m ρ c t.val 1 (off := (k0_off37 t)) (k0_off37_eq t)) $$ HR
  iintro HR
  iapply (getM m ρ c t.val 1 (off := (k0_off37 t)) (k0_off37_eq t)) $$ HM
  iintro HM
  iapply (getY m ρ c 2 (off := ![512, 0]) rfl) $$ HY
  iintro HY
  iapply wpc_ret
  isplitr; · ipureintro; exact ⟨_, _, _, rfl⟩
  isplitl [HY]; · iexact HY
  isplitl [HR]; · iexact HR
  iexact HM

theorem part2_run (c : Dev nD) (v125 : FVec F S256x256 .bf16) (t : Fin k0_t19_loop.trips) (arg21 : BitVec 32) (v1154 : FVec F S256x1024 .f32) (v1155 : Vec F S256x1024 .bf16) (v1156 : BitVec 32) :
    iprop(hR m ρ c ∗ hM m ρ c ∗ hY m ρ c ∗ p12 c 0 (RetF m ρ c))
      ⊢ wpc c (atBufs (k0_part2 (F := F)) v125 t arg21 v1154 v1155 v1156) (fun r => iprop(⌜r = ⟨k0_pay2 v125 v1154 v1155 (colAt (RankF m ρ c) t.val 2) (colAt (MaskF m ρ c) t.val 2) (yo m ρ c 3) (colAt (RankF m ρ c) t.val 3) (colAt (MaskF m ρ c) t.val 3), k0_pay3 (yr m ρ c 0 0), k0_pay4 v125 (colAt (RankF m ρ c) t.val 4), k0_pay5 (colAt (MaskF m ρ c) t.val 4)⟩⌝ ∗ (hR m ρ c ∗ hM m ρ c ∗ hY m ρ c ∗ p12 c 0 (RetF m ρ c)))) := by
  simp only [k0_part2_eq_skeleton]
  unfold k0_part2_skel
  simp only [Prog.lift, Prog.bind_op, Prog.bind_ret, Prog.pure_eq_ret]
  iintro ⟨HR, HM, HY, Hr12x0⟩
  iapply (getR m ρ c t.val 2 (off := (k0_off38 t)) (k0_off38_eq t)) $$ HR
  iintro HR
  iapply (getM m ρ c t.val 2 (off := (k0_off38 t)) (k0_off38_eq t)) $$ HM
  iintro HM
  iapply (getY m ρ c 3 (off := ![768, 0]) rfl) $$ HY
  iintro HY
  iapply (getR m ρ c t.val 3 (off := (k0_off39 t)) (k0_off39_eq t)) $$ HR
  iintro HR
  iapply (getM m ρ c t.val 3 (off := (k0_off39 t)) (k0_off39_eq t)) $$ HM
  iintro HM
  iapply (get12 m ρ c 0 0 (off := ![0, 0, 0]) rfl) $$ Hr12x0
  iintro Hr12x0
  iapply (getR m ρ c t.val 4 (off := (k0_off40 t)) (k0_off40_eq t)) $$ HR
  iintro HR
  iapply (getM m ρ c t.val 4 (off := (k0_off40 t)) (k0_off40_eq t)) $$ HM
  iintro HM
  iapply wpc_ret
  isplitr; · ipureintro; rfl
  isplitl [HR]; · iexact HR
  isplitl [HM]; · iexact HM
  isplitl [HY]; · iexact HY
  iexact Hr12x0

theorem part3_run (c : Dev nD) (v125 : FVec F S256x256 .bf16) (t : Fin k0_t19_loop.trips) (arg21 : BitVec 32) (v1188 : FVec F S256x1024 .f32) (v1190 : FVec F S256x1024 .bf16) (v1197 : IVec S256x256 1) (v1200 : IVec S256x256 1) :
    iprop(p12 c 0 (RetF m ρ c) ∗ hR m ρ c ∗ hM m ρ c)
      ⊢ wpc c (atBufs (k0_part3 (F := F)) v125 t arg21 v1188 v1190 v1197 v1200) (fun r => iprop(⌜r = (k0_pay6 v125 v1188 v1190 v1197 v1200 (yr m ρ c 0 1) (colAt (RankF m ρ c) t.val 5) (colAt (MaskF m ρ c) t.val 5) (yr m ρ c 0 2) (colAt (RankF m ρ c) t.val 6) (colAt (MaskF m ρ c) t.val 6))⌝ ∗ (p12 c 0 (RetF m ρ c) ∗ hR m ρ c ∗ hM m ρ c))) := by
  simp only [k0_part3_eq_skeleton]
  unfold k0_part3_skel
  simp only [Prog.lift, Prog.bind_op, Prog.bind_ret, Prog.pure_eq_ret]
  iintro ⟨Hr12x0, HR, HM⟩
  iapply (get12 m ρ c 0 1 (off := ![0, 256, 0]) rfl) $$ Hr12x0
  iintro Hr12x0
  iapply (getR m ρ c t.val 5 (off := (k0_off41 t)) (k0_off41_eq t)) $$ HR
  iintro HR
  iapply (getM m ρ c t.val 5 (off := (k0_off41 t)) (k0_off41_eq t)) $$ HM
  iintro HM
  iapply (get12 m ρ c 0 2 (off := ![0, 512, 0]) rfl) $$ Hr12x0
  iintro Hr12x0
  iapply (getR m ρ c t.val 6 (off := (k0_off42 t)) (k0_off42_eq t)) $$ HR
  iintro HR
  iapply (getM m ρ c t.val 6 (off := (k0_off42 t)) (k0_off42_eq t)) $$ HM
  iintro HM
  iapply wpc_ret
  isplitr; · ipureintro; rfl
  isplitl [Hr12x0]; · iexact Hr12x0
  isplitl [HR]; · iexact HR
  iexact HM

theorem part4_run (c : Dev nD) (v125 : FVec F S256x256 .bf16) (t : Fin k0_t19_loop.trips) (arg21 : BitVec 32) (v1242 : FVec F S256x1024 .f32) :
    iprop(p12 c 0 (RetF m ρ c) ∗ hR m ρ c ∗ hM m ρ c ∗ p12 c 1 (RetF m ρ c))
      ⊢ wpc c (atBufs (k0_part4 (F := F)) v125 t arg21 v1242) (fun r => iprop(⌜∃ (v1281 : BitVec 32), r = ⟨k0_pay7 v125 v1242 (yr m ρ c 0 3) (colAt (RankF m ρ c) t.val 7) (colAt (MaskF m ρ c) t.val 7) (yr m ρ c 1 0) (colAt (RankF m ρ c) t.val 8) (colAt (MaskF m ρ c) t.val 8), k0_pay8 (yr m ρ c 1 1), v1281⟩⌝ ∗ (p12 c 0 (RetF m ρ c) ∗ hR m ρ c ∗ hM m ρ c ∗ p12 c 1 (RetF m ρ c)))) := by
  simp only [k0_part4_eq_skeleton]
  unfold k0_part4_skel
  simp only [Prog.lift, Prog.bind_op, Prog.bind_ret, Prog.pure_eq_ret]
  iintro ⟨Hr12x0, HR, HM, Hr12x1⟩
  iapply (get12 m ρ c 0 3 (off := ![0, 768, 0]) rfl) $$ Hr12x0
  iintro Hr12x0
  iapply (getR m ρ c t.val 7 (off := (k0_off43 t)) (k0_off43_eq t)) $$ HR
  iintro HR
  iapply (getM m ρ c t.val 7 (off := (k0_off43 t)) (k0_off43_eq t)) $$ HM
  iintro HM
  iapply (get12 m ρ c 1 0 (off := ![1, 0, 0]) rfl) $$ Hr12x1
  iintro Hr12x1
  iapply (getR m ρ c t.val 8 (off := (k0_off44 t)) (k0_off44_eq t)) $$ HR
  iintro HR
  iapply (getM m ρ c t.val 8 (off := (k0_off44 t)) (k0_off44_eq t)) $$ HM
  iintro HM
  iapply (get12 m ρ c 1 1 (off := ![1, 256, 0]) rfl) $$ Hr12x1
  iintro Hr12x1
  iapply wpc_ret
  isplitr; · ipureintro; exact ⟨_, rfl⟩
  isplitl [Hr12x0]; · iexact Hr12x0
  isplitl [HR]; · iexact HR
  isplitl [HM]; · iexact HM
  iexact Hr12x1

theorem part5_run (c : Dev nD) (v125 : FVec F S256x256 .bf16) (t : Fin k0_t19_loop.trips) (arg21 : BitVec 32) (v1278 : FVec F S256x1024 .f32) (v1280 : FVec F S256x1024 .bf16) (v1281 : BitVec 32) :
    iprop(hR m ρ c ∗ hM m ρ c ∗ p12 c 1 (RetF m ρ c))
      ⊢ wpc c (atBufs (k0_part5 (F := F)) v125 t arg21 v1278 v1280 v1281) (fun r => iprop(⌜r = ⟨k0_pay9 v125 v1278 v1280 (colAt (RankF m ρ c) t.val 9) (colAt (MaskF m ρ c) t.val 9) (yr m ρ c 1 2) (colAt (RankF m ρ c) t.val 10) (colAt (MaskF m ρ c) t.val 10), k0_pay10 (yr m ρ c 1 3), (colAt (MaskF m ρ c) t.val 11), k0_pay11 v125 (colAt (RankF m ρ c) t.val 11), k0_pay12 (F := F)⟩⌝ ∗ (hR m ρ c ∗ hM m ρ c ∗ p12 c 1 (RetF m ρ c)))) := by
  simp only [k0_part5_eq_skeleton]
  unfold k0_part5_skel
  simp only [Prog.lift, Prog.bind_op, Prog.bind_ret, Prog.pure_eq_ret]
  iintro ⟨HR, HM, Hr12x1⟩
  iapply (getR m ρ c t.val 9 (off := (k0_off45 t)) (k0_off45_eq t)) $$ HR
  iintro HR
  iapply (getM m ρ c t.val 9 (off := (k0_off45 t)) (k0_off45_eq t)) $$ HM
  iintro HM
  iapply (get12 m ρ c 1 2 (off := ![1, 512, 0]) rfl) $$ Hr12x1
  iintro Hr12x1
  iapply (getR m ρ c t.val 10 (off := (k0_off46 t)) (k0_off46_eq t)) $$ HR
  iintro HR
  iapply (getM m ρ c t.val 10 (off := (k0_off46 t)) (k0_off46_eq t)) $$ HM
  iintro HM
  iapply (get12 m ρ c 1 3 (off := ![1, 768, 0]) rfl) $$ Hr12x1
  iintro Hr12x1
  iapply (getR m ρ c t.val 11 (off := (k0_off47 t)) (k0_off47_eq t)) $$ HR
  iintro HR
  iapply (getM m ρ c t.val 11 (off := (k0_off47 t)) (k0_off47_eq t)) $$ HM
  iintro HM
  iapply wpc_ret
  isplitr; · ipureintro; rfl
  isplitl [HR]; · iexact HR
  isplitl [HM]; · iexact HM
  iexact Hr12x1

theorem part6_run (c : Dev nD) (v125 : FVec F S256x256 .bf16) (t : Fin k0_t19_loop.trips) (arg21 : BitVec 32) (v1314 : FVec F S256x1024 .f32) (v1316 : FVec F S256x1024 .bf16) (v1321 : Vec F S256x1 .bf16) (v1323 : IVec S256x256 1) (v1324 : FVec F S256x1 .bf16) :
    iprop(p12 c 2 (RetF m ρ c) ∗ hR m ρ c ∗ hM m ρ c)
      ⊢ wpc c (atBufs (k0_part6 (F := F)) v125 t arg21 v1314 v1316 v1321 v1323 v1324) (fun r => iprop(⌜r = ⟨k0_pay13 v125 v1314 v1316 v1321 v1323 v1324 (yr m ρ c 2 0) (colAt (RankF m ρ c) t.val 12) (colAt (MaskF m ρ c) t.val 12), k0_pay14 v125 (yr m ρ c 2 1) (colAt (RankF m ρ c) t.val 13) (colAt (MaskF m ρ c) t.val 13)⟩⌝ ∗ (p12 c 2 (RetF m ρ c) ∗ hR m ρ c ∗ hM m ρ c))) := by
  simp only [k0_part6_eq_skeleton]
  unfold k0_part6_skel
  simp only [Prog.lift, Prog.bind_op, Prog.bind_ret, Prog.pure_eq_ret]
  iintro ⟨Hr12x2, HR, HM⟩
  iapply (get12 m ρ c 2 0 (off := ![2, 0, 0]) rfl) $$ Hr12x2
  iintro Hr12x2
  iapply (getR m ρ c t.val 12 (off := (k0_off48 t)) (k0_off48_eq t)) $$ HR
  iintro HR
  iapply (getM m ρ c t.val 12 (off := (k0_off48 t)) (k0_off48_eq t)) $$ HM
  iintro HM
  iapply (get12 m ρ c 2 1 (off := ![2, 256, 0]) rfl) $$ Hr12x2
  iintro Hr12x2
  iapply (getR m ρ c t.val 13 (off := (k0_off49 t)) (k0_off49_eq t)) $$ HR
  iintro HR
  iapply (getM m ρ c t.val 13 (off := (k0_off49 t)) (k0_off49_eq t)) $$ HM
  iintro HM
  iapply wpc_ret
  isplitr; · ipureintro; rfl
  isplitl [Hr12x2]; · iexact Hr12x2
  isplitl [HR]; · iexact HR
  iexact HM

/-- The gather of one tile of the output. -/
theorem part7_run (c : Dev nD) (w w' : BitVec 32) (t : Fin k0_t19_loop.trips) :
    iprop(hY m ρ c ∗ hR m ρ c ∗ hM m ρ c ∗ p12 c 0 (RetF m ρ c) ∗ p12 c 1 (RetF m ρ c) ∗ p12 c 2 (RetF m ρ c))
      ⊢ wpc c (atBufs (k0_part7 (F := F)) k0_pay22 w w' t) (fun r => iprop(⌜∃ v : BitVec 32, r = ⟨v, outTile m ρ c t.val⟩⌝
        ∗ (hY m ρ c ∗ hR m ρ c ∗ hM m ρ c ∗ p12 c 0 (RetF m ρ c) ∗ p12 c 1 (RetF m ρ c) ∗ p12 c 2 (RetF m ρ c)))) := by
  simp only [k0_part7_eq_skeleton]
  unfold k0_part7_skel
  simp only [Prog.lift, Prog.bind_op, Prog.bind_ret, Prog.pure_eq_ret]
  iintro ⟨HY, HR, HM, Hr12x0, Hr12x1, Hr12x2⟩
  iapply (runSome (part1_run m ρ c _ _ _ _)) $$ [HY HR HM]
  · isplitl [HY]; · iexact HY
    isplitl [HR]; · iexact HR
    iexact HM
  iintro %r %hr ⟨HY, HR, HM⟩
  obtain ⟨a21, a1, a2, rfl⟩ := hr
  iapply (runAt (part2_run m ρ c _ _ _ _ _ _)) $$ [HR HM HY Hr12x0]
  · isplitl [HR]; · iexact HR
    isplitl [HM]; · iexact HM
    isplitl [HY]; · iexact HY
    iexact Hr12x0
  iintro ⟨HR, HM, HY, Hr12x0⟩
  iapply (runAt (part3_run m ρ c _ _ _ _ _ _ _)) $$ [Hr12x0 HR HM]
  · isplitl [Hr12x0]; · iexact Hr12x0
    isplitl [HR]; · iexact HR
    iexact HM
  iintro ⟨Hr12x0, HR, HM⟩
  iapply (runSome (part4_run m ρ c _ _ _ _)) $$ [Hr12x0 HR HM Hr12x1]
  · isplitl [Hr12x0]; · iexact Hr12x0
    isplitl [HR]; · iexact HR
    isplitl [HM]; · iexact HM
    iexact Hr12x1
  iintro %r %hr ⟨Hr12x0, HR, HM, Hr12x1⟩
  obtain ⟨a3, rfl⟩ := hr
  iapply (runAt (part5_run m ρ c _ _ _ _ _ _)) $$ [HR HM Hr12x1]
  · isplitl [HR]; · iexact HR
    isplitl [HM]; · iexact HM
    iexact Hr12x1
  iintro ⟨HR, HM, Hr12x1⟩
  iapply (runAt (part6_run m ρ c _ _ _ _ _ _ _ _)) $$ [Hr12x2 HR HM]
  · isplitl [Hr12x2]; · iexact Hr12x2
    isplitl [HR]; · iexact HR
    iexact HM
  iintro ⟨Hr12x2, HR, HM⟩
  iapply (get12 m ρ c 2 2 (off := ![2, 512, 0]) rfl) $$ Hr12x2
  iintro Hr12x2
  iapply (getR m ρ c t.val 14 (off := (k0_off50 t)) (k0_off50_eq t)) $$ HR
  iintro HR
  iapply (getM m ρ c t.val 14 (off := (k0_off50 t)) (k0_off50_eq t)) $$ HM
  iintro HM
  iapply (get12 m ρ c 2 3 (off := ![2, 768, 0]) rfl) $$ Hr12x2
  iintro Hr12x2
  iapply (getR m ρ c t.val 15 (off := (k0_off51 t)) (k0_off51_eq t)) $$ HR
  iintro HR
  iapply (getM m ρ c t.val 15 (off := (k0_off51 t)) (k0_off51_eq t)) $$ HM
  iintro HM
  iapply wpc_ret
  isplitr; · ipureintro; exact ⟨_, rfl⟩
  isplitl [HY]; · iexact HY
  isplitl [HR]; · iexact HR
  isplitl [HM]; · iexact HM
  isplitl [Hr12x0]; · iexact Hr12x0
  isplitl [Hr12x1]; · iexact Hr12x1
  iexact Hr12x2

theorem out_for (c : Dev nD) (v2 v5 v838 v1031 v1061 : BitVec 32) {α : Type} {kk : Unit → Prog (TpuEff nD τ sig (Elt F) Λ₀ .tc) α} {Q : α → sProp 𝕄} :
    iprop(hY m ρ c ∗ hR m ρ c ∗ hM m ρ c ∗ p12 c 0 (RetF m ρ c) ∗ p12 c 1 (RetF m ρ c) ∗ p12 c 2 (RetF m ρ c) ∗ uO m ρ c 0)
      ⊢ iprop(((hY m ρ c ∗ hR m ρ c ∗ hM m ρ c ∗ p12 c 0 (RetF m ρ c) ∗ p12 c 1 (RetF m ρ c) ∗ p12 c 2 (RetF m ρ c) ∗ hO m ρ c) -∗ wpc c (kk ⟨⟩) Q)
      -∗ wpc c (Scf.Loop.for k0_t19_loop k0_t19_ok ⟨⟩ (atBufs (k0_t19_body (F := F)) v2 v5 k0_pay22 v838 v1031 v1061) >>= kk) Q) := by
  iintro H Hk
  iapply (Scf.wp_for_bind frame (wpE (defs₀ (F := F)) 𝒱₀ (c : Thread nD τ) none) Set.univ k0_t19_loop.lb k0_t19_loop.ub k0_t19_loop.st k0_t19_ok ⟨⟩ _
    (fun n _ => iprop(hY m ρ c ∗ hR m ρ c ∗ hM m ρ c ∗ p12 c 0 (RetF m ρ c) ∗ p12 c 1 (RetF m ρ c) ∗ p12 c 2 (RetF m ρ c) ∗ uO m ρ c n)) (fun t acc => by
      unfold k0_t19_body
      simp only [Prog.lift, Prog.bind_op, Prog.bind_ret, Prog.pure_eq_ret]
      iintro ⟨HY, HR, HM, Hr12x0, Hr12x1, Hr12x2, HO⟩
      iapply (runSome (part7_run m ρ c _ _ t)) $$ [HY HR HM Hr12x0 Hr12x1 Hr12x2]
      · isplitl [HY]; · iexact HY
        isplitl [HR]; · iexact HR
        isplitl [HM]; · iexact HM
        isplitl [Hr12x0]; · iexact Hr12x0
        isplitl [Hr12x1]; · iexact Hr12x1
        iexact Hr12x2
      iintro %r %hr ⟨HY, HR, HM, Hr12x0, Hr12x1, Hr12x2⟩
      obtain ⟨v, rfl⟩ := hr
      iapply (dumO m ρ c t.val) $$ HO
      iintro %w HO
      iapply (stoO m ρ c t.val (lt_of_lt_of_le t.isLt k0_t19_abs.2.1) (off := k0_off52 t) (k0_off52_eq t) rfl) $$ HO
      iintro HO
      iapply wpc_ret
      isplitl [HY]; · iexact HY
      isplitl [HR]; · iexact HR
      isplitl [HM]; · iexact HM
      isplitl [Hr12x0]; · iexact Hr12x0
      isplitl [Hr12x1]; · iexact Hr12x1
      isplitl [Hr12x2]; · iexact Hr12x2
      iexact HO)) $$ [H]
  · iexact H
  iintro %acc ⟨HY, HR, HM, Hr12x0, Hr12x1, Hr12x2, HO⟩
  rw [show Scf.trips k0_t19_loop.lb k0_t19_loop.ub k0_t19_loop.st = 8 from by decide]
  iapply Hk
  isplitl [HY]; · iexact HY
  isplitl [HR]; · iexact HR
  isplitl [HM]; · iexact HM
  isplitl [Hr12x0]; · iexact Hr12x0
  isplitl [Hr12x1]; · iexact Hr12x1
  isplitl [Hr12x2]; · iexact Hr12x2
  iapply (uO_full m ρ c) $$ HO

theorem part45_run (K : Dev nD × Fin 13 → ℕ) (c : Dev nD) (v2 : BitVec 32) (v5 : BitVec 32) (v838 : BitVec 32) (v1031 : BitVec 32) (v1061 : BitVec 32) :
    iprop(recs m ρ K ∗ hY m ρ c ∗ hR m ρ c ∗ hM m ρ c ∗ p12 c 0 (RetF m ρ c) ∗ uO m ρ c 0 ∗ owesE (F := F) c 0 ∗ wt c 13 ∗ wt c 14)
      ⊢ wpc c (atBufs (k0_part45 (F := F)) v2 v5 (k0_pay22 (F := F)) v838 v1031 v1061) (fun _ => iprop(hY m ρ c ∗ hR m ρ c ∗ hM m ρ c ∗ p12 c 0 (RetF m ρ c) ∗ hO m ρ c ∗ owesE (F := F) c 0 ∗ p12 c 1 (RetF m ρ c) ∗ z c 13 ∗ p12 c 2 (RetF m ρ c) ∗ z c 14)) := by
  simp only [k0_part45_eq_skeleton]
  unfold k0_part45_skel
  simp only [Prog.lift, Prog.bind_op, Prog.bind_ret, Prog.pure_eq_ret]
  iintro ⟨#Hrec, HY, HR, HM, Hr12x0, HO, How, Hwt13, Hwt14⟩
  iapply (waitX m ρ K c 13 (by decide) (by decide) (O := 0) (above_zero _) rfl rfl) $$ [Hwt13 How]
  · isplitr; · iexact Hrec
    isplitl [Hwt13]; · iexact Hwt13
    iexact How
  iintro ⟨Hr12x1, Hz13, How⟩
  ihave Hr12x1 := (Entails.of_eq (xferPay_rr m ρ c 1 (by decide))) $$ Hr12x1
  iapply (waitX m ρ K c 14 (by decide) (by decide) (O := 0) (above_zero _) rfl rfl) $$ [Hwt14 How]
  · isplitr; · iexact Hrec
    isplitl [Hwt14]; · iexact Hwt14
    iexact How
  iintro ⟨Hr12x2, Hz14, How⟩
  ihave Hr12x2 := (Entails.of_eq (xferPay_rr m ρ c 2 (by decide))) $$ Hr12x2
  iapply (out_for m ρ c _ _ _ _ _) $$ [HY HR HM Hr12x0 Hr12x1 Hr12x2 HO]
  · isplitl [HY]; · iexact HY
    isplitl [HR]; · iexact HR
    isplitl [HM]; · iexact HM
    isplitl [Hr12x0]; · iexact Hr12x0
    isplitl [Hr12x1]; · iexact Hr12x1
    isplitl [Hr12x2]; · iexact Hr12x2
    iexact HO
  iintro ⟨HY, HR, HM, Hr12x0, Hr12x1, Hr12x2, HO⟩
  iapply wpc_ret
  isplitl [HY]; · iexact HY
  isplitl [HR]; · iexact HR
  isplitl [HM]; · iexact HM
  isplitl [Hr12x0]; · iexact Hr12x0
  isplitl [HO]; · iexact HO
  isplitl [How]; · iexact How
  isplitl [Hr12x1]; · iexact Hr12x1
  isplitl [Hz13]; · iexact Hz13
  isplitl [Hr12x2]; · iexact Hr12x2
  iexact Hz14

theorem part46_run (K : Dev nD × Fin 13 → ℕ) (c : Dev nD)  :
    iprop(recs m ρ K ∗ owesE (F := F) c 0 ∗ wt c 3 ∗ wt c 4 ∗ wt c 5 ∗ wt c 9)
      ⊢ wpc c (atBufs (k0_part46 (F := F)) ) (fun _ => iprop(owesE (F := F) c 0 ∗ p7 c 0 (SendF m ρ c) ∗ z c 3 ∗ p7 c 1 (SendF m ρ c) ∗ z c 4 ∗ p7 c 2 (SendF m ρ c) ∗ z c 5 ∗ p11 c 0 (YRetF m ρ c) ∗ z c 9)) := by
  simp only [k0_part46_eq_skeleton]
  unfold k0_part46_skel
  simp only [Prog.lift, Prog.bind_op, Prog.bind_ret, Prog.pure_eq_ret]
  iintro ⟨#Hrec, How, Hwt3, Hwt4, Hwt5, Hwt9⟩
  iapply (waitX m ρ K c 3 (by decide) (by decide) (O := 0) (above_zero _) rfl rfl) $$ [Hwt3 How]
  · isplitr; · iexact Hrec
    isplitl [Hwt3]; · iexact Hwt3
    iexact How
  iintro ⟨Hs7x0, Hz3, How⟩
  ihave Hs7x0 := (Entails.of_eq (xferPay_fs m ρ c 0 (by decide))) $$ Hs7x0
  iapply (waitX m ρ K c 4 (by decide) (by decide) (O := 0) (above_zero _) rfl rfl) $$ [Hwt4 How]
  · isplitr; · iexact Hrec
    isplitl [Hwt4]; · iexact Hwt4
    iexact How
  iintro ⟨Hs7x1, Hz4, How⟩
  ihave Hs7x1 := (Entails.of_eq (xferPay_fs m ρ c 1 (by decide))) $$ Hs7x1
  iapply (waitX m ρ K c 5 (by decide) (by decide) (O := 0) (above_zero _) rfl rfl) $$ [Hwt5 How]
  · isplitr; · iexact Hrec
    isplitl [Hwt5]; · iexact Hwt5
    iexact How
  iintro ⟨Hs7x2, Hz5, How⟩
  ihave Hs7x2 := (Entails.of_eq (xferPay_fs m ρ c 2 (by decide))) $$ Hs7x2
  iapply (waitX m ρ K c 9 (by decide) (by decide) (O := 0) (above_zero _) rfl rfl) $$ [Hwt9 How]
  · isplitr; · iexact Hrec
    isplitl [Hwt9]; · iexact Hwt9
    iexact How
  iintro ⟨Hs11x0, Hz9, How⟩
  ihave Hs11x0 := (Entails.of_eq (xferPay_rs m ρ c 0 (by decide))) $$ Hs11x0
  iapply wpc_ret
  isplitl [How]; · iexact How
  isplitl [Hs7x0]; · iexact Hs7x0
  isplitl [Hz3]; · iexact Hz3
  isplitl [Hs7x1]; · iexact Hs7x1
  isplitl [Hz4]; · iexact Hz4
  isplitl [Hs7x2]; · iexact Hs7x2
  isplitl [Hz5]; · iexact Hz5
  isplitl [Hs11x0]; · iexact Hs11x0
  iexact Hz9

end Cert.KernelIdeal.Moe
-- ==== Proof.KernelIdeal.Body.lean ====
/-
One run of the body on device `c`.
-/
module

public import proofs.«01_k».proof.Proof.KernelIdeal.Parts1
public import proofs.«01_k».proof.Proof.KernelIdeal.Parts2
public import proofs.«01_k».proof.Proof.KernelIdeal.Parts3
public import proofs.«01_k».proof.Proof.KernelIdeal.Parts4

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-- What a run of the body starts from. -/
def bodyStart (c : Dev nD) : sProp 𝕄 :=
  iprop(owesE c (O₀ c) ∗ dutyTok ER (barCell (dst 0 c)) 0 (⟨0, by decide⟩ : Fin 3) ∗ dutyTok ER (barCell (dst 1 c)) 0 (⟨1, by decide⟩ : Fin 3) ∗ dutyTok ER (barCell (dst 2 c)) 0 (⟨2, by decide⟩ : Fin 3) ∗ cred (tallyAt (barCell c) () 3) ∗ atPos ER (barCell c) 0 ∅ 0 ∗ tF c 0 ∗ tR c 0 ∗ tF c 1 ∗ tR c 1 ∗ tF c 2 ∗ tR c 2 ∗ wt c 6 ∗ wt c 7 ∗ wt c 8 ∗ wt c 12 ∗ wt c 13 ∗ wt c 14 ∗ z c 15 ∗ z c 16 ∗ z c 17 ∗ z c 18 ∗ hX m ρ c ∗ hA m ρ c ∗ uM m ρ c 0 ∗ uR m ρ c 0 ∗ uO m ρ c 0 ∗ uOwn m ρ c 0 ∗ uY m ρ c 0 ∗ u7 m ρ c 0 0 ∗ u11 m ρ c 0 0 ∗ (∃ f, p8 (F := F) c 0 f) ∗ (∃ f, p12 (F := F) c 0 f) ∗ u7 m ρ c 1 0 ∗ u11 m ρ c 1 0 ∗ (∃ f, p8 (F := F) c 1 f) ∗ (∃ f, p12 (F := F) c 1 f) ∗ u7 m ρ c 2 0 ∗ u11 m ρ c 2 0 ∗ (∃ f, p8 (F := F) c 2 f) ∗ (∃ f, p12 (F := F) c 2 f) ∗ (∃ f, w1 (F := F) c 0 f) ∗ (∃ f, w2 (F := F) c 0 f) ∗ (∃ f, w1 (F := F) c 1 f) ∗ (∃ f, w2 (F := F) c 1 f) ∗ q1 m c 0 ∗ q2 m c 0 ∗ q1 m c 1 ∗ q2 m c 1 ∗ q1 m c 2 ∗ q2 m c 2 ∗ q1 m c 3 ∗ q2 m c 3)
/-- What it leaves. -/
def bodyEnd (c : Dev nD) : sProp 𝕄 :=
  iprop(owesE (F := F) c 0 ∗ semVal (barCell c) 0 ∗ hX m ρ c ∗ hA m ρ c ∗ hM m ρ c ∗ hR m ρ c ∗ hO m ρ c ∗ hOwn m ρ c ∗ hY m ρ c ∗ p8 c 0 (RecvF m ρ c) ∗ z c 6 ∗ p8 c 1 (RecvF m ρ c) ∗ z c 7 ∗ p8 c 2 (RecvF m ρ c) ∗ z c 8 ∗ q1 m c 0 ∗ q2 m c 0 ∗ q1 m c 1 ∗ q2 m c 1 ∗ w1 c 0 (WB1 m c 2) ∗ q1 m c 2 ∗ z c 15 ∗ w2 c 0 (WB2 m c 2) ∗ q2 m c 2 ∗ z c 17 ∗ w1 c 1 (WB1 m c 3) ∗ q1 m c 3 ∗ z c 16 ∗ w2 c 1 (WB2 m c 3) ∗ q2 m c 3 ∗ z c 18 ∗ p12 c 0 (RetF m ρ c) ∗ z c 12 ∗ p12 c 1 (RetF m ρ c) ∗ z c 13 ∗ p12 c 2 (RetF m ρ c) ∗ z c 14 ∗ p7 c 0 (SendF m ρ c) ∗ z c 3 ∗ p7 c 1 (SendF m ρ c) ∗ z c 4 ∗ p7 c 2 (SendF m ρ c) ∗ z c 5 ∗ p11 c 0 (YRetF m ρ c) ∗ z c 9 ∗ p11 c 1 (YRetF m ρ c) ∗ z c 10 ∗ p11 c 2 (YRetF m ρ c) ∗ z c 11)

theorem body_run (K : Dev nD × Fin 13 → ℕ) (c : Dev nD) :
    iprop(recs m ρ K ∗ bodyStart m ρ c) ⊢ wpc c (atBufs (k0_part47 (F := F))) (fun _ => bodyEnd m ρ c) := by
  simp only [k0_part47_eq_skeleton]
  unfold k0_part47_skel bodyStart bodyEnd
  simp only [Prog.lift, Prog.bind_op, Prog.bind_ret, Prog.pure_eq_ret]
  iintro ⟨#Hrec, How, Hbt0, Hbt1, Hbt2, Hcb, Hab, HtF0, HtR0, HtF1, HtR1, HtF2, HtR2, Hwt6, Hwt7, Hwt8, Hwt12, Hwt13, Hwt14, Hz15, Hz16, Hz17, Hz18, HX, HA, HM, HR, HO, HOwn, HY, Hs7x0, Hs11x0, Ho8x0, Ho12x0, Hs7x1, Hs11x1, Ho8x1, Ho12x1, Hs7x2, Hs11x2, Ho8x2, Ho12x2, Hw1x0, Hw2x0, Hw1x1, Hw2x1, Hq1x0, Hq2x0, Hq1x1, Hq2x1, Hq1x2, Hq2x2, Hq1x3, Hq2x3⟩
  iapply (runSome (part8_run m ρ K c)) $$ [Hbt0 Ho8x2 Ho12x0 How]
  · isplitr; · iexact Hrec
    isplitl [Hbt0]; · iexact Hbt0
    isplitl [Ho8x2]; · iexact Ho8x2
    isplitl [Ho12x0]; · iexact Ho12x0
    iexact How
  iintro %r %hr How
  obtain ⟨v2, v5, v29, v30, v31, v32, rfl⟩ := hr
  iapply (runAt (part9_run m ρ K c _ _ _ _ _ _ _ _)) $$ [Hbt1 Ho8x1 Ho12x1 Hbt2 Ho8x0 Ho12x2 Hcb Hab How]
  · isplitr; · iexact Hrec
    isplitl [Hbt1]; · iexact Hbt1
    isplitl [Ho8x1]; · iexact Ho8x1
    isplitl [Ho12x1]; · iexact Ho12x1
    isplitl [Hbt2]; · iexact Hbt2
    isplitl [Ho8x0]; · iexact Ho8x0
    isplitl [Ho12x2]; · iexact Ho12x2
    isplitl [Hcb]; · iexact Hcb
    isplitl [Hab]; · iexact Hab
    iexact How
  iintro ⟨How, Hzb, Hd8x0, Hd8x1, Hd8x2, Hd12x0, Hd12x1, Hd12x2⟩
  iapply (runAt (part10_run (F := F) c iprop(emp))) $$ []
  · iempintro
  iintro -
  iapply (runAt (part11_run m ρ c)) $$ [HA HX HM HR Hs7x0]
  · isplitl [HA]; · iexact HA
    isplitl [HX]; · iexact HX
    isplitl [HM]; · iexact HM
    isplitl [HR]; · iexact HR
    iexact Hs7x0
  iintro ⟨HA, HX, HM, HR, Hs7x0⟩
  iapply (runAny (part12_run m ρ c _ _ _)) $$ [HX HM HR Hs7x0]
  · isplitl [HX]; · iexact HX
    isplitl [HM]; · iexact HM
    isplitl [HR]; · iexact HR
    iexact Hs7x0
  iintro %r ⟨HX, HM, HR, Hs7x0⟩
  rcases r with ⟨v166, v170⟩
  iapply (runAt (part13_run m ρ K c _ _)) $$ [How HtF0 Hs7x0 Hd8x0 HX HM HR Hs7x1]
  · isplitr; · iexact Hrec
    isplitl [How]; · iexact How
    isplitl [HtF0]; · iexact HtF0
    isplitl [Hs7x0]; · iexact Hs7x0
    isplitl [Hd8x0]; · iexact Hd8x0
    isplitl [HX]; · iexact HX
    isplitl [HM]; · iexact HM
    isplitl [HR]; · iexact HR
    iexact Hs7x1
  iintro ⟨How, Hwt3, HX, HM, HR, Hs7x1⟩
  iapply (runAny (part14_run m ρ c _ _ _)) $$ [Hs7x1 HX HM HR]
  · isplitl [Hs7x1]; · iexact Hs7x1
    isplitl [HX]; · iexact HX
    isplitl [HM]; · iexact HM
    iexact HR
  iintro %r ⟨Hs7x1, HX, HM, HR⟩
  iapply (runAt (part15_run m ρ K c)) $$ [How HtF1 Hs7x1 Hd8x1 HX HM HR Hs7x2]
  · isplitr; · iexact Hrec
    isplitl [How]; · iexact How
    isplitl [HtF1]; · iexact HtF1
    isplitl [Hs7x1]; · iexact Hs7x1
    isplitl [Hd8x1]; · iexact Hd8x1
    isplitl [HX]; · iexact HX
    isplitl [HM]; · iexact HM
    isplitl [HR]; · iexact HR
    iexact Hs7x2
  iintro ⟨How, Hwt4, HX, HM, HR, Hs7x2⟩
  iapply (runSome (part16_run m ρ K c _ _ _)) $$ [Hs7x2 How HtF2 Hd8x2]
  · isplitr; · iexact Hrec
    isplitl [Hs7x2]; · iexact Hs7x2
    isplitl [How]; · iexact How
    isplitl [HtF2]; · iexact HtF2
    iexact Hd8x2
  iintro %r %hr ⟨How, Hwt5⟩
  obtain ⟨v272, rfl⟩ := hr
  iapply (runAny (part17_run m ρ c _ _)) $$ [HX HM HR HOwn]
  · isplitl [HX]; · iexact HX
    isplitl [HM]; · iexact HM
    isplitl [HR]; · iexact HR
    iexact HOwn
  iintro %r ⟨HX, HM, HR, HOwn⟩
  iapply (runAny (part18_run m c)) $$ [Hq1x0 Hw1x0 Hz15 Hq2x0 Hw2x0 Hz17 Hq1x1 Hw1x1 Hz16 Hq2x1 Hw2x1 Hz18]
  · isplitl [Hq1x0]; · iexact Hq1x0
    isplitl [Hw1x0]; · iexact Hw1x0
    isplitl [Hz15]; · iexact Hz15
    isplitl [Hq2x0]; · iexact Hq2x0
    isplitl [Hw2x0]; · iexact Hw2x0
    isplitl [Hz17]; · iexact Hz17
    isplitl [Hq1x1]; · iexact Hq1x1
    isplitl [Hw1x1]; · iexact Hw1x1
    isplitl [Hz16]; · iexact Hz16
    isplitl [Hq2x1]; · iexact Hq2x1
    isplitl [Hw2x1]; · iexact Hw2x1
    iexact Hz18
  iintro %r ⟨Hf1x0, Hf2x0, Hf1x1, Hf2x1⟩
  iapply (runAny (part19_run m ρ K c)) $$ [How Hf1x0 Hf2x0 HOwn HY Hq1x2]
  · isplitr; · iexact Hrec
    isplitl [How]; · iexact How
    isplitl [Hf1x0]; · iexact Hf1x0
    isplitl [Hf2x0]; · iexact Hf2x0
    isplitl [HOwn]; · iexact HOwn
    isplitl [HY]; · iexact HY
    iexact Hq1x2
  iintro %r ⟨How, Hf1x0, Hq1x0, Hw2x0, Hq2x0, Hz17, HOwn, HY⟩
  iapply (runAt (part20_run m ρ K c)) $$ [Hq2x2 Hw2x0 Hz17 How Hf1x1 Hf2x1 HOwn]
  · isplitr; · iexact Hrec
    isplitl [Hq2x2]; · iexact Hq2x2
    isplitl [Hw2x0]; · iexact Hw2x0
    isplitl [Hz17]; · iexact Hz17
    isplitl [How]; · iexact How
    isplitl [Hf1x1]; · iexact Hf1x1
    isplitl [Hf2x1]; · iexact Hf2x1
    iexact HOwn
  iintro ⟨Hf2x0, How, Hw1x1, Hq1x1, Hz16, Hw2x1, Hq2x1, Hz18, HOwn⟩
  iapply (runAny (part21_run m ρ K c)) $$ [HY Hq1x3 Hw1x1 Hz16 Hq2x3 Hw2x1 Hz18 How Hf1x0]
  · isplitr; · iexact Hrec
    isplitl [HY]; · iexact HY
    isplitl [Hq1x3]; · iexact Hq1x3
    isplitl [Hw1x1]; · iexact Hw1x1
    isplitl [Hz16]; · iexact Hz16
    isplitl [Hq2x3]; · iexact Hq2x3
    isplitl [Hw2x1]; · iexact Hw2x1
    isplitl [Hz18]; · iexact Hz18
    isplitl [How]; · iexact How
    iexact Hf1x0
  iintro %r ⟨HY, Hf1x1, Hf2x1, How, Hw1x0, Hq1x2, Hz15⟩
  iapply (runAny (part22_run m ρ K c)) $$ [How Hf2x0 HOwn Hw1x0 HY Hf1x1]
  · isplitr; · iexact Hrec
    isplitl [How]; · iexact How
    isplitl [Hf2x0]; · iexact Hf2x0
    isplitl [HOwn]; · iexact HOwn
    isplitl [Hw1x0]; · iexact Hw1x0
    isplitl [HY]; · iexact HY
    iexact Hf1x1
  iintro %r ⟨How, Hw2x0, Hq2x2, Hz17, HOwn, Hw1x0, HY, Hw1x1, Hq1x3, Hz16⟩
  iapply (runAny (part23_run m ρ K c _ _ _)) $$ [How Hf2x1 HOwn Hw1x1 HY Hwt6]
  · isplitr; · iexact Hrec
    isplitl [How]; · iexact How
    isplitl [Hf2x1]; · iexact Hf2x1
    isplitl [HOwn]; · iexact HOwn
    isplitl [Hw1x1]; · iexact Hw1x1
    isplitl [HY]; · iexact HY
    iexact Hwt6
  iintro %r ⟨How, Hw2x1, Hq2x3, Hz18, HOwn, Hw1x1, HY, Hr8x0, Hz6⟩
  iapply (runAny (part24_run m c)) $$ [Hq1x0 Hw1x0 Hz15 Hq2x0 Hw2x0 Hz17 Hq1x1 Hw1x1 Hz16 Hq2x1 Hw2x1 Hz18]
  · isplitl [Hq1x0]; · iexact Hq1x0
    isplitl [Hw1x0]; · iexact Hw1x0
    isplitl [Hz15]; · iexact Hz15
    isplitl [Hq2x0]; · iexact Hq2x0
    isplitl [Hw2x0]; · iexact Hw2x0
    isplitl [Hz17]; · iexact Hz17
    isplitl [Hq1x1]; · iexact Hq1x1
    isplitl [Hw1x1]; · iexact Hw1x1
    isplitl [Hz16]; · iexact Hz16
    isplitl [Hq2x1]; · iexact Hq2x1
    isplitl [Hw2x1]; · iexact Hw2x1
    iexact Hz18
  iintro %r ⟨Hf1x0, Hf2x0, Hf1x1, Hf2x1⟩
  iapply (runAny (part25_run m ρ K c)) $$ [How Hf1x0 Hf2x0 Hr8x0 Hs11x0]
  · isplitr; · iexact Hrec
    isplitl [How]; · iexact How
    isplitl [Hf1x0]; · iexact Hf1x0
    isplitl [Hf2x0]; · iexact Hf2x0
    isplitl [Hr8x0]; · iexact Hr8x0
    iexact Hs11x0
  iintro %r ⟨How, Hw1x0, Hq1x0, Hz15, Hw2x0, Hq2x0, Hz17, Hr8x0, Hs11x0⟩
  iapply (runAt (part26_run m ρ K c)) $$ [Hq1x2 Hw1x0 Hz15 Hq2x2 Hw2x0 Hz17 How Hf1x1 Hf2x1 Hr8x0]
  · isplitr; · iexact Hrec
    isplitl [Hq1x2]; · iexact Hq1x2
    isplitl [Hw1x0]; · iexact Hw1x0
    isplitl [Hz15]; · iexact Hz15
    isplitl [Hq2x2]; · iexact Hq2x2
    isplitl [Hw2x0]; · iexact Hw2x0
    isplitl [Hz17]; · iexact Hz17
    isplitl [How]; · iexact How
    isplitl [Hf1x1]; · iexact Hf1x1
    isplitl [Hf2x1]; · iexact Hf2x1
    iexact Hr8x0
  iintro ⟨Hf1x0, Hf2x0, How, Hw1x1, Hq1x1, Hz16, Hw2x1, Hq2x1, Hz18, Hr8x0⟩
  iapply (runAny (part27_run m ρ K c)) $$ [Hw2x1 Hs11x0 Hq1x3 Hw1x1 Hz16 Hq2x3 Hz18 How Hf1x0]
  · isplitr; · iexact Hrec
    isplitl [Hw2x1]; · iexact Hw2x1
    isplitl [Hs11x0]; · iexact Hs11x0
    isplitl [Hq1x3]; · iexact Hq1x3
    isplitl [Hw1x1]; · iexact Hw1x1
    isplitl [Hz16]; · iexact Hz16
    isplitl [Hq2x3]; · iexact Hq2x3
    isplitl [Hz18]; · iexact Hz18
    isplitl [How]; · iexact How
    iexact Hf1x0
  iintro %r ⟨Hs11x0, Hf1x1, Hf2x1, How, Hw1x0, Hq1x2, Hz15⟩
  iapply (runAny (part28_run m ρ K c)) $$ [How Hf2x0 Hr8x0 Hw1x0 Hs11x0 Hf1x1]
  · isplitr; · iexact Hrec
    isplitl [How]; · iexact How
    isplitl [Hf2x0]; · iexact Hf2x0
    isplitl [Hr8x0]; · iexact Hr8x0
    isplitl [Hw1x0]; · iexact Hw1x0
    isplitl [Hs11x0]; · iexact Hs11x0
    iexact Hf1x1
  iintro %r ⟨How, Hw2x0, Hq2x2, Hz17, Hr8x0, Hw1x0, Hs11x0, Hw1x1, Hq1x3, Hz16⟩
  iapply (runAny (part29_run m ρ K c _)) $$ [How Hf2x1 Hr8x0 Hw1x1 Hs11x0]
  · isplitr; · iexact Hrec
    isplitl [How]; · iexact How
    isplitl [Hf2x1]; · iexact Hf2x1
    isplitl [Hr8x0]; · iexact Hr8x0
    isplitl [Hw1x1]; · iexact Hw1x1
    iexact Hs11x0
  iintro %r ⟨How, Hw2x1, Hq2x3, Hz18, Hr8x0, Hw1x1, Hs11x0⟩
  rcases r with ⟨v638, v643, v644⟩
  iapply (runAny (part30_run m ρ K c _ _ _ _ _ _)) $$ [How HtR0 Hs11x0 Hd12x0 Hwt7]
  · isplitr; · iexact Hrec
    isplitl [How]; · iexact How
    isplitl [HtR0]; · iexact HtR0
    isplitl [Hs11x0]; · iexact Hs11x0
    isplitl [Hd12x0]; · iexact Hd12x0
    iexact Hwt7
  iintro %r ⟨How, Hwt9, Hr8x1, Hz7⟩
  iapply (runAny (part31_run m c)) $$ [Hq1x0 Hw1x0 Hz15 Hq2x0 Hw2x0 Hz17 Hq1x1 Hw1x1 Hz16 Hq2x1 Hw2x1 Hz18]
  · isplitl [Hq1x0]; · iexact Hq1x0
    isplitl [Hw1x0]; · iexact Hw1x0
    isplitl [Hz15]; · iexact Hz15
    isplitl [Hq2x0]; · iexact Hq2x0
    isplitl [Hw2x0]; · iexact Hw2x0
    isplitl [Hz17]; · iexact Hz17
    isplitl [Hq1x1]; · iexact Hq1x1
    isplitl [Hw1x1]; · iexact Hw1x1
    isplitl [Hz16]; · iexact Hz16
    isplitl [Hq2x1]; · iexact Hq2x1
    isplitl [Hw2x1]; · iexact Hw2x1
    iexact Hz18
  iintro %r ⟨Hf1x0, Hf2x0, Hf1x1, Hf2x1⟩
  iapply (runAny (part32_run m ρ K c)) $$ [How Hf1x0 Hf2x0 Hr8x1 Hs11x1]
  · isplitr; · iexact Hrec
    isplitl [How]; · iexact How
    isplitl [Hf1x0]; · iexact Hf1x0
    isplitl [Hf2x0]; · iexact Hf2x0
    isplitl [Hr8x1]; · iexact Hr8x1
    iexact Hs11x1
  iintro %r ⟨How, Hw1x0, Hq1x0, Hz15, Hw2x0, Hq2x0, Hz17, Hr8x1, Hs11x1⟩
  iapply (runAt (part33_run m ρ K c)) $$ [Hq1x2 Hw1x0 Hz15 Hq2x2 Hw2x0 Hz17 How Hf1x1 Hf2x1 Hr8x1]
  · isplitr; · iexact Hrec
    isplitl [Hq1x2]; · iexact Hq1x2
    isplitl [Hw1x0]; · iexact Hw1x0
    isplitl [Hz15]; · iexact Hz15
    isplitl [Hq2x2]; · iexact Hq2x2
    isplitl [Hw2x0]; · iexact Hw2x0
    isplitl [Hz17]; · iexact Hz17
    isplitl [How]; · iexact How
    isplitl [Hf1x1]; · iexact Hf1x1
    isplitl [Hf2x1]; · iexact Hf2x1
    iexact Hr8x1
  iintro ⟨Hf1x0, Hf2x0, How, Hw1x1, Hq1x1, Hz16, Hw2x1, Hq2x1, Hz18, Hr8x1⟩
  iapply (runAny (part34_run m ρ K c)) $$ [Hw2x1 Hs11x1 Hq1x3 Hw1x1 Hz16 Hq2x3 Hz18 How Hf1x0]
  · isplitr; · iexact Hrec
    isplitl [Hw2x1]; · iexact Hw2x1
    isplitl [Hs11x1]; · iexact Hs11x1
    isplitl [Hq1x3]; · iexact Hq1x3
    isplitl [Hw1x1]; · iexact Hw1x1
    isplitl [Hz16]; · iexact Hz16
    isplitl [Hq2x3]; · iexact Hq2x3
    isplitl [Hz18]; · iexact Hz18
    isplitl [How]; · iexact How
    iexact Hf1x0
  iintro %r ⟨Hs11x1, Hf1x1, Hf2x1, How, Hw1x0, Hq1x2, Hz15⟩
  iapply (runAny (part35_run m ρ K c)) $$ [How Hf2x0 Hr8x1 Hw1x0 Hs11x1 Hf1x1]
  · isplitr; · iexact Hrec
    isplitl [How]; · iexact How
    isplitl [Hf2x0]; · iexact Hf2x0
    isplitl [Hr8x1]; · iexact Hr8x1
    isplitl [Hw1x0]; · iexact Hw1x0
    isplitl [Hs11x1]; · iexact Hs11x1
    iexact Hf1x1
  iintro %r ⟨How, Hw2x0, Hq2x2, Hz17, Hr8x1, Hw1x0, Hs11x1, Hw1x1, Hq1x3, Hz16⟩
  iapply (runAny (part36_run m ρ K c _)) $$ [How Hf2x1 Hr8x1 Hw1x1 Hs11x1]
  · isplitr; · iexact Hrec
    isplitl [How]; · iexact How
    isplitl [Hf2x1]; · iexact Hf2x1
    isplitl [Hr8x1]; · iexact Hr8x1
    isplitl [Hw1x1]; · iexact Hw1x1
    iexact Hs11x1
  iintro %r ⟨How, Hw2x1, Hq2x3, Hz18, Hr8x1, Hw1x1, Hs11x1⟩
  iapply (runAny (part37_run m ρ K c _ _ _ _)) $$ [How HtR1 Hs11x1 Hd12x1 Hwt8]
  · isplitr; · iexact Hrec
    isplitl [How]; · iexact How
    isplitl [HtR1]; · iexact HtR1
    isplitl [Hs11x1]; · iexact Hs11x1
    isplitl [Hd12x1]; · iexact Hd12x1
    iexact Hwt8
  iintro %r ⟨How, Hwt10, Hr8x2, Hz8⟩
  iapply (runAny (part38_run m c)) $$ [Hq1x0 Hw1x0 Hz15 Hq2x0 Hw2x0 Hz17 Hq1x1 Hw1x1 Hz16 Hq2x1 Hw2x1 Hz18]
  · isplitl [Hq1x0]; · iexact Hq1x0
    isplitl [Hw1x0]; · iexact Hw1x0
    isplitl [Hz15]; · iexact Hz15
    isplitl [Hq2x0]; · iexact Hq2x0
    isplitl [Hw2x0]; · iexact Hw2x0
    isplitl [Hz17]; · iexact Hz17
    isplitl [Hq1x1]; · iexact Hq1x1
    isplitl [Hw1x1]; · iexact Hw1x1
    isplitl [Hz16]; · iexact Hz16
    isplitl [Hq2x1]; · iexact Hq2x1
    isplitl [Hw2x1]; · iexact Hw2x1
    iexact Hz18
  iintro %r ⟨Hf1x0, Hf2x0, Hf1x1, Hf2x1⟩
  iapply (runAny (part39_run m ρ K c)) $$ [How Hf1x0 Hf2x0 Hr8x2 Hs11x2 Hq1x2]
  · isplitr; · iexact Hrec
    isplitl [How]; · iexact How
    isplitl [Hf1x0]; · iexact Hf1x0
    isplitl [Hf2x0]; · iexact Hf2x0
    isplitl [Hr8x2]; · iexact Hr8x2
    isplitl [Hs11x2]; · iexact Hs11x2
    iexact Hq1x2
  iintro %r ⟨How, Hf1x0, Hq1x0, Hw2x0, Hq2x0, Hz17, Hr8x2, Hs11x2⟩
  iapply (runAt (part40_run m ρ K c)) $$ [Hq2x2 Hw2x0 Hz17 How Hf1x1 Hf2x1 Hr8x2]
  · isplitr; · iexact Hrec
    isplitl [Hq2x2]; · iexact Hq2x2
    isplitl [Hw2x0]; · iexact Hw2x0
    isplitl [Hz17]; · iexact Hz17
    isplitl [How]; · iexact How
    isplitl [Hf1x1]; · iexact Hf1x1
    isplitl [Hf2x1]; · iexact Hf2x1
    iexact Hr8x2
  iintro ⟨Hf2x0, How, Hw1x1, Hq1x1, Hz16, Hw2x1, Hq2x1, Hz18, Hr8x2⟩
  iapply (runAny (part41_run m ρ K c)) $$ [Hw2x1 Hs11x2 Hq1x3 Hw1x1 Hz16 Hq2x3 Hz18 How Hf1x0]
  · isplitr; · iexact Hrec
    isplitl [Hw2x1]; · iexact Hw2x1
    isplitl [Hs11x2]; · iexact Hs11x2
    isplitl [Hq1x3]; · iexact Hq1x3
    isplitl [Hw1x1]; · iexact Hw1x1
    isplitl [Hz16]; · iexact Hz16
    isplitl [Hq2x3]; · iexact Hq2x3
    isplitl [Hz18]; · iexact Hz18
    isplitl [How]; · iexact How
    iexact Hf1x0
  iintro %r ⟨Hs11x2, Hf1x1, Hf2x1, How, Hw1x0, Hq1x2, Hz15⟩
  iapply (runAny (part42_run m ρ K c)) $$ [How Hf2x0 Hr8x2 Hw1x0 Hs11x2 Hf1x1]
  · isplitr; · iexact Hrec
    isplitl [How]; · iexact How
    isplitl [Hf2x0]; · iexact Hf2x0
    isplitl [Hr8x2]; · iexact Hr8x2
    isplitl [Hw1x0]; · iexact Hw1x0
    isplitl [Hs11x2]; · iexact Hs11x2
    iexact Hf1x1
  iintro %r ⟨How, Hw2x0, Hq2x2, Hz17, Hr8x2, Hw1x0, Hs11x2, Hw1x1, Hq1x3, Hz16⟩
  iapply (runAny (part43_run m ρ K c _)) $$ [How Hf2x1 Hr8x2 Hw1x1 Hs11x2]
  · isplitr; · iexact Hrec
    isplitl [How]; · iexact How
    isplitl [Hf2x1]; · iexact Hf2x1
    isplitl [Hr8x2]; · iexact Hr8x2
    isplitl [Hw1x1]; · iexact Hw1x1
    iexact Hs11x2
  iintro %r ⟨How, Hw2x1, Hq2x3, Hz18, Hr8x2, Hw1x1, Hs11x2⟩
  iapply (runAny (part44_run m ρ K c _ _ _ _)) $$ [How HtR2 Hs11x2 Hd12x2 Hwt12]
  · isplitr; · iexact Hrec
    isplitl [How]; · iexact How
    isplitl [HtR2]; · iexact HtR2
    isplitl [Hs11x2]; · iexact Hs11x2
    isplitl [Hd12x2]; · iexact Hd12x2
    iexact Hwt12
  iintro %r ⟨How, Hwt11, Hr12x0, Hz12⟩
  iapply (runAny (part45_run m ρ K c _ _ _ _ _)) $$ [HY HR HM Hr12x0 HO How Hwt13 Hwt14]
  · isplitr; · iexact Hrec
    isplitl [HY]; · iexact HY
    isplitl [HR]; · iexact HR
    isplitl [HM]; · iexact HM
    isplitl [Hr12x0]; · iexact Hr12x0
    isplitl [HO]; · iexact HO
    isplitl [How]; · iexact How
    isplitl [Hwt13]; · iexact Hwt13
    iexact Hwt14
  iintro %r ⟨HY, HR, HM, Hr12x0, HO, How, Hr12x1, Hz13, Hr12x2, Hz14⟩
  iapply (runAny (part46_run m ρ K c)) $$ [How Hwt3 Hwt4 Hwt5 Hwt9]
  · isplitr; · iexact Hrec
    isplitl [How]; · iexact How
    isplitl [Hwt3]; · iexact Hwt3
    isplitl [Hwt4]; · iexact Hwt4
    isplitl [Hwt5]; · iexact Hwt5
    iexact Hwt9
  iintro %r ⟨How, Hs7x0, Hz3, Hs7x1, Hz4, Hs7x2, Hz5, Hs11x0, Hz9⟩
  iapply (waitX m ρ K c 10 (by decide) (by decide) (O := 0) (above_zero _) rfl rfl) $$ [Hwt10 How]
  · isplitr; · iexact Hrec
    isplitl [Hwt10]; · iexact Hwt10
    iexact How
  iintro ⟨Hs11x1, Hz10, How⟩
  ihave Hs11x1 := (Entails.of_eq (xferPay_rs m ρ c 1 (by decide))) $$ Hs11x1
  iapply (waitX m ρ K c 11 (by decide) (by decide) (O := 0) (above_zero _) rfl rfl) $$ [Hwt11 How]
  · isplitr; · iexact Hrec
    isplitl [Hwt11]; · iexact Hwt11
    iexact How
  iintro ⟨Hs11x2, Hz11, How⟩
  ihave Hs11x2 := (Entails.of_eq (xferPay_rs m ρ c 2 (by decide))) $$ Hs11x2
  iapply wpc_ret
  isplitl [How]; · iexact How
  isplitl [Hzb]; · iexact Hzb
  isplitl [HX]; · iexact HX
  isplitl [HA]; · iexact HA
  isplitl [HM]; · iexact HM
  isplitl [HR]; · iexact HR
  isplitl [HO]; · iexact HO
  isplitl [HOwn]; · iexact HOwn
  isplitl [HY]; · iexact HY
  isplitl [Hr8x0]; · iexact Hr8x0
  isplitl [Hz6]; · iexact Hz6
  isplitl [Hr8x1]; · iexact Hr8x1
  isplitl [Hz7]; · iexact Hz7
  isplitl [Hr8x2]; · iexact Hr8x2
  isplitl [Hz8]; · iexact Hz8
  isplitl [Hq1x0]; · iexact Hq1x0
  isplitl [Hq2x0]; · iexact Hq2x0
  isplitl [Hq1x1]; · iexact Hq1x1
  isplitl [Hq2x1]; · iexact Hq2x1
  isplitl [Hw1x0]; · iexact Hw1x0
  isplitl [Hq1x2]; · iexact Hq1x2
  isplitl [Hz15]; · iexact Hz15
  isplitl [Hw2x0]; · iexact Hw2x0
  isplitl [Hq2x2]; · iexact Hq2x2
  isplitl [Hz17]; · iexact Hz17
  isplitl [Hw1x1]; · iexact Hw1x1
  isplitl [Hq1x3]; · iexact Hq1x3
  isplitl [Hz16]; · iexact Hz16
  isplitl [Hw2x1]; · iexact Hw2x1
  isplitl [Hq2x3]; · iexact Hq2x3
  isplitl [Hz18]; · iexact Hz18
  isplitl [Hr12x0]; · iexact Hr12x0
  isplitl [Hz12]; · iexact Hz12
  isplitl [Hr12x1]; · iexact Hr12x1
  isplitl [Hz13]; · iexact Hz13
  isplitl [Hr12x2]; · iexact Hr12x2
  isplitl [Hz14]; · iexact Hz14
  isplitl [Hs7x0]; · iexact Hs7x0
  isplitl [Hz3]; · iexact Hz3
  isplitl [Hs7x1]; · iexact Hs7x1
  isplitl [Hz4]; · iexact Hz4
  isplitl [Hs7x2]; · iexact Hs7x2
  isplitl [Hz5]; · iexact Hz5
  isplitl [Hs11x0]; · iexact Hs11x0
  isplitl [Hz9]; · iexact Hz9
  isplitl [Hs11x1]; · iexact Hs11x1
  isplitl [Hz10]; · iexact Hz10
  isplitl [Hs11x2]; · iexact Hs11x2
  iexact Hz11

end Cert.KernelIdeal.Moe
-- ==== Proof.KernelIdeal.Deal.lean ====
/-
What the launch deals the devices: the cells' invariants, the positions, the tokens carried to the devices that pay
with them, the credits, and the buffers cut into the pieces the exchange moves.
-/
module

public import proofs.«01_k».proof.Proof.KernelIdeal.Body

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Buffers cut and joined -/

theorem cut2 {ℓ : Loc nD τ sig} {I J : Finset (Idx ℓ)} (hU : Finset.univ = I ∪ J) (hd : Disjoint I J) (f : Buf (Elt F) ℓ) :
    (ℓ ↦{fullShare} f : sProp 𝕄) ⊣⊢ iprop((ℓ ↦[I]{fullShare} f) ∗ ℓ ↦[J]{fullShare} f) := by
  have h := pointsTo_union (ℓ := ℓ) (q := fullShare) (f := f) (Ix := Unit) (Name := ℕ) (U := UU) (Lvl := ℕ) hd
  rw [← hU] at h
  exact h
theorem slots_univ : (Finset.univ : Finset S3x1024x1024.Idx) = slotSet 0 ∪ (slotSet 1 ∪ slotSet 2) := by
  ext i
  have h : (i 0).val < 3 := (i 0).isLt
  simp only [Finset.mem_univ, Finset.mem_union, mem_slotSet, true_iff]; omega
theorem slots_disj {j k : ℕ} (h : j ≠ k) : Disjoint (slotSet j) (slotSet k) :=
  Finset.disjoint_left.mpr fun i h1 h2 => h ((mem_slotSet.mp h1).symm.trans (mem_slotSet.mp h2))
theorem slots_disj' : Disjoint (slotSet 0) (slotSet 1 ∪ slotSet 2) :=
  Finset.disjoint_union_right.mpr ⟨slots_disj (by decide), slots_disj (by decide)⟩
theorem fib_disj {J R N j k : ℕ} (h : j ≠ k) : Disjoint (fib J R N j) (fib J R N k) :=
  Finset.disjoint_left.mpr fun i h1 h2 => h ((mem_fib.mp h1).symm.trans (mem_fib.mp h2))
theorem fib2_univ (R N : ℕ) : (Finset.univ : Finset (⟨3, ![2, R, N]⟩ : Shape).Idx) = fib 2 R N 0 ∪ fib 2 R N 1 := by
  ext i
  have h : (i 0).val < 2 := (i 0).isLt
  simp only [Finset.mem_univ, Finset.mem_union, mem_fib, true_iff]; omega
theorem fib4_univ (R N : ℕ) : (Finset.univ : Finset (⟨3, ![4, R, N]⟩ : Shape).Idx) = fib 4 R N 0 ∪ (fib 4 R N 1 ∪ (fib 4 R N 2 ∪ fib 4 R N 3)) := by
  ext i
  have h : (i 0).val < 4 := (i 0).isLt
  simp only [Finset.mem_univ, Finset.mem_union, mem_fib, true_iff]; omega
theorem fib_disj' {R N : ℕ} : Disjoint (fib 4 R N 1) (fib 4 R N 2 ∪ fib 4 R N 3) :=
  Finset.disjoint_union_right.mpr ⟨fib_disj (by decide), fib_disj (by decide)⟩
theorem fib_disj'' {R N : ℕ} : Disjoint (fib 4 R N 0) (fib 4 R N 1 ∪ (fib 4 R N 2 ∪ fib 4 R N 3)) :=
  Finset.disjoint_union_right.mpr ⟨fib_disj (by decide), Finset.disjoint_union_right.mpr ⟨fib_disj (by decide), fib_disj (by decide)⟩⟩

/-- The buffer of the slots `p7`, cut; -/
theorem cut7 (c : Dev nD) (f : Vec F S3x1024x1024 .bf16) :
    ((((c : Thread nD τ).loc cc0_scratch2) ↦{fullShare} f : sProp 𝕄)) ⊣⊢ iprop(p7 c 0 f ∗ p7 c 1 f ∗ p7 c 2 f) := by
  unfold p7
  have h2 := pointsTo_union (ℓ := (c : Thread nD τ).loc cc0_scratch2) (q := fullShare) (f := f) (Ix := Unit) (Name := ℕ) (U := UU) (Lvl := ℕ) (slots_disj (j := 1) (k := 2) (by decide))
  have h1 := cut2 (ℓ := (c : Thread nD τ).loc cc0_scratch2) slots_univ slots_disj' f
  exact ⟨h1.1.trans (sep_mono_right h2.1), (sep_mono_right h2.2).trans h1.2⟩

/-- The buffer of the slots `p8`, cut; -/
theorem cut8 (c : Dev nD) (f : Vec F S3x1024x1024 .bf16) :
    ((((c : Thread nD τ).loc cc0_scratch3) ↦{fullShare} f : sProp 𝕄)) ⊣⊢ iprop(p8 c 0 f ∗ p8 c 1 f ∗ p8 c 2 f) := by
  unfold p8
  have h2 := pointsTo_union (ℓ := (c : Thread nD τ).loc cc0_scratch3) (q := fullShare) (f := f) (Ix := Unit) (Name := ℕ) (U := UU) (Lvl := ℕ) (slots_disj (j := 1) (k := 2) (by decide))
  have h1 := cut2 (ℓ := (c : Thread nD τ).loc cc0_scratch3) slots_univ slots_disj' f
  exact ⟨h1.1.trans (sep_mono_right h2.1), (sep_mono_right h2.2).trans h1.2⟩

/-- The buffer of the slots `p11`, cut; -/
theorem cut11 (c : Dev nD) (f : Vec F S3x1024x1024 .bf16) :
    ((((c : Thread nD τ).loc cc0_scratch6) ↦{fullShare} f : sProp 𝕄)) ⊣⊢ iprop(p11 c 0 f ∗ p11 c 1 f ∗ p11 c 2 f) := by
  unfold p11
  have h2 := pointsTo_union (ℓ := (c : Thread nD τ).loc cc0_scratch6) (q := fullShare) (f := f) (Ix := Unit) (Name := ℕ) (U := UU) (Lvl := ℕ) (slots_disj (j := 1) (k := 2) (by decide))
  have h1 := cut2 (ℓ := (c : Thread nD τ).loc cc0_scratch6) slots_univ slots_disj' f
  exact ⟨h1.1.trans (sep_mono_right h2.1), (sep_mono_right h2.2).trans h1.2⟩

/-- The buffer of the slots `p12`, cut; -/
theorem cut12 (c : Dev nD) (f : Vec F S3x1024x1024 .bf16) :
    ((((c : Thread nD τ).loc cc0_scratch7) ↦{fullShare} f : sProp 𝕄)) ⊣⊢ iprop(p12 c 0 f ∗ p12 c 1 f ∗ p12 c 2 f) := by
  unfold p12
  have h2 := pointsTo_union (ℓ := (c : Thread nD τ).loc cc0_scratch7) (q := fullShare) (f := f) (Ix := Unit) (Name := ℕ) (U := UU) (Lvl := ℕ) (slots_disj (j := 1) (k := 2) (by decide))
  have h1 := cut2 (ℓ := (c : Thread nD τ).loc cc0_scratch7) slots_univ slots_disj' f
  exact ⟨h1.1.trans (sep_mono_right h2.1), (sep_mono_right h2.2).trans h1.2⟩

theorem cutW1 (c : Dev nD) (f : Vec F S2x1024x2048 .bf16) :
    ((((c : Thread nD τ).loc cc0_scratch8) ↦{fullShare} f : sProp 𝕄)) ⊣⊢ iprop(w1 c 0 f ∗ w1 c 1 f) := by
  unfold w1
  exact cut2 (ℓ := (c : Thread nD τ).loc cc0_scratch8) (fib2_univ 1024 2048) (fib_disj (by decide)) f
theorem joinW1 (c : Dev nD) (f g : Vec F S2x1024x2048 .bf16) :
    iprop(w1 c 0 f ∗ w1 c 1 g) ⊢ iprop(∃ h : Buf (Elt F) ((c : Thread nD τ).loc cc0_scratch8), (((c : Thread nD τ).loc cc0_scratch8) ↦{fullShare} h : sProp 𝕄)) := by
  unfold w1
  have h := pointsTo_join (ℓ := (c : Thread nD τ).loc cc0_scratch8) (q := fullShare) (f := f) (g := g) (Ix := Unit) (Name := ℕ) (U := UU) (Lvl := ℕ) (fib_disj (J := 2) (R := 1024) (N := 2048) (j := 0) (k := 1) (by decide))
  rw [show fib 2 1024 2048 0 ∪ fib 2 1024 2048 1 = Finset.univ from (fib2_univ 1024 2048).symm] at h
  iintro H
  iexists _
  iapply h $$ H
theorem cutQ1 (c : Dev nD) :
    ((((c : Thread nD τ).loc main_arg2) ↦{fullShare} W1 m c : sProp 𝕄)) ⊣⊢ iprop(q1 m c 0 ∗ q1 m c 1 ∗ q1 m c 2 ∗ q1 m c 3) := by
  unfold q1
  have h1 := cut2 (ℓ := (c : Thread nD τ).loc main_arg2) (fib4_univ 1024 2048) fib_disj'' (W1 m c)
  have h2 := pointsTo_union (ℓ := (c : Thread nD τ).loc main_arg2) (q := fullShare) (f := W1 m c) (Ix := Unit) (Name := ℕ) (U := UU) (Lvl := ℕ) (fib_disj' (R := 1024) (N := 2048))
  have h3 := pointsTo_union (ℓ := (c : Thread nD τ).loc main_arg2) (q := fullShare) (f := W1 m c) (Ix := Unit) (Name := ℕ) (U := UU) (Lvl := ℕ) (fib_disj (J := 4) (R := 1024) (N := 2048) (j := 2) (k := 3) (by decide))
  exact ⟨h1.1.trans (sep_mono_right (h2.1.trans (sep_mono_right h3.1))), (sep_mono_right ((sep_mono_right h3.2).trans h2.2)).trans h1.2⟩

theorem cutW2 (c : Dev nD) (f : Vec F S2x2048x1024 .bf16) :
    ((((c : Thread nD τ).loc cc0_scratch9) ↦{fullShare} f : sProp 𝕄)) ⊣⊢ iprop(w2 c 0 f ∗ w2 c 1 f) := by
  unfold w2
  exact cut2 (ℓ := (c : Thread nD τ).loc cc0_scratch9) (fib2_univ 2048 1024) (fib_disj (by decide)) f
theorem joinW2 (c : Dev nD) (f g : Vec F S2x2048x1024 .bf16) :
    iprop(w2 c 0 f ∗ w2 c 1 g) ⊢ iprop(∃ h : Buf (Elt F) ((c : Thread nD τ).loc cc0_scratch9), (((c : Thread nD τ).loc cc0_scratch9) ↦{fullShare} h : sProp 𝕄)) := by
  unfold w2
  have h := pointsTo_join (ℓ := (c : Thread nD τ).loc cc0_scratch9) (q := fullShare) (f := f) (g := g) (Ix := Unit) (Name := ℕ) (U := UU) (Lvl := ℕ) (fib_disj (J := 2) (R := 2048) (N := 1024) (j := 0) (k := 1) (by decide))
  rw [show fib 2 2048 1024 0 ∪ fib 2 2048 1024 1 = Finset.univ from (fib2_univ 2048 1024).symm] at h
  iintro H
  iexists _
  iapply h $$ H
theorem cutQ2 (c : Dev nD) :
    ((((c : Thread nD τ).loc main_arg3) ↦{fullShare} W2 m c : sProp 𝕄)) ⊣⊢ iprop(q2 m c 0 ∗ q2 m c 1 ∗ q2 m c 2 ∗ q2 m c 3) := by
  unfold q2
  have h1 := cut2 (ℓ := (c : Thread nD τ).loc main_arg3) (fib4_univ 2048 1024) fib_disj'' (W2 m c)
  have h2 := pointsTo_union (ℓ := (c : Thread nD τ).loc main_arg3) (q := fullShare) (f := W2 m c) (Ix := Unit) (Name := ℕ) (U := UU) (Lvl := ℕ) (fib_disj' (R := 2048) (N := 1024))
  have h3 := pointsTo_union (ℓ := (c : Thread nD τ).loc main_arg3) (q := fullShare) (f := W2 m c) (Ix := Unit) (Name := ℕ) (U := UU) (Lvl := ℕ) (fib_disj (J := 4) (R := 2048) (N := 1024) (j := 2) (k := 3) (by decide))
  exact ⟨h1.1.trans (sep_mono_right (h2.1.trans (sep_mono_right h3.1))), (sep_mono_right ((sep_mono_right h3.2).trans h2.2)).trans h1.2⟩

/-! ## Cells and tokens -/

set_option backward.proofsInPublic true in
/-- The kernel's own semaphores: the sixteen of the copies. -/
abbrev osem (k : Fin 16) : SemLoc sig := .dma (dq (k.val + 3) (by omega))
theorem ownSemFacts : Pipeline.OwnSemFacts cfg0.spec osem := by decide

theorem csem_injective : Function.Injective (csem : Fin 13 → SemLoc sig) := by decide
theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]
def cells : Finset (GSem nD τ sig) := Finset.univ.map ⟨kcell, kcell_injective⟩

set_option backward.proofsInPublic true in
/-- The tokens of a device's own cells: the barrier's three, then one for each of the twelve transfer cells. -/
abbrev tsem (k : Fin 15) : SemLoc sig × Fin 3 :=
  if h : k.val < 3 then (.reg barS, ⟨k.val, h⟩) else (.dma (dq k.val (by omega)), 0)
theorem tsem_injective : Function.Injective (tsem : Fin 15 → SemLoc sig × Fin 3) := by decide
abbrev tokOf (ck : Dev nD × Fin 15) : GSem nD τ sig × ℕ × Fin 3 := (((ck.1 : Thread nD τ), (tsem ck.2).1), 0, (tsem ck.2).2)
theorem tokOf_injective : Function.Injective (tokOf : Dev nD × Fin 15 → GSem nD τ sig × ℕ × Fin 3) := by
  rintro ⟨c, k⟩ ⟨c', k'⟩ h
  have h1 : c = c' := congrArg (fun g : GSem nD τ sig × ℕ × Fin 3 => g.1.1.1) h
  have h2 : k = k' := tsem_injective (congrArg (fun g : GSem nD τ sig × ℕ × Fin 3 => (g.1.2, g.2.2)) h)
  rw [h1, h2]
def toksAll : Finset (GSem nD τ sig × ℕ × Fin 3) := Finset.univ.map ⟨tokOf, tokOf_injective⟩

/-- The launch element: the pipeline's copy, the exchange's rounds, no local copy in flight. -/
def u₀ : UU :=
  (initOf (Pipeline.cells cfgs cellOf_inj) (Pipeline.launchToks cfgs cellOf_inj), (initOf cells toksAll, 1))

theorem u₀_split : (ownU u₀ : sProp 𝕄) ⊢ iprop(BI.own (EP (F := F) (initOf (Pipeline.cells cfgs cellOf_inj) (Pipeline.launchToks cfgs cellOf_inj)))
    ∗ BI.own (ER (F := F) (initOf cells toksAll))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf cells toksAll, (1 : Counters)))))

/-- The tokens of a device's own cells. -/
def toks (c : Dev nD) : sProp 𝕄 := bigSep Finset.univ fun k : Fin 15 => dutyTok ER (tokOf (c, k)).1 (tokOf (c, k)).2.1 (tokOf (c, k)).2.2
/-- What the launch element deals a device. -/
def G (c : Dev nD) : sProp 𝕄 :=
  iprop((bigSep Finset.univ fun k : Fin 13 => roundState ER (moeRd m ρ) (kcell (c, k)) 0)
    ∗ (bigSep Finset.univ fun k : Fin 13 => iprop(atPos ER (kcell (c, k)) 0 ∅ 0 ∗ reached ER (kcell (c, k)) 0)) ∗ toks c)

theorem fund : BI.own (ER (F := F) (initOf cells toksAll)) ⊢ (|==> bigSep Finset.univ (G m ρ) : sProp 𝕄) := by
  have hX (Φ : GSem nD τ sig → sProp 𝕄) : bigSep cells Φ = bigSep Finset.univ fun c : Dev nD => bigSep Finset.univ fun k : Fin 13 => Φ (kcell (c, k)) := by
    unfold cells; rw [bigSep_map, bigSep_univ_prod]; rfl
  have hT : bigSep toksAll (fun x => (dutyTok ER x.1 x.2.1 x.2.2 : sProp 𝕄)) = bigSep Finset.univ fun c : Dev nD => toks c := by
    unfold toksAll toks; rw [bigSep_map, bigSep_univ_prod]; rfl
  iintro H
  imod (Rounds.fund ER (moeRd m ρ) cells toksAll) $$ H with ⟨Hs, Hr, Ha, Ht⟩
  imodintro
  unfold G; simp only [bigSep_sep']
  isplitl [Hs]; · iapply (Entails.of_eq (hX fun g => roundState ER (moeRd m ρ) g 0)) $$ Hs
  isplitl [Ha Hr]
  · isplitl [Ha]
    · iapply (Entails.of_eq (hX fun g => atPos ER g 0 ∅ 0)) $$ Ha
    · iapply (Entails.of_eq (hX fun g => reached ER g 0)) $$ Hr
  iapply (Entails.of_eq hT) $$ Ht

/-! ## The semaphores -/

theorem ownSems0_eq (c : Dev nD) : (Pipeline.ownSems0 (Ix := Unit) (Name := ℕ) (U := UU) (Lvl := ℕ) (Val := Elt F) (τ := τ) osem c : sProp 𝕄)
    = iprop(z c 3 ∗ z c 4 ∗ z c 5 ∗ z c 6 ∗ z c 7 ∗ z c 8 ∗ z c 9 ∗ z c 10 ∗ z c 11 ∗ z c 12 ∗ z c 13 ∗ z c 14 ∗ z c 15 ∗ z c 16 ∗ z c 17 ∗ z c 18) := by
  rw [Pipeline.ownSems0_eq_of_list c osem [0, 1, 2, 3, 4, 5, 6, 7, 8, 9, 10, 11, 12, 13, 14, 15] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem cells_eq (Φ : GSem nD τ sig → sProp 𝕄) (c : Dev nD) : (bigSep Finset.univ fun k : Fin 13 => Φ (kcell (c, k)))
    = iprop(Φ (barCell c) ∗ Φ (dcell c 3) ∗ Φ (dcell c 4) ∗ Φ (dcell c 5) ∗ Φ (dcell c 6) ∗ Φ (dcell c 7) ∗ Φ (dcell c 8) ∗ Φ (dcell c 9) ∗ Φ (dcell c 10) ∗ Φ (dcell c 11) ∗ Φ (dcell c 12) ∗ Φ (dcell c 13) ∗ Φ (dcell c 14)) := by
  rw [bigSep_univ_eq_bigSepL [0, 1, 2, 3, 4, 5, 6, 7, 8, 9, 10, 11, 12] (by decide) (by decide)]; rfl
theorem toks_eq (c : Dev nD) : (toks c : sProp 𝕄)
    = iprop(dutyTok ER (barCell c) 0 (⟨0, by decide⟩ : Fin 3) ∗ dutyTok ER (barCell c) 0 (⟨1, by decide⟩ : Fin 3) ∗ dutyTok ER (barCell c) 0 (⟨2, by decide⟩ : Fin 3) ∗ dutyTok ER (dcell c 3) 0 (0 : Fin 3) ∗ dutyTok ER (dcell c 4) 0 (0 : Fin 3) ∗ dutyTok ER (dcell c 5) 0 (0 : Fin 3) ∗ dutyTok ER (dcell c 6) 0 (0 : Fin 3) ∗ dutyTok ER (dcell c 7) 0 (0 : Fin 3) ∗ dutyTok ER (dcell c 8) 0 (0 : Fin 3) ∗ dutyTok ER (dcell c 9) 0 (0 : Fin 3) ∗ dutyTok ER (dcell c 10) 0 (0 : Fin 3) ∗ dutyTok ER (dcell c 11) 0 (0 : Fin 3) ∗ dutyTok ER (dcell c 12) 0 (0 : Fin 3) ∗ dutyTok ER (dcell c 13) 0 (0 : Fin 3) ∗ dutyTok ER (dcell c 14) 0 (0 : Fin 3)) := by
  unfold toks; rw [bigSep_univ_eq_bigSepL [0, 1, 2, 3, 4, 5, 6, 7, 8, 9, 10, 11, 12, 13, 14] (by decide) (by decide)]; rfl

/-- The semaphores of the weight copies. -/
def zw4 (c : Dev nD) : sProp 𝕄 := iprop(z c 15 ∗ z c 16 ∗ z c 17 ∗ z c 18)

theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 13 => semVal (kcell (c, k)) 0) ∗ (zw4 c : sProp 𝕄)) := by
  rw [ownSems0_eq, unscopedSems0_eq, cells_eq (fun g => semVal g 0)]
  unfold zw4 z
  iintro ⟨⟨H3, H4, H5, H6, H7, H8, H9, H10, H11, H12, H13, H14, H15, H16, H17, H18⟩, HB⟩
  isplitr [H15 H16 H17 H18]
  · isplitl [HB]; · iexact HB
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · isplitl [H15]; · iexact H15
    isplitl [H16]; · iexact H16
    isplitl [H17]; · iexact H17
    iexact H18

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (moeRd m ρ) κ (kcell (c, k))))
          ∗ (bigSep Finset.univ fun k => iprop(atPos ER (kcell (c, k)) 0 ∅ 0 ∗ reached ER (kcell (c, k)) 0)) ∗ toks c ∗ zw4 c) := by
  unfold G
  iintro ⟨Hos, Hus, Hst, Hat, Htok⟩
  ihave Hv := (sems_split (F := F) c) $$ [Hos Hus]
  · isplitl [Hos] <;> iassumption
  icases Hv with ⟨Hv, Hz⟩
  imod (show iprop((bigSep Finset.univ fun k : Fin 13 => semVal (kcell (c, k)) 0) ∗ bigSep Finset.univ fun k : Fin 13 => roundState ER (moeRd m ρ) (kcell (c, k)) 0)
      ⊢ (|={Set.univ}=> bigSep Finset.univ fun k => iprop(∃ κ : ℕ, cellInv ER (moeRd m ρ) κ (kcell (c, k))) : sProp 𝕄) from by
        rw [← bigSep_sep']
        exact (bigSep_mono fun k _ => (Rounds.body_intro ER (moeRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

/-! ## The tokens carried to the devices that pay with them -/

def ring (j : ℕ) (hj : j < 3 := by decide) : Dev nD ≃ Dev nD := ⟨dst j, src j, src_dst j hj, dst_src j hj⟩
def back (j : ℕ) (hj : j < 3 := by decide) : Dev nD ≃ Dev nD := ⟨src j, dst j, dst_src j hj, src_dst j hj⟩

/-- The tokens device `c` pays with. -/
def payToks (c : Dev nD) : sProp 𝕄 :=
  iprop(dutyTok ER (barCell (dst 0 c)) 0 (⟨0, by decide⟩ : Fin 3) ∗ dutyTok ER (barCell (dst 1 c)) 0 (⟨1, by decide⟩ : Fin 3) ∗ dutyTok ER (barCell (dst 2 c)) 0 (⟨2, by decide⟩ : Fin 3) ∗ dutyTok ER (dcell c 3) 0 (0 : Fin 3) ∗ dutyTok ER (dcell c 4) 0 (0 : Fin 3) ∗ dutyTok ER (dcell c 5) 0 (0 : Fin 3) ∗ dutyTok ER (dcell (dst 0 c) 6) 0 (0 : Fin 3) ∗ dutyTok ER (dcell (dst 1 c) 7) 0 (0 : Fin 3) ∗ dutyTok ER (dcell (dst 2 c) 8) 0 (0 : Fin 3) ∗ dutyTok ER (dcell c 9) 0 (0 : Fin 3) ∗ dutyTok ER (dcell c 10) 0 (0 : Fin 3) ∗ dutyTok ER (dcell c 11) 0 (0 : Fin 3) ∗ dutyTok ER (dcell (src 0 c) 12) 0 (0 : Fin 3) ∗ dutyTok ER (dcell (src 1 c) 13) 0 (0 : Fin 3) ∗ dutyTok ER (dcell (src 2 c) 14) 0 (0 : Fin 3))

theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks
  simp only [bigSep_sep']
  iintro ⟨H0, H1, H2, H3, H4, H5, H6, H7, H8, H9, H10, H11, H12, H13, H14⟩
  isplitl [H0]; · iapply (Entails.of_eq (bigSep_univ_equiv (ring 0) _)) $$ H0
  isplitl [H1]; · iapply (Entails.of_eq (bigSep_univ_equiv (ring 1) _)) $$ H1
  isplitl [H2]; · iapply (Entails.of_eq (bigSep_univ_equiv (ring 2) _)) $$ H2
  isplitl [H3]; · iexact H3
  isplitl [H4]; · iexact H4
  isplitl [H5]; · iexact H5
  isplitl [H6]; · iapply (Entails.of_eq (bigSep_univ_equiv (ring 0) _)) $$ H6
  isplitl [H7]; · iapply (Entails.of_eq (bigSep_univ_equiv (ring 1) _)) $$ H7
  isplitl [H8]; · iapply (Entails.of_eq (bigSep_univ_equiv (ring 2) _)) $$ H8
  isplitl [H9]; · iexact H9
  isplitl [H10]; · iexact H10
  isplitl [H11]; · iexact H11
  isplitl [H12]; · iapply (Entails.of_eq (bigSep_univ_equiv (back 0) _)) $$ H12
  isplitl [H13]; · iapply (Entails.of_eq (bigSep_univ_equiv (back 1) _)) $$ H13
  iapply (Entails.of_eq (bigSep_univ_equiv (back 2) _)) $$ H14

/-- What device `c` keeps. -/
def linear (c : Dev nD) : sProp 𝕄 :=
  iprop((bigSep Finset.univ fun k : Fin 13 => atPos ER (kcell (c, k)) 0 ∅ 0) ∗ payToks c ∗ zw4 c)
/-- Every cell's invariant and round. -/
def records (K : Dev nD × Fin 13 → ℕ) : sProp 𝕄 :=
  bigSep Finset.univ fun ck : Dev nD × Fin 13 => iprop(cellInv ER (moeRd m ρ) (K ck) (kcell ck) ∗ reached ER (kcell ck) 0)
instance records_persistent (K : Dev nD × Fin 13 → ℕ) : BI.Persistent (records m ρ K) := by unfold records; infer_instance
/-- What the launch makes of it. -/
def G' (c : Dev nD) : sProp 𝕄 := iprop(∃ K, records m ρ K ∗ linear c)

theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (moeRd m ρ) κ (kcell (c, k))))
          ∗ (bigSep Finset.univ fun k => iprop(atPos ER (kcell (c, k)) 0 ∅ 0 ∗ reached ER (kcell (c, k)) 0)) ∗ toks c ∗ zw4 c) : sProp 𝕄)
      ⊢ bigSep Finset.univ (G' m ρ) := by
  rw [bigSep_sep', bigSep_sep', bigSep_sep', ← bigSep_univ_prod (fun ck : Dev nD × Fin 13 => iprop(∃ κ : ℕ, cellInv ER (moeRd m ρ) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hz⟩
  ihave HK := (BI.bigSep_exists_pi Finset.univ (fun (ck : Dev nD × Fin 13) (κ : ℕ) => (cellInv ER (moeRd m ρ) κ (kcell ck) : sProp 𝕄))) $$ HI
  icases HK with ⟨%K, #HI⟩
  ihave Htk := (toks_around (F := F)) $$ Htok
  iapply (spread (R := records m ρ K) (Φ := linear) fun c _ => show iprop(records m ρ K ∗ linear c) ⊢ G' m ρ c from by
    unfold G'; iintro H; iexists K; iexact H)
  isplitr
  · unfold records; rw [bigSep_sep']; isplitl; · iexact HI
    iexact HR
  · unfold linear
    simp only [bigSep_sep']
    isplitl [Hat]; · iexact Hat
    isplitl [Htk]; · iexact Htk
    iexact Hz

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem sum_same (sm : SemLoc sig) (e : Dev nD ≃ Dev nD) (c : Dev nD) (n : ℕ) :
    ∑ d : Dev nD, (tallyAt (((e d : Dev nD) : Thread nD τ), sm) () n : CellTallies nD τ sig Unit) ((c : Thread nD τ), sm) () = n := by
  rw [Finset.sum_eq_single (e.symm c)]
  · rw [Equiv.apply_symm_apply, tallyAt_apply, if_pos ⟨rfl, rfl⟩]
  · intro d _ hd
    rw [tallyAt_apply, if_neg]
    rintro ⟨h, -⟩
    have h1 : c = e d := congrArg (fun g : GSem nD τ sig => g.1.1) h
    exact hd (by rw [h1, Equiv.symm_apply_apply])
  · intro h; exact absurd (Finset.mem_univ _) h
theorem sum_diff {sm sm' : SemLoc sig} (h : sm ≠ sm') (e : Dev nD → Dev nD) (c : Dev nD) (n : ℕ) :
    ∑ d : Dev nD, (tallyAt (((e d : Dev nD) : Thread nD τ), sm) () n : CellTallies nD τ sig Unit) ((c : Thread nD τ), sm') () = 0 := by
  refine Finset.sum_eq_zero fun d _ => ?_
  rw [tallyAt_apply, if_neg]
  rintro ⟨h', -⟩
  exact h (congrArg Prod.snd h').symm

theorem sum_owed (c : Dev nD) (sm : SemLoc sig) : ∑ d : Dev nD, O₀ d ((c : Thread nD τ), sm) ()
    = (if sm = .dma (dq 14) then NB else 0) + (if sm = .dma (dq 13) then NB else 0) + (if sm = .dma (dq 12) then NB else 0)
      + (if sm = .dma (dq 8) then NB else 0) + (if sm = .dma (dq 7) then NB else 0) + (if sm = .dma (dq 6) then NB else 0)
      + (if sm = .reg barS then 1 else 0) + (if sm = .reg barS then 1 else 0) + (if sm = .reg barS then 1 else 0) := by
  have hp (s : SemLoc sig) (e : Dev nD ≃ Dev nD) (n : ℕ) :
      ∑ d : Dev nD, (tallyAt (((e d : Dev nD) : Thread nD τ), s) () n : CellTallies nD τ sig Unit) ((c : Thread nD τ), sm) () = if sm = s then n else 0 := by
    by_cases h : sm = s
    · rw [if_pos h, h]; exact sum_same s e c n
    · rw [if_neg h]; exact sum_diff (fun h' => h h'.symm) e c n
  unfold O₀ B1 B2 F0 F1 F2 R0 R1 R2
  simp only [Pi.add_apply, Finsupp.add_apply, Finset.sum_add_distrib]
  have h1 := hp (.dma (dq 14)) (back 2) NB
  have h2 := hp (.dma (dq 13)) (back 1) NB
  have h3 := hp (.dma (dq 12)) (back 0) NB
  have h4 := hp (.dma (dq 8)) (ring 2) NB
  have h5 := hp (.dma (dq 7)) (ring 1) NB
  have h6 := hp (.dma (dq 6)) (ring 0) NB
  have h7 := hp (.reg barS) (ring 2) 1
  have h8 := hp (.reg barS) (ring 1) 1
  have h9 := hp (.reg barS) (ring 0) 1
  exact congrArg₂ (· + ·) (congrArg₂ (· + ·) (congrArg₂ (· + ·) (congrArg₂ (· + ·) (congrArg₂ (· + ·) (congrArg₂ (· + ·) (congrArg₂ (· + ·) (congrArg₂ (· + ·) h1 h2) h3) h4) h5) h6) h7) h8) h9

theorem launch_at (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

theorem creds (c : Dev nD) :
    (Pipeline.launchCred O₀ c : sProp 𝕄) ⊢ iprop(cred (tallyAt (barCell c) () 3) ∗ cred (tallyAt (dcell c 6) () NB) ∗ cred (tallyAt (dcell c 7) () NB) ∗ cred (tallyAt (dcell c 8) () NB) ∗ cred (tallyAt (dcell c 12) () NB) ∗ cred (tallyAt (dcell c 13) () NB) ∗ cred (tallyAt (dcell c 14) () NB)) := by
  unfold Pipeline.launchCred
  have e0 := launch_at c (.reg barS) 3 ((sum_owed c _).trans (by rfl))
  have e6 := launch_at c (.dma (dq 6)) NB ((sum_owed c _).trans (by simp))
  have e7 := launch_at c (.dma (dq 7)) NB ((sum_owed c _).trans (by simp))
  have e8 := launch_at c (.dma (dq 8)) NB ((sum_owed c _).trans (by simp))
  have e12 := launch_at c (.dma (dq 12)) NB ((sum_owed c _).trans (by simp))
  have e13 := launch_at c (.dma (dq 13)) NB ((sum_owed c _).trans (by simp))
  have e14 := launch_at c (.dma (dq 14)) NB ((sum_owed c _).trans (by simp))
  rw [← e0, ← e6, ← e7, ← e8, ← e12, ← e13, ← e14]
  refine (bigSep_subset (Finset.subset_univ (List.toFinset [SemLoc.reg barS, .dma (dq 6), .dma (dq 7), .dma (dq 8), .dma (dq 12), .dma (dq 13), .dma (dq 14)]))).trans ?_
  rw [bigSep_eq_bigSepL_of_eq [SemLoc.reg barS, .dma (dq 6), .dma (dq 7), .dma (dq 8), .dma (dq 12), .dma (dq 13), .dma (dq 14)] rfl (by decide)]
  exact BI.Entails.refl _

end Cert.KernelIdeal.Moe
-- ==== Proof.KernelIdeal.Launch.lean ====
/-
The launch: every device's body under the pipeline's one point, and the run of @main.
-/
module

public import proofs.«01_k».proof.Proof.KernelIdeal.Deal
public import proofs.«01_k».proof.Proof.Gen.KernelIdeal.Points
public import Idealize.ShloMosaic.Lib.Pipeline.CollectiveSegs

@[expose] public section

noncomputable section

namespace Cert.KernelIdeal.Moe

open Cert.KernelIdeal Cert.KernelIdeal.Gen Cert.Tiles

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The buffers that are no staging buffer, at any contents. -/
def scratch (c : Dev nD) : sProp 𝕄 := iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f))
/-- The weights in the device's HBM. -/
def hbm (c : Dev nD) : sProp 𝕄 := iprop((((c : Thread nD τ).loc main_arg2) ↦{fullShare} W1 m c) ∗ (((c : Thread nD τ).loc main_arg3) ↦{fullShare} W2 m c))
def creditsOf (c : Dev nD) : sProp 𝕄 := iprop(cred (tallyAt (barCell c) () 3) ∗ cred (tallyAt (dcell c 6) () NB) ∗ cred (tallyAt (dcell c 7) () NB) ∗ cred (tallyAt (dcell c 8) () NB) ∗ cred (tallyAt (dcell c 12) () NB) ∗ cred (tallyAt (dcell c 13) () NB) ∗ cred (tallyAt (dcell c 14) () NB))
/-- What a device holds when its body starts, besides the buffers. -/
def start (c : Dev nD) : sProp 𝕄 := iprop(G' m ρ c ∗ creditsOf c ∗ levAts L lv ∗ hbm m c)
def Φ₀ (c : Dev nD) : sProp 𝕄 := iprop(start m ρ c ∗ scratch c)
def Φ₁ (c : Dev nD) : sProp 𝕄 := iprop((unscopedSems0 c ∗ hbm m c) ∗ Pipeline.ownSems0 (Ix := Unit) (Name := ℕ) (U := UU) (Lvl := ℕ) (Val := Elt F) (τ := τ) osem c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => A m ρ c
    | ⟨2, _⟩ => OutF m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt () t0_0.succ ∗ stg c cc0_stg0_0 (X m ρ c) ∗ stg c cc0_stg1_0 (A m ρ c) ∗ stg c cc0_stg2_0 (OutF m ρ c))

theorem before_0 (c : Dev nD) (d) : (dats m ρ 0 c).before (0 : Fin 3) t0_0 d = X m ρ c := by
  unfold Dat.before; rw [if_pos (fetch0_0 t0_0)]; rfl
theorem before_1 (c : Dev nD) (d) : (dats m ρ 0 c).before (1 : Fin 3) t0_0 d = A m ρ c := by
  unfold Dat.before; rw [if_pos (fetch0_1 t0_0)]; rfl

theorem runPost {α : Type} {c : Dev nD} {p : Prog (TpuEff nD τ sig (Elt F) Λ₀ .tc) α} {P Q : sProp 𝕄} (h : P ⊢ Q) :
    wpc c p (fun _ => P) ⊢ wpc c p (fun _ => Q) := by
  iintro H
  iapply (wp_wand_r frame (wpE (defs₀ (F := F)) 𝒱₀ (c : Thread nD τ) none) Set.univ)
  isplitl [H]; · iexact H
  iintro %r H
  iapply h $$ H

/-- What the launch deals is what the body starts from. -/
theorem to_start (c : Dev nD) : bodyPre m ρ c ⊢ iprop(∃ K, recs m ρ K ∗ bodyStart m ρ c) := by
  unfold bodyPre Φ₀ start G' creditsOf scratch hbm
  iintro ⟨⟨⟨⟨%K, #Hrec, Hlin⟩, ⟨Hcb, Hc6, Hc7, Hc8, Hc12, Hc13, Hc14⟩, #Hlev, HQ1, HQ2⟩, ⟨S0, S1, S2, S3, S4, S5, S6, S7, S8, S9⟩⟩, Ho, HX, HA, HO⟩
  iexists K
  isplitr
  · unfold recs; unfold records
    isplitl; · iexact Hrec
    iexact Hlev
  unfold linear
  icases Hlin with ⟨Hat, Hpay, Hz⟩
  ihave Hat := (Entails.of_eq (cells_eq (F := F) (fun g => atPos ER g 0 ∅ 0) c)) $$ Hat
  icases Hat with ⟨Hab, Ha3, Ha4, Ha5, Ha6, Ha7, Ha8, Ha9, Ha10, Ha11, Ha12, Ha13, Ha14⟩
  unfold payToks zw4
  icases Hpay with ⟨Ht0, Ht1, Ht2, Ht3, Ht4, Ht5, Ht6, Ht7, Ht8, Ht9, Ht10, Ht11, Ht12, Ht13, Ht14⟩
  icases Hz with ⟨Hz15, Hz16, Hz17, Hz18⟩
  unfold Dat.owesAt Pipeline.owesWithin
  icases Ho with ⟨%W, %hW, HO'⟩
  rw [show (dats m ρ 0 c).owed t0_0.castSucc = O₀ c from rfl]
  icases HX with ⟨%d0, %g0, %hg0, HX⟩
  icases HA with ⟨%d1, %g1, %hg1, HA⟩
  icases HO with ⟨%d2, %g2, %hg2, HO⟩
  have hg0' : g0 = X m ρ c := hg0.trans (before_0 m ρ c d0)
  have hg1' : g1 = A m ρ c := hg1.trans (before_1 m ρ c d1)
  subst hg0' hg1'
  icases S2 with ⟨%f2, S2⟩
  ihave S2 := (cut7 (F := F) c f2).1 $$ S2
  icases S2 with ⟨S20, S21, S22⟩
  icases S3 with ⟨%f3, S3⟩
  ihave S3 := (cut8 (F := F) c f3).1 $$ S3
  icases S3 with ⟨S30, S31, S32⟩
  icases S6 with ⟨%f6, S6⟩
  ihave S6 := (cut11 (F := F) c f6).1 $$ S6
  icases S6 with ⟨S60, S61, S62⟩
  icases S7 with ⟨%f7, S7⟩
  ihave S7 := (cut12 (F := F) c f7).1 $$ S7
  icases S7 with ⟨S70, S71, S72⟩
  icases S8 with ⟨%f8, S8⟩
  ihave S8 := (cutW1 (F := F) c f8).1 $$ S8
  icases S8 with ⟨S80, S81⟩
  ihave HQ1 := (cutQ1 m c).1 $$ HQ1
  icases HQ1 with ⟨Q10, Q11, Q12, Q13⟩
  icases S9 with ⟨%f9, S9⟩
  ihave S9 := (cutW2 (F := F) c f9).1 $$ S9
  icases S9 with ⟨S90, S91⟩
  ihave HQ2 := (cutQ2 m c).1 $$ HQ2
  icases HQ2 with ⟨Q20, Q21, Q22, Q23⟩
  unfold bodyStart
  isplitl [HO']
  · unfold owesE; iexists W; iexact HO'
  isplitl [Ht0]; · iexact Ht0
  isplitl [Ht1]; · iexact Ht1
  isplitl [Ht2]; · iexact Ht2
  isplitl [Hcb]; · iexact Hcb
  isplitl [Hab]; · iexact Hab
  isplitl [Ht3 Ht6 Ha3]
  · unfold tF; isplitl [Ht3]; · iexact Ht3
    isplitl [Ht6]; · iexact Ht6
    iexact Ha3
  isplitl [Ht9 Ht12 Ha9]
  · unfold tR; isplitl [Ht9]; · iexact Ht9
    isplitl [Ht12]; · iexact Ht12
    iexact Ha9
  isplitl [Ht4 Ht7 Ha4]
  · unfold tF; isplitl [Ht4]; · iexact Ht4
    isplitl [Ht7]; · iexact Ht7
    iexact Ha4
  isplitl [Ht10 Ht13 Ha10]
  · unfold tR; isplitl [Ht10]; · iexact Ht10
    isplitl [Ht13]; · iexact Ht13
    iexact Ha10
  isplitl [Ht5 Ht8 Ha5]
  · unfold tF; isplitl [Ht5]; · iexact Ht5
    isplitl [Ht8]; · iexact Ht8
    iexact Ha5
  isplitl [Ht11 Ht14 Ha11]
  · unfold tR; isplitl [Ht11]; · iexact Ht11
    isplitl [Ht14]; · iexact Ht14
    iexact Ha11
  isplitl [Hc6 Ha6]
  · unfold wt; isplitl [Hc6]; · iexact Hc6
    iexact Ha6
  isplitl [Hc7 Ha7]
  · unfold wt; isplitl [Hc7]; · iexact Hc7
    iexact Ha7
  isplitl [Hc8 Ha8]
  · unfold wt; isplitl [Hc8]; · iexact Hc8
    iexact Ha8
  isplitl [Hc12 Ha12]
  · unfold wt; isplitl [Hc12]; · iexact Hc12
    iexact Ha12
  isplitl [Hc13 Ha13]
  · unfold wt; isplitl [Hc13]; · iexact Hc13
    iexact Ha13
  isplitl [Hc14 Ha14]
  · unfold wt; isplitl [Hc14]; · iexact Hc14
    iexact Ha14
  isplitl [Hz15]; · iexact Hz15
  isplitl [Hz16]; · iexact Hz16
  isplitl [Hz17]; · iexact Hz17
  isplitl [Hz18]; · iexact Hz18
  isplitl [HX]
  · unfold hX; iexact HX
  isplitl [HA]
  · unfold hA; iexact HA
  isplitl [S0]
  · iapply (uM_init m ρ c) $$ S0
  isplitl [S1]
  · iapply (uR_init m ρ c) $$ S1
  isplitl [HO]
  · iapply (uO_init m ρ c); iexists g2; iexact HO
  isplitl [S4]
  · iapply (uOwn_init m ρ c) $$ S4
  isplitl [S5]
  · iapply (uY_init m ρ c) $$ S5
  isplitl [S20]
  · iapply (u7_init m ρ c 0); iexists f2; iexact S20
  isplitl [S60]
  · iapply (u11_init m ρ c 0); iexists f6; iexact S60
  isplitl [S30]
  · iexists f3; iexact S30
  isplitl [S70]
  · iexists f7; iexact S70
  isplitl [S21]
  · iapply (u7_init m ρ c 1); iexists f2; iexact S21
  isplitl [S61]
  · iapply (u11_init m ρ c 1); iexists f6; iexact S61
  isplitl [S31]
  · iexists f3; iexact S31
  isplitl [S71]
  · iexists f7; iexact S71
  isplitl [S22]
  · iapply (u7_init m ρ c 2); iexists f2; iexact S22
  isplitl [S62]
  · iapply (u11_init m ρ c 2); iexists f6; iexact S62
  isplitl [S32]
  · iexists f3; iexact S32
  isplitl [S72]
  · iexists f7; iexact S72
  isplitl [S80]
  · iexists f8; iexact S80
  isplitl [S90]
  · iexists f9; iexact S90
  isplitl [S81]
  · iexists f8; iexact S81
  isplitl [S91]
  · iexists f9; iexact S91
  isplitl [Q10]; · iexact Q10
  isplitl [Q20]; · iexact Q20
  isplitl [Q11]; · iexact Q11
  isplitl [Q21]; · iexact Q21
  isplitl [Q12]; · iexact Q12
  isplitl [Q22]; · iexact Q22
  isplitl [Q13]; · iexact Q13
  iexact Q23

/-- What the body leaves is what the launch takes back. -/
theorem from_end (c : Dev nD) : bodyEnd m ρ c ⊢ bodyPost m ρ c := by
  unfold bodyEnd bodyPost Φ₁ hbm scratch
  rw [ownSems0_eq, unscopedSems0_eq]
  iintro ⟨How, Hzb, HX, HA, HM, HR, HO, HOwn, HY, r80, z6, r81, z7, r82, z8, q10, q20, q11, q21, w10, q12, z15, w20, q22, z17, w11, q13, z16, w21, q23, z18, r120, z12, r121, z13, r122, z14, s70, z3, s71, z4, s72, z5, s110, z9, s111, z10, s112, z11⟩
  isplitl [Hzb HM HR HOwn HY r80 z6 r81 z7 r82 z8 q10 q20 q11 q21 w10 q12 z15 w20 q22 z17 w11 q13 z16 w21 q23 z18 r120 z12 r121 z13 r122 z14 s70 z3 s71 z4 s72 z5 s110 z9 s111 z10 s112 z11]
  · isplitl [Hzb q10 q11 q12 q13 q20 q21 q22 q23]
    · isplitl [Hzb]; · iexact Hzb
      isplitl [q10 q11 q12 q13]
      · iapply (cutQ1 m c).2
        isplitl [q10]; · iexact q10
        isplitl [q11]; · iexact q11
        isplitl [q12]; · iexact q12
        iexact q13
      · iapply (cutQ2 m c).2
        isplitl [q20]; · iexact q20
        isplitl [q21]; · iexact q21
        isplitl [q22]; · iexact q22
        iexact q23
    isplitl [z3 z4 z5 z6 z7 z8 z9 z10 z11 z12 z13 z14 z15 z16 z17 z18]
    · isplitl [z3]; · iexact z3
      isplitl [z4]; · iexact z4
      isplitl [z5]; · iexact z5
      isplitl [z6]; · iexact z6
      isplitl [z7]; · iexact z7
      isplitl [z8]; · iexact z8
      isplitl [z9]; · iexact z9
      isplitl [z10]; · iexact z10
      isplitl [z11]; · iexact z11
      isplitl [z12]; · iexact z12
      isplitl [z13]; · iexact z13
      isplitl [z14]; · iexact z14
      isplitl [z15]; · iexact z15
      isplitl [z16]; · iexact z16
      isplitl [z17]; · iexact z17
      iexact z18
    isplitl [HM]
    · iexists _; unfold hM; iexact HM
    isplitl [HR]
    · iexists _; unfold hR; iexact HR
    isplitl [s70 s71 s72]
    · iexists _; iapply (cut7 (F := F) c _).2
      isplitl [s70]; · iexact s70
      isplitl [s71]; · iexact s71
      iexact s72
    isplitl [r80 r81 r82]
    · iexists _; iapply (cut8 (F := F) c _).2
      isplitl [r80]; · iexact r80
      isplitl [r81]; · iexact r81
      iexact r82
    isplitl [HOwn]
    · iexists _; unfold hOwn; iexact HOwn
    isplitl [HY]
    · iexists _; unfold hY; iexact HY
    isplitl [s110 s111 s112]
    · iexists _; iapply (cut11 (F := F) c _).2
      isplitl [s110]; · iexact s110
      isplitl [s111]; · iexact s111
      iexact s112
    isplitl [r120 r121 r122]
    · iexists _; iapply (cut12 (F := F) c _).2
      isplitl [r120]; · iexact r120
      isplitl [r121]; · iexact r121
      iexact r122
    isplitl [w10 w11]
    · iapply (joinW1 (F := F) c _ _); isplitl [w10]; · iexact w10
      iexact w11
    iapply (joinW2 (F := F) c _ _); isplitl [w20]; · iexact w20
    iexact w21
  isplitl [How]
  · unfold owesE
    icases How with ⟨%W, How⟩
    unfold Dat.owesAt Pipeline.owesWithin
    rw [show (dats m ρ 0 c).owed t0_0.succ = 0 from rfl]
    iexists W
    isplitr; · ipureintro; exact fun _ _ => Or.inl trivial
    iexact How
  isplitl [HX]
  · unfold hX; iexists _; isplitr; · (ipureintro; rfl)
    iexact HX
  isplitl [HA]
  · unfold hA; iexists _; isplitr; · (ipureintro; rfl)
    iexact HA
  unfold hO; iexists _; isplitr; · (ipureintro; rfl)
  iexact HO

set_option maxRecDepth 8000 in
theorem body_main (c : Dev nD) : bodyPre m ρ c ⊢ wpc c (bodyAt0 (F := F) t0_0) (fun _ => bodyPost m ρ c) := by
  have hb : bodyAt0 (F := F) t0_0 = (atBufs (k0_part47 (F := F))) >>= fun _ => pure ⟨⟩ := rfl
  rw [hb, show (fun _ => pure ⟨⟩ : PUnit → Prog (TpuEff nD τ sig (Elt F) Λ₀ .tc) PUnit) = Pure.pure from rfl, bind_pure]
  refine (to_start m ρ c).trans ?_
  iintro ⟨%K, #Hr, Hs⟩
  iapply (runPost (from_end m ρ c))
  iapply (body_run m ρ K c)
  isplitr; · iexact Hr
  iexact Hs

set_option maxRecDepth 4000 in
/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_main m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hq, Hlev, Hcr, -, HG⟩
  ihave Hc := (creds (F := F) c) $$ Hcr
  imodintro
  unfold start creditsOf hbm
  isplitl
  · isplitl [HG]; · iexact HG
    isplitl [Hc]; · iexact Hc
    isplitl [Hlev]; · iexact Hlev
    iexact Hq
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ hbm m c) ∗ Pipeline.ownSems0 osem c ∗ Pipeline.scopedRest cfg0.spec c) := by
  rw [show (dats m ρ 0 c).Φ (Fin.last cfg0.N) = Φ₁ m c from rfl, scopedRest0_eq]
  unfold Φ₁ scratch
  exact BI.Entails.refl _

theorem above_owed (c : Dev nD) (O : CellTallies nD τ sig Unit) (hO : O = O₀ c ∨ O = 0) : Above 0 O := by
  rcases hO with rfl | rfl
  · exact above_O₀ c
  · exact above_zero 0
theorem waits (c : Dev nD) : (levAts L lv : sProp 𝕄) ⊢ Pipeline.cellsWaits cfgs (dats m ρ) () 0 c :=
  Pipeline.cellsWaits_intro cfgs (dats m ρ) () 0 c fun w s t =>
    mayWait c _ (by
      have h0 : lvS (.dma ((cfg0.spec w).sem s)) = 0 := by revert s; revert w; decide
      rw [h0]
      refine above_owed c _ ?_
      rcases t with ⟨_ | _, ht⟩
      · exact Or.inl rfl
      · exact Or.inr rfl)

theorem read_whole' (c : Dev nD) (b : Ref sig .tc) (f : Buf (Elt F) ((c : Thread nD τ).loc b)) (s' : Phys nD τ sig (Elt F)) :
    iprop((((c : Thread nD τ).loc b) ↦{fullShare} f) ∗ SI s') ⊢ (iprop(⌜s'.mem.mem ((c : Thread nD τ).loc b) = f⌝ ∗ SI s') : sProp 𝕄) := by
  have h := pointsTo_read_all (Ix := Unit) (Name := ℕ) (U := UU) (Lvl := ℕ) ({()} : Finset Unit) (fun _ => (c : Thread nD τ).loc b) (fun _ => f) s'
  rw [bigSep_singleton] at h
  refine h.trans (BI.sep_mono (BI.pure_mono fun h => h () (Finset.mem_singleton_self _)) (BI.Entails.refl _))

/-- What a run leaves: the windows' arrays, the weights and every counter. -/
def Final (r : PUnit × MemSt nD τ sig (Elt F)) : Prop :=
  (∀ c : Dev nD, (∀ w : Fin cfg0.W, r.2.mem ((cfg0.win w).arr.view.loc (c : Thread nD τ)) = (dats m ρ 0 c).arrAt w cfg0.N)
    ∧ r.2.mem ((c : Thread nD τ).loc main_arg2) = W1 m c ∧ r.2.mem ((c : Thread nD τ).loc main_arg3) = W2 m c)
  ∧ r.2.sem = fun _ => 0

set_option maxRecDepth 8000 in
theorem run_main : θ_run defs (onTc (τ := τ) (main (F := F))) (s₀ m ρ) (Final m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      iintro Hu
      ihave H := u₀_split (F := F) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => iprop(unscopedSems0 c ∗ hbm m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = W1 m c ∧ s.mem ((c : Thread nD τ).loc main_arg3) = W2 m c)
    (hY := fun c s' => by
      unfold hbm
      iintro ⟨⟨Hu, H1, H2⟩, -, HSI⟩
      ihave H := (read_whole' (F := F) c main_arg2 (W1 m c) s') $$ [H1 HSI]
      · isplitl [H1] <;> iassumption
      icases H with ⟨%h1, HSI⟩
      ihave H := (read_whole' (F := F) c main_arg3 (W2 m c) s') $$ [H2 HSI]
      · isplitl [H2] <;> iassumption
      icases H with ⟨%h2, HSI⟩
      imod (Pipeline.unscopedSems0_read (X := unscopedSems0 c) (c := c) fupd_intro s') $$ [Hu HSI] with ⟨%h3, HSI⟩
      · isplitl [Hu] <;> iassumption
      imodintro
      isplitr; · ipureintro; exact ⟨h3, h1, h2⟩
      iexact HSI)
    (hQ := fun _ h hs => ⟨fun c => ⟨fun w => (h c).1 w, (h c).2.2.2⟩, sem_eq_zero hs fun c => (h c).2.2.1⟩)

theorem final_x (c : Dev nD) : (dats m ρ 0 c).arrAt (0 : Fin 3) cfg0.N = m ((c : Thread nD τ).loc main_arg0) :=
  (dats (F := F) m ρ 0 c).arrAt_in (0 : Fin 3) rfl _
theorem final_a (c : Dev nD) : (dats m ρ 0 c).arrAt (1 : Fin 3) cfg0.N = m ((c : Thread nD τ).loc main_arg1) :=
  (dats (F := F) m ρ 0 c).arrAt_in (1 : Fin 3) rfl _

/-- The frame: the arguments as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (0 : Fin 3)).trans (final_x m ρ c), ((h.1 c).1 (1 : Fin 3)).trans (final_a m ρ c), (h.1 c).2.1, (h.1 c).2.2⟩, h.2⟩)
    (run_main m ρ)

end Cert.KernelIdeal.Moe
-- ==== Proof.RefRun.lean ====
/-
The reference's run: sixteen steps, one an expert, each replacing the rows of its tokens.
-/
module

public import proofs.«01_k».proof.Proof.Gen.ReferenceIdeal
public import Idealize.ShloMosaic.Lib.StableHlo.RunHlo
public import Idealize.ShloMosaic.Lib.StableHlo.RunRead
public import Idealize.ShloMosaic.Lib.Claim

@[expose] public section

noncomputable section

namespace Cert.Ref

open Cert.ReferenceIdeal Cert.ReferenceIdeal.Gen
open Idealize.ShloMosaic Idealize.ShloMosaic.TcCoe Idealize.ShloMosaic.StableHlo Idealize.SL.Sem

variable {F : FTy → Type} [FloatOps F]

/-- One expert's step: the rows whose token is assigned `e` become that expert's output. -/
def step (e : BitVec 32) (o : Nat) (h1 : S16x1024x2048.Slices ![o, 0, 0] S1x1024x2048) (h2 : S16x2048x1024.Slices ![o, 0, 0] S1x2048x1024)
    (x : FVec F S8192x1024 .f32) (a : IVec S8192 32) (w1 : FVec F S16x1024x2048 .f32) (w2 : FVec F S16x2048x1024 .f32)
    (acc : FVec F S8192x1024 .f32) : FVec F S8192x1024 .f32 :=
  select (broadcastInDim S8192x1024 ![0, 1] bcast_S8192x1_S8192x1024_0_1
      (broadcastInDim S8192x1 ![0] bcast_S8192_S8192x1_0 (cmpi .eq a (broadcastInDim S8192 ![] bcast_S_S8192 (constantI S_ 32 e)))))
    (Host.dotGeneral dot_S8192x2048_S2048x1024_S8192x1024_1_0_0_1_n_n none
      (maximumf (Host.dotGeneral dot_S8192x1024_S1024x2048_S8192x2048_1_0_0_1_n_n none x
          (shapeCast S1024x2048 (extractStridedSlice S1x1024x2048 ![o, 0, 0] w1 h1) shapeCasts_S1x1024x2048_S1024x2048))
        (broadcastInDim S8192x2048 ![] bcast_S_S8192x2048 (constant S_ .f32 0x00000000#32)))
      (shapeCast S2048x1024 (extractStridedSlice S1x2048x1024 ![o, 0, 0] w2 h2) shapeCasts_S1x2048x1024_S2048x1024))
    acc

/-- The sixteen steps in order, from zeros. -/
def out (x : FVec F S8192x1024 .f32) (a : IVec S8192 32) (w1 : FVec F S16x1024x2048 .f32) (w2 : FVec F S16x2048x1024 .f32) : FVec F S8192x1024 .f32 :=
  step 15#32 15 slices_S16x1024x2048_S1x1024x2048_15_0_0 slices_S16x2048x1024_S1x2048x1024_15_0_0 x a w1 w2
  (step 14#32 14 slices_S16x1024x2048_S1x1024x2048_14_0_0 slices_S16x2048x1024_S1x2048x1024_14_0_0 x a w1 w2
  (step 13#32 13 slices_S16x1024x2048_S1x1024x2048_13_0_0 slices_S16x2048x1024_S1x2048x1024_13_0_0 x a w1 w2
  (step 12#32 12 slices_S16x1024x2048_S1x1024x2048_12_0_0 slices_S16x2048x1024_S1x2048x1024_12_0_0 x a w1 w2
  (step 11#32 11 slices_S16x1024x2048_S1x1024x2048_11_0_0 slices_S16x2048x1024_S1x2048x1024_11_0_0 x a w1 w2
  (step 10#32 10 slices_S16x1024x2048_S1x1024x2048_10_0_0 slices_S16x2048x1024_S1x2048x1024_10_0_0 x a w1 w2
  (step 9#32 9 slices_S16x1024x2048_S1x1024x2048_9_0_0 slices_S16x2048x1024_S1x2048x1024_9_0_0 x a w1 w2
  (step 8#32 8 slices_S16x1024x2048_S1x1024x2048_8_0_0 slices_S16x2048x1024_S1x2048x1024_8_0_0 x a w1 w2
  (step 7#32 7 slices_S16x1024x2048_S1x1024x2048_7_0_0 slices_S16x2048x1024_S1x2048x1024_7_0_0 x a w1 w2
  (step 6#32 6 slices_S16x1024x2048_S1x1024x2048_6_0_0 slices_S16x2048x1024_S1x2048x1024_6_0_0 x a w1 w2
  (step 5#32 5 slices_S16x1024x2048_S1x1024x2048_5_0_0 slices_S16x2048x1024_S1x2048x1024_5_0_0 x a w1 w2
  (step 4#32 4 slices_S16x1024x2048_S1x1024x2048_4_0_0 slices_S16x2048x1024_S1x2048x1024_4_0_0 x a w1 w2
  (step 3#32 3 slices_S16x1024x2048_S1x1024x2048_3_0_0 slices_S16x2048x1024_S1x2048x1024_3_0_0 x a w1 w2
  (step 2#32 2 slices_S16x1024x2048_S1x1024x2048_2_0_0 slices_S16x2048x1024_S1x2048x1024_2_0_0 x a w1 w2
  (step 1#32 1 slices_S16x1024x2048_S1x1024x2048_1_0_0 slices_S16x2048x1024_S1x2048x1024_1_0_0 x a w1 w2
  (step 0#32 0 slices_S16x1024x2048_S1x1024x2048_0_0_0 slices_S16x2048x1024_S1x2048x1024_0_0_0 x a w1 w2
  (broadcastInDim S8192x1024 ![] bcast_S_S8192x1024 (constant S_ .f32 0x00000000#32)))))))))))))))))

set_option maxHeartbeats 4000000 in
theorem run_ref (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v196) = truncf .bf16 (out (extf .f32 (m ((c.tc : Thread nD τ).loc main_arg0)) bitsLt_bf16_f32) (m ((c.tc : Thread nD τ).loc main_arg1))
          (extf .f32 (m ((c.tc : Thread nD τ).loc main_arg2)) bitsLt_bf16_f32) (extf .f32 (m ((c.tc : Thread nD τ).loc main_arg3)) bitsLt_bf16_f32)) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  unfold main main_part0 main_part1 main_part2 main_part3 fn_where.body
  simp only [bind_assoc, pure_bind]
  refine θ_run_mono (run_hlo _ _ (by hlo_seq) (by decide) (by decide) (by simp)
      (by intro _ h; (repeat (cases h with | head => rfl | tail _ h => ?_)); exact nomatch h) _ _) fun r h c => ⟨?_, ?_, ?_, ?_, ?_⟩
  · rw [h c main_v196]
    after_reads_simp
    rfl
  · rw [h c main_arg0]; after_reads_simp
  · rw [h c main_arg1]; after_reads_simp
  · rw [h c main_arg2]; after_reads_simp
  · rw [h c main_arg3]; after_reads_simp

end Cert.Ref
-- ==== Proof.KernelIdeal.Pay.lean ====
/-
The kernel's vector computations read at an index, over the extended reals.
-/
module

public import proofs.«01_k».proof.Proof.KernelIdeal.Ring
public import Idealize.ShloMosaic.Lib.Pointwise

@[expose] public section

noncomputable section

namespace Cert.KernelIdeal.Moe

open Cert.KernelIdeal Cert.KernelIdeal.Gen Cert.Tiles
open Idealize.ShloMosaic

/-- A one-bit test as a number. -/
theorem bit_val (p : Bool) : (FloatOps.sitofp FTy.f32 (BitVec.setWidth 32 (BitVec.ofBool p)) : Ideal .f32) = if p then (1 : EReal) else 0 := by
  show (((BitVec.setWidth 32 (BitVec.ofBool p)).toInt : ℝ) : EReal) = _
  cases p
  · rw [show (BitVec.setWidth 32 (BitVec.ofBool false)).toInt = 0 from by decide]; simp
  · rw [show (BitVec.setWidth 32 (BitVec.ofBool true)).toInt = 1 from by decide]; simp

/-- A number's word, converted. -/
theorem nat_val {φ : FTy} (n : ℕ) (h : n < 2 ^ 31) : (FloatOps.sitofp φ (BitVec.ofNat 32 n) : Ideal φ) = ((n : ℕ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

theorem word_val_inj {φ : FTy} (a b : BitVec 32) : ((FloatOps.sitofp φ a : Ideal φ) = FloatOps.sitofp φ b) ↔ a = b := by
  show (((a.toInt : ℝ) : EReal) = ((b.toInt : ℝ) : EReal)) ↔ _
  rw [EReal.coe_eq_coe_iff, Int.cast_inj, BitVec.toInt_inj]

/-- The one-hot entry: rank `r` equals `q` and the mask `m` is positive. -/
def sel (r m : EReal) (q : ℕ) : EReal := if r = ((q : ℕ) : EReal) ∧ 0 < m then 1 else 0

theorem sel_read (r m : EReal) (q : ℕ) (h : q < 2 ^ 31) :
    (FloatOps.sitofp FTy.f32 (BitVec.setWidth 32 (IntOp.andi (BitVec.ofBool (decide (r = (FloatOps.sitofp FTy.bf16 (BitVec.ofNat 32 q) : Ideal .bf16))))
      (BitVec.ofBool (decide (0 < m))))) : Ideal .f32) = sel r m q := by
  rw [nat_val q h]
  have e : ∀ a b : Bool, IntOp.andi (BitVec.ofBool a) (BitVec.ofBool b) = BitVec.ofBool (a && b) := by decide
  rw [e, bit_val, sel]
  simp

theorem pay26_apply (acc : FVec Ideal S256x1024 .f32) (R M : Vec Ideal S256x1 .bf16) (x : Vec Ideal S256x1024 .bf16) (q : Fin 256) (d : Fin 1024) :
    k0_pay26 acc R M x (ix2 q d) = acc (ix2 q d) + ∑ s : Fin 256, sel (R (ix2 s 0)) (M (ix2 s 0)) q.val * x (ix2 s d) := by
  pointwise [k0_pay26, k0_pay22]
  refine congrArg _ (Finset.sum_congr rfl fun s _ => ?_)
  rw [sel_read _ _ _ (by have := q.isLt; omega)]

theorem pay25_apply (q : Fin 256) (d : Fin 1024) : (k0_pay25 (F := Ideal)) (ix2 q d) = 0 := by pointwise [k0_pay25]

theorem pay27_apply (y : FVec Ideal S256x1024 .f32) (q : Fin 256) (d : Fin 1024) : k0_pay27 y (ix3 0 q d) = y (ix2 q d) := by pointwise [k0_pay27]
theorem pay64_apply (y : FVec Ideal S256x1024 .f32) (q : Fin 256) (d : Fin 1024) : k0_pay64 y (ix2 q d) = y (ix2 q d) := by pointwise [k0_pay64]

theorem pay79_apply (y : Vec Ideal S1x256x1024 .bf16) (w1 : Vec Ideal S1x1024x2048 .bf16) (w2 : Vec Ideal S1x2048x1024 .bf16) (q : Fin 256) (d : Fin 1024) :
    k0_pay79 y w1 w2 (ix3 0 q d) = ∑ f : Fin 2048, max (∑ a : Fin 1024, y (ix3 0 q a) * w1 (ix3 0 a f)) 0 * w2 (ix3 0 f d) := by
  pointwise [k0_pay79]
theorem pay74_apply (y : Vec Ideal S256x1024 .bf16) (w1 : Vec Ideal S1x1024x2048 .bf16) (w2 : Vec Ideal S1x2048x1024 .bf16) (q : Fin 256) (d : Fin 1024) :
    k0_pay74 y w1 w2 (ix2 q d) = ∑ f : Fin 2048, max (∑ a : Fin 1024, y (ix2 q a) * w1 (ix3 0 a f)) 0 * w2 (ix3 0 f d) := by
  pointwise [k0_pay74]

/-! ## The gathers back into token order -/

/-- Row `p` of the one-hot matrix times column `d` of a bucket's results. -/
def gat (R M : Vec Ideal S256x1 .bf16) (y : ℕ → ℕ → EReal) (p : Fin 256) (d : Fin 1024) : EReal :=
  ∑ q : Fin 256, sel (R (ix2 p 0)) (M (ix2 p 0)) q.val * y q.val d.val
def row2 (y : Vec Ideal S256x1024 .bf16) (q d : ℕ) : EReal := y (ix2 (md 256 q) (md 1024 d))
def row3 (y : Vec Ideal S1x256x1024 .bf16) (q d : ℕ) : EReal := y (ix3 0 (md 256 q) (md 1024 d))

theorem md_val {n : ℕ} (q : Fin n) (h : 0 < n) : md n q.val h = q := Fin.ext (Nat.mod_eq_of_lt q.isLt)

theorem gat_row2 (R M : Vec Ideal S256x1 .bf16) (y : Vec Ideal S256x1024 .bf16) (p : Fin 256) (d : Fin 1024) :
    (∑ q : Fin 256, (FloatOps.sitofp FTy.f32 (BitVec.setWidth 32 (IntOp.andi (BitVec.ofBool (decide (R (ix2 p 0) = (FloatOps.sitofp FTy.bf16 (BitVec.ofNat 32 q.val) : Ideal .bf16))))
      (BitVec.ofBool (decide (0 < M (ix2 p 0)))))) : Ideal .f32) * y (ix2 q d)) = gat R M (row2 y) p d := by
  refine Finset.sum_congr rfl fun q _ => ?_
  rw [sel_read _ _ _ (by have := q.isLt; omega), row2, md_val, md_val]
theorem gat_row3 (R M : Vec Ideal S256x1 .bf16) (y : Vec Ideal S1x256x1024 .bf16) (p : Fin 256) (d : Fin 1024) :
    (∑ q : Fin 256, (FloatOps.sitofp FTy.f32 (BitVec.setWidth 32 (IntOp.andi (BitVec.ofBool (decide (R (ix2 p 0) = (FloatOps.sitofp FTy.bf16 (BitVec.ofNat 32 q.val) : Ideal .bf16))))
      (BitVec.ofBool (decide (0 < M (ix2 p 0)))))) : Ideal .f32) * y (ix3 0 q d)) = gat R M (row3 y) p d := by
  refine Finset.sum_congr rfl fun q _ => ?_
  rw [sel_read _ _ _ (by have := q.isLt; omega), row3, md_val, md_val]

section Gather
variable (p : Fin 256) (d : Fin 1024) (acc b : FVec Ideal S256x1024 .f32) (R0 M0 R1 M1 R2 M2 : Vec Ideal S256x1 .bf16)
  (y0 y1 : Vec Ideal S256x1024 .bf16) (z0 z1 z2 : Vec Ideal S1x256x1024 .bf16)

theorem pay1_apply : k0_pay1 k0_pay22 y0 R0 M0 y1 R1 M1 (ix2 p d) = gat R0 M0 (row2 y0) p d + gat R1 M1 (row2 y1) p d := by
  rw [← gat_row2, ← gat_row2]; pointwise [k0_pay1, k0_pay22]
theorem pay2_apply : k0_pay2 k0_pay22 acc y0 R0 M0 y1 R1 M1 (ix2 p d) = acc (ix2 p d) + gat R0 M0 (row2 y0) p d + gat R1 M1 (row2 y1) p d := by
  rw [← gat_row2, ← gat_row2]; pointwise [k0_pay2, k0_pay22]
theorem pay6_apply : k0_pay6 k0_pay22 acc (k0_pay3 z0) (k0_pay4 k0_pay22 R0) (k0_pay5 M0) z1 R1 M1 z2 R2 M2 (ix2 p d)
    = acc (ix2 p d) + gat R0 M0 (row3 z0) p d + gat R1 M1 (row3 z1) p d + gat R2 M2 (row3 z2) p d := by
  rw [← gat_row3, ← gat_row3, ← gat_row3]; pointwise [k0_pay6, k0_pay3, k0_pay4, k0_pay5, k0_pay22]
theorem pay7_apply : k0_pay7 k0_pay22 acc z0 R0 M0 z1 R1 M1 (ix2 p d) = acc (ix2 p d) + gat R0 M0 (row3 z0) p d + gat R1 M1 (row3 z1) p d := by
  rw [← gat_row3, ← gat_row3]; pointwise [k0_pay7, k0_pay22]
theorem pay9_apply : k0_pay9 k0_pay22 acc (k0_pay8 z0) R0 M0 z1 R1 M1 (ix2 p d) = acc (ix2 p d) + gat R0 M0 (row3 z0) p d + gat R1 M1 (row3 z1) p d := by
  rw [← gat_row3, ← gat_row3]; pointwise [k0_pay9, k0_pay8, k0_pay22]
theorem pay13_apply : k0_pay13 k0_pay22 acc (k0_pay10 z0) M0 (k0_pay11 k0_pay22 R0) k0_pay12 z1 R1 M1 (ix2 p d)
    = acc (ix2 p d) + gat R0 M0 (row3 z0) p d + gat R1 M1 (row3 z1) p d := by
  rw [← gat_row3, ← gat_row3]; pointwise [k0_pay13, k0_pay10, k0_pay11, k0_pay12, k0_pay22]
theorem pay14_apply : k0_pay14 k0_pay22 z0 R0 M0 (ix2 p d) = gat R0 M0 (row3 z0) p d := by
  rw [← gat_row3]; pointwise [k0_pay14, k0_pay22]
theorem pay15_apply : k0_pay15 k0_pay22 acc b z0 R0 M0 z1 R1 M1 (ix2 p d)
    = acc (ix2 p d) + b (ix2 p d) + gat R0 M0 (row3 z0) p d + gat R1 M1 (row3 z1) p d := by
  rw [← gat_row3, ← gat_row3]; pointwise [k0_pay15, k0_pay22]

end Gather

end Cert.KernelIdeal.Moe
-- ==== Proof.KernelIdeal.Route.lean ====
/-
Which token goes to which bucket row: the membership matrix, the ranks, the buckets and the results per bucket.
-/
module

public import proofs.«01_k».proof.Proof.KernelIdeal.Pay

@[expose] public section

noncomputable section

namespace Cert.KernelIdeal.Moe

open Cert.KernelIdeal Cert.KernelIdeal.Gen Cert.Tiles
open Idealize.ShloMosaic Idealize.ShloMosaic.TcCoe

variable (m : (ℓ : Loc nD τ sig) → Buf (Elt Ideal) ℓ) (ρ : Dev nD → PrngReg)

/-- The expert of column `k` on device `c`. -/
def ev (c : Dev nD) (k : ℕ) : ℕ := ((c.val % 4 + k / 4) % 4) * 4 + k % 4

theorem ev_lt (c : Dev nD) (k : ℕ) : ev c k < 16 := by unfold ev; omega
theorem ev_inj (c : Dev nD) {k k' : Fin 16} (h : ev c k.val = ev c k'.val) : k = k' := by
  unfold ev at h; apply Fin.ext; have := k.isLt; have := k'.isLt; omega
theorem ev_surj (c : Dev nD) {e : ℕ} (h : e < 16) : ∃ k : Fin 16, ev c k.val = e := by
  refine ⟨⟨((e / 4 + 4 - c.val % 4) % 4) * 4 + e % 4, by omega⟩, ?_⟩
  unfold ev; simp only; omega

theorem col_word (c : Dev nD) (k : Fin 16) :
    (IntOp.addi (k0_pay19 (zw c) io16 4#32 k0_pay16 k0_pay17 k0_pay18 (ix2 0 k))
      (Scalar.select (IntOp.andi (IntOp.xori (IntOp.cmpi CmpIPredicate.slt (k0_pay20 io16 (ix2 0 k)) 0#32) (Scalar.cmpi CmpIPredicate.slt v107w 0#32))
          (k0_pay21 io16 (ix2 0 k)))
        (IntOp.addi (k0_pay20 io16 (ix2 0 k)) v107w) (k0_pay20 io16 (ix2 0 k)))) = BitVec.ofNat 32 (ev c k.val) := by
  pointwise [k0_pay19, k0_pay20, k0_pay21, k0_pay16, k0_pay17, k0_pay18]
  revert c k
  decide +kernel

/-- Token `s` is assigned the expert of column `k`. -/
def Hit (c : Dev nD) (k : ℕ) (s : Fin 2048) : Prop := A m ρ c (ix1 s) = BitVec.ofNat 32 (ev c k)
instance (c : Dev nD) (k : ℕ) (s : Fin 2048) : Decidable (Hit m ρ c k s) := by unfold Hit; infer_instance

theorem mask_apply (c : Dev nD) (t : Fin 2048) (k : Fin 16) : MaskF m ρ c (ix2 t k) = if Hit m ρ c k.val t then (1 : EReal) else 0 := by
  show k0_pay23 _ _ _ _ _ (aTile m ρ c (t.val / 256)) (ix2 (md 256 t.val) k) = _
  pointwise [k0_pay23]
  rw [col_word, bit_val]
  have ht : aTile m ρ c (t.val / 256) (ix1 (md 256 t.val)) = A m ρ c (ix1 t) := by
    unfold aTile
    congr 2
    apply Fin.ext
    have := t.isLt
    show (256 * (t.val / 256) + t.val % 256) % 2048 = t.val
    omega
  rw [ht]
  simp only [word_val_inj, Hit, decide_eq_true_eq]

/-- How many tokens before `t` share column `k`. -/
def cnt (c : Dev nD) (k : ℕ) (t : ℕ) : ℕ := (Finset.univ.filter fun s : Fin 2048 => s.val < t ∧ Hit m ρ c k s).card

theorem lt_word (a b i : ℕ) (ha : a < 2048) (hb : b < 256) (hi : i < 8) :
    IntOp.cmpi CmpIPredicate.slt (BitVec.ofNat 32 a) (IntOp.addi (BitVec.ofNat 32 b) (Scalar.muli (Scf.iv 0#32 1#32 i) 256#32))
      = BitVec.ofBool (decide (a < 256 * i + b)) := by
  have hm : Scalar.muli (Scf.iv 0#32 1#32 i) 256#32 = BitVec.ofNat 32 (256 * i) := by
    interval_cases i <;> decide
  rw [hm, show IntOp.addi (BitVec.ofNat 32 b) (BitVec.ofNat 32 (256 * i)) = BitVec.ofNat 32 (256 * i + b) from by
    rw [Nat.add_comm, BitVec.ofNat_add]; rfl]
  have hv : ∀ n, n < 4096 → (BitVec.ofNat 32 n).toInt = (n : ℤ) := fun n hn => by
    rw [BitVec.toInt_eq_toNat_of_lt (by rw [BitVec.toNat_ofNat]; omega), BitVec.toNat_ofNat, Nat.mod_eq_of_lt (by omega)]
  show BitVec.ofBool (decide ((BitVec.ofNat 32 a).toInt < (BitVec.ofNat 32 (256 * i + b)).toInt)) = _
  rw [hv a (by omega), hv (256 * i + b) (by omega)]
  simp only [Nat.cast_lt]

theorem rank_apply (c : Dev nD) (t : Fin 2048) (k : Fin 16) : RankF m ρ c (ix2 t k) = ((cnt m ρ c k.val t.val : ℕ) : EReal) := by
  show k0_pay24 ⟨t.val / 256 % k0_t2_loop.trips, _⟩ (MaskF m ρ c) (ix2 (md 256 t.val) k) = _
  pointwise [k0_pay24]
  have ht := t.isLt
  have h8 : k0_t2_loop.trips = 8 := by decide
  have hi : t.val / 256 % k0_t2_loop.trips = t.val / 256 := by rw [h8]; omega
  unfold cnt
  rw [Finset.natCast_card_filter]
  refine Finset.sum_congr rfl fun s _ => ?_
  rw [hi, lt_word s.val (t.val % 256) (t.val / 256) s.isLt (by omega) (by omega), bit_val, mask_apply,
    show 256 * (t.val / 256) + t.val % 256 = t.val from by omega]
  by_cases h1 : s.val < t.val <;> by_cases h2 : Hit m ρ c k.val s <;> simp [h1, h2]

theorem cnt_lt (c : Dev nD) (k : ℕ) {s t : Fin 2048} (hs : Hit m ρ c k s) (h : s.val < t.val) : cnt m ρ c k s.val < cnt m ρ c k t.val := by
  unfold cnt
  refine Finset.card_lt_card ⟨fun x hx => ?_, fun hx => ?_⟩
  · rw [Finset.mem_filter] at hx ⊢; exact ⟨hx.1, by omega, hx.2.2⟩
  · have := hx (Finset.mem_filter.mpr ⟨Finset.mem_univ s, h, hs⟩)
    rw [Finset.mem_filter] at this
    omega

theorem cnt_inj (c : Dev nD) (k : ℕ) {s t : Fin 2048} (hs : Hit m ρ c k s) (ht : Hit m ρ c k t) (h : cnt m ρ c k s.val = cnt m ρ c k t.val) : s = t := by
  rcases Nat.lt_trichotomy s.val t.val with h1 | h1 | h1
  · have := cnt_lt m ρ c k hs h1; omega
  · exact Fin.ext h1
  · have := cnt_lt m ρ c k ht h1; omega

/-- The one-hot entry of token `t`'s row. -/
theorem sel_apply (c : Dev nD) (k : Fin 16) (t : Fin 2048) (q : ℕ) :
    sel (RankF m ρ c (ix2 t k)) (MaskF m ρ c (ix2 t k)) q = if Hit m ρ c k.val t ∧ cnt m ρ c k.val t.val = q then 1 else 0 := by
  rw [rank_apply, mask_apply, sel]
  by_cases h : Hit m ρ c k.val t
  · simp [h, EReal.natCast_eq_iff]
  · simp [h]

theorem col_idx (n : ℕ) (hn : n < 8) (s : Fin 256) : 256 * n + s.val < 2048 := by have := s.isLt; omega

theorem colAt_apply (f : Vec Ideal S2048x16 .bf16) (n : ℕ) (hn : n < 8) (k : Fin 16) (s : Fin 256) :
    colAt f n k.val (ix2 s 0) = f (ix2 ⟨256 * n + s.val, col_idx n hn s⟩ k) := by
  unfold colAt
  congr 1
  refine congrArg₂ ix2 (Fin.ext (Nat.mod_eq_of_lt (col_idx n hn s))) (md_val k _)

theorem xTile_apply (c : Dev nD) (n : ℕ) (hn : n < 8) (s : Fin 256) (d : Fin 1024) :
    xTile m ρ c n (ix2 s d) = X m ρ c (ix2 ⟨256 * n + s.val, col_idx n hn s⟩ d) := by
  unfold xTile
  congr 1
  exact congrArg₂ ix2 (Fin.ext (Nat.mod_eq_of_lt (col_idx n hn s))) rfl

/-- Row `cnt t` of a bucket, once the tile of `t` is in: the token `t` itself. -/
theorem bacc_apply (c : Dev nD) (k : Fin 16) (t : Fin 2048) (ht : Hit m ρ c k.val t) (q : Fin 256) (hq : cnt m ρ c k.val t.val = q.val) (d : Fin 1024)
    (n : ℕ) (hn : n ≤ 8) : bacc m ρ c k.val n (ix2 q d) = if t.val < 256 * n then X m ρ c (ix2 t d) else 0 := by
  induction n with
  | zero => rw [bacc, pay25_apply, if_neg (by omega)]
  | succ n ih =>
    rw [bacc, pay26_apply, ih (by omega)]
    have hn' : n < 8 := by omega
    have hsum : ∀ s : Fin 256, sel (colAt (RankF m ρ c) n k.val (ix2 s 0)) (colAt (MaskF m ρ c) n k.val (ix2 s 0)) q.val * xTile m ρ c n (ix2 s d)
        = if 256 * n + s.val = t.val then X m ρ c (ix2 t d) else 0 := by
      intro s
      rw [colAt_apply _ n hn', colAt_apply _ n hn', sel_apply, xTile_apply _ _ _ n hn']
      by_cases h : 256 * n + s.val = t.val
      · have e : (⟨256 * n + s.val, col_idx n hn' s⟩ : Fin 2048) = t := Fin.ext h
        rw [e, if_pos ⟨ht, hq⟩, if_pos h, one_mul]
      · rw [if_neg h, if_neg, zero_mul]
        rintro ⟨h1, h2⟩
        exact h (congrArg Fin.val (cnt_inj m ρ c k.val h1 ht (h2.trans hq.symm)))
    rw [Finset.sum_congr rfl fun s _ => hsum s]
    by_cases h1 : t.val < 256 * n
    · rw [if_pos h1, if_pos (by omega), Finset.sum_eq_zero fun s _ => if_neg (by omega), add_zero]
    · rw [if_neg h1, zero_add]
      by_cases h2 : t.val < 256 * (n + 1)
      · rw [if_pos h2, Finset.sum_eq_single (⟨t.val - 256 * n, by omega⟩ : Fin 256), if_pos (by simp only; omega)]
        · intro s _ hs; exact if_neg fun h => hs (Fin.ext (by simp only; omega))
        · intro h; exact absurd (Finset.mem_univ _) h
      · rw [if_neg h2, Finset.sum_eq_zero fun s _ => if_neg (by have := s.isLt; omega)]

/-- The full bucket. -/
theorem bucket_apply (c : Dev nD) (k : Fin 16) (t : Fin 2048) (ht : Hit m ρ c k.val t) (q : Fin 256) (hq : cnt m ρ c k.val t.val = q.val) (d : Fin 1024) :
    bacc m ρ c k.val 8 (ix2 q d) = X m ρ c (ix2 t d) := by
  rw [bacc_apply m ρ c k t ht q hq d 8 (le_refl _), if_pos (by have := t.isLt; omega)]

end Cert.KernelIdeal.Moe
-- ==== Proof.KernelIdeal.Gather.lean ====
/-
The output row of a token: the feed-forward result of the expert it is assigned, or zero.
-/
module

public import proofs.«01_k».proof.Proof.KernelIdeal.Route

@[expose] public section

noncomputable section

namespace Cert.KernelIdeal.Moe

open Cert.KernelIdeal Cert.KernelIdeal.Gen Cert.Tiles
open Idealize.ShloMosaic Idealize.ShloMosaic.TcCoe

variable (m : (ℓ : Loc nD τ sig) → Buf (Elt Ideal) ℓ) (ρ : Dev nD → PrngReg)

/-- The device that holds the weights of column `k`'s expert. -/
def peer (c : Dev nD) (k : ℕ) : Dev nD := if k / 4 = 0 then c else dst (k / 4 - 1) c

/-- Token `t` through the expert of column `k`. -/
def ffn (c : Dev nD) (k : ℕ) (t : Fin 2048) (d : Fin 1024) : EReal :=
  ∑ f : Fin 2048, max (∑ a : Fin 1024, X m ρ c (ix2 t a) * W1 m (peer c k) (ix3 (md 4 k) a f)) 0 * W2 m (peer c k) (ix3 (md 4 k) f d)

/-- The results of the device's own experts, at a token's row. -/
theorem yo_apply (c : Dev nD) (k : Fin 16) (hk : k.val < 4) (t : Fin 2048) (ht : Hit m ρ c k.val t) (q : Fin 256) (hq : cnt m ρ c k.val t.val = q.val) (d : Fin 1024) :
    yo m ρ c k.val (ix2 q d) = ffn m ρ c k.val t d := by
  have hq' := q.isLt
  show k0_pay74 (oblk m ρ c ((256 * k.val + q.val) % 1024 / 256)) (w1v m c ((256 * k.val + q.val) % 1024 / 256)) (w2v m c ((256 * k.val + q.val) % 1024 / 256))
    (ix2 (md 256 ((256 * k.val + q.val) % 1024)) d) = _
  rw [Nat.mod_eq_of_lt (show 256 * k.val + q.val < 1024 by omega), show (256 * k.val + q.val) / 256 = k.val by omega,
    show md 256 (256 * k.val + q.val) = q from Fin.ext (by show (256 * k.val + q.val) % 256 = q.val; omega), pay74_apply]
  have hx : ∀ a, oblk m ρ c k.val (ix2 q a) = X m ρ c (ix2 t a) := fun a => by
    show k0_pay64 (bacc m ρ c ((256 * k.val + q.val) % 1024 / 256) 8) (ix2 (md 256 ((256 * k.val + q.val) % 1024)) a) = _
    rw [Nat.mod_eq_of_lt (show 256 * k.val + q.val < 1024 by omega), show (256 * k.val + q.val) / 256 = k.val by omega,
      show md 256 (256 * k.val + q.val) = q from Fin.ext (by show (256 * k.val + q.val) % 256 = q.val; omega), pay64_apply,
      bucket_apply m ρ c k t ht q hq a]
  unfold ffn peer
  rw [if_pos (by omega)]
  refine Finset.sum_congr rfl fun f _ => ?_
  rw [Finset.sum_congr rfl fun a _ => by rw [hx a]]
  rfl

/-- The results that return from the other devices, at a token's row. -/
theorem yr_apply (c : Dev nD) (j e : ℕ) (hj : j < 3) (he : e < 4) (t : Fin 2048) (ht : Hit m ρ c (4 * (j + 1) + e) t) (q : Fin 256)
    (hq : cnt m ρ c (4 * (j + 1) + e) t.val = q.val) (d : Fin 1024) :
    yr m ρ c j e (ix3 0 q d) = ffn m ρ c (4 * (j + 1) + e) t d := by
  have hq' := q.isLt
  have hlt : 256 * e + q.val < 1024 := by omega
  have hdiv : (256 * e + q.val) / 256 = e := by omega
  have hmd : md 256 (256 * e + q.val) = q := Fin.ext (by show (256 * e + q.val) % 256 = q.val; omega)
  show k0_pay79 (rblk m ρ (dst (j % 3) c) (j % 3) ((256 * e + q.val) % 1024 / 256)) (w1v m (dst (j % 3) c) ((256 * e + q.val) % 1024 / 256))
    (w2v m (dst (j % 3) c) ((256 * e + q.val) % 1024 / 256)) (ix3 0 (md 256 ((256 * e + q.val) % 1024)) d) = _
  rw [Nat.mod_eq_of_lt hlt, Nat.mod_eq_of_lt hj, hdiv, hmd, pay79_apply]
  have hx : ∀ a, rblk m ρ (dst j c) j e (ix3 0 q a) = X m ρ c (ix2 t a) := fun a => by
    show k0_pay27 (bacc m ρ (src (j % 3) (dst j c)) (4 * (j % 3 + 1) + (256 * e + q.val) % 1024 / 256) 8) (ix3 0 (md 256 ((256 * e + q.val) % 1024)) a) = _
    rw [Nat.mod_eq_of_lt hlt, Nat.mod_eq_of_lt hj, hdiv, hmd, src_dst j hj, pay27_apply]
    exact bucket_apply m ρ c ⟨4 * (j + 1) + e, by omega⟩ t ht q hq a
  unfold ffn peer
  rw [if_neg (by omega), show (4 * (j + 1) + e) / 4 - 1 = j by omega]
  refine Finset.sum_congr rfl fun f _ => ?_
  rw [Finset.sum_congr rfl fun a _ => by rw [hx a]]
  have hm : md 4 e = md 4 (4 * (j + 1) + e) := Fin.ext (by show e % 4 = (4 * (j + 1) + e) % 4; omega)
  rw [← hm]
  rfl

/-- A bucket's share of a token's output row. -/
theorem gat_apply (c : Dev nD) (n : ℕ) (hn : n < 8) (k : Fin 16) (p : Fin 256) (d : Fin 1024) (y : ℕ → ℕ → EReal) (t : Fin 2048) (htp : t.val = 256 * n + p.val)
    (hcap : Hit m ρ c k.val t → cnt m ρ c k.val t.val < 256)
    (hy : ∀ q : Fin 256, Hit m ρ c k.val t → cnt m ρ c k.val t.val = q.val → y q.val d.val = ffn m ρ c k.val t d) :
    gat (colAt (RankF m ρ c) n k.val) (colAt (MaskF m ρ c) n k.val) y p d = if Hit m ρ c k.val t then ffn m ρ c k.val t d else 0 := by
  have et : (⟨256 * n + p.val, col_idx n hn p⟩ : Fin 2048) = t := Fin.ext htp.symm
  unfold gat
  rw [colAt_apply _ n hn, colAt_apply _ n hn, et, Finset.sum_congr rfl fun q _ => by rw [sel_apply]]
  by_cases h : Hit m ρ c k.val t
  · rw [if_pos h, Finset.sum_eq_single (⟨cnt m ρ c k.val t.val, hcap h⟩ : Fin 256), if_pos ⟨h, rfl⟩, one_mul, hy _ h rfl]
    · intro q _ hq
      rw [if_neg fun hh => hq (Fin.ext hh.2.symm), zero_mul]
    · intro hh; exact absurd (Finset.mem_univ _) hh
  · rw [if_neg h, Finset.sum_eq_zero fun q _ => by rw [if_neg fun hh => h hh.1, zero_mul]]

section Tile
variable (c : Dev nD) (n : ℕ) (hn : n < 8) (p : Fin 256) (d : Fin 1024) (t : Fin 2048) (htp : t.val = 256 * n + p.val)
  (hcap : ∀ k : Fin 16, Hit m ρ c k.val t → cnt m ρ c k.val t.val < 256)

include hn htp hcap

theorem gat_own (k : ℕ) (hk : k < 4) : gat (colAt (RankF m ρ c) n k) (colAt (MaskF m ρ c) n k) (row2 (yo m ρ c k)) p d
    = if Hit m ρ c k t then ffn m ρ c k t d else 0 :=
  gat_apply m ρ c n hn ⟨k, by omega⟩ p d _ t htp (hcap _) fun q h hq => by
    rw [row2, md_val, md_val]
    exact yo_apply m ρ c ⟨k, by omega⟩ hk t h q hq d
theorem gat_ret (k : ℕ) (j e : ℕ) (hj : j < 3) (he : e < 4) (hk : k = 4 * (j + 1) + e) :
    gat (colAt (RankF m ρ c) n k) (colAt (MaskF m ρ c) n k) (row3 (yr m ρ c j e)) p d
    = if Hit m ρ c k t then ffn m ρ c k t d else 0 := by
  subst hk
  exact gat_apply m ρ c n hn ⟨4 * (j + 1) + e, by omega⟩ p d _ t htp (hcap _) fun q h hq => by
    rw [row3, md_val, md_val]
    exact yr_apply m ρ c j e hj he t h q hq d

theorem outTile_apply : outTile m ρ c n (ix2 p d) = ∑ k ∈ Finset.range 16, if Hit m ρ c k t then ffn m ρ c k t d else 0 := by
  have own := fun k hk => gat_own m ρ c n hn p d t htp hcap k hk
  have ret := fun k j e hj he hk => gat_ret m ρ c n hn p d t htp hcap k j e hj he hk
  simp only [outTile, pay15_apply, pay14_apply, pay13_apply, pay9_apply, pay7_apply, pay6_apply, pay2_apply, pay1_apply]
  rw [own 0 (by decide), own 1 (by decide), own 2 (by decide), own 3 (by decide),
    ret 4 0 0 (by decide) (by decide) rfl, ret 5 0 1 (by decide) (by decide) rfl, ret 6 0 2 (by decide) (by decide) rfl, ret 7 0 3 (by decide) (by decide) rfl,
    ret 8 1 0 (by decide) (by decide) rfl, ret 9 1 1 (by decide) (by decide) rfl, ret 10 1 2 (by decide) (by decide) rfl, ret 11 1 3 (by decide) (by decide) rfl,
    ret 12 2 0 (by decide) (by decide) rfl, ret 13 2 1 (by decide) (by decide) rfl, ret 14 2 2 (by decide) (by decide) rfl, ret 15 2 3 (by decide) (by decide) rfl]
  simp only [Finset.sum_range_succ, Finset.sum_range_zero, zero_add]

end Tile

/-- The output at a token, where no bucket overflows. -/
theorem out_apply (c : Dev nD) (t : Fin 2048) (d : Fin 1024) (hcap : ∀ k : Fin 16, Hit m ρ c k.val t → cnt m ρ c k.val t.val < 256) :
    OutF m ρ c (ix2 t d) = ∑ k ∈ Finset.range 16, if Hit m ρ c k t then ffn m ρ c k t d else 0 := by
  have ht := t.isLt
  exact outTile_apply m ρ c (t.val / 256) (by omega) (md 256 t.val) d t (by show t.val = 256 * (t.val / 256) + t.val % 256; omega) hcap

/-- A token assigned the expert of column `k`. -/
theorem out_hit (c : Dev nD) (t : Fin 2048) (d : Fin 1024) (hcap : ∀ k : Fin 16, Hit m ρ c k.val t → cnt m ρ c k.val t.val < 256)
    (k : Fin 16) (hk : Hit m ρ c k.val t) : OutF m ρ c (ix2 t d) = ffn m ρ c k.val t d := by
  rw [out_apply m ρ c t d hcap, Finset.sum_eq_single k.val, if_pos hk]
  · intro b hb hne
    refine if_neg fun h => hne ?_
    have hb' := Finset.mem_range.mp hb
    have hw : BitVec.ofNat 32 (ev c b) = BitVec.ofNat 32 (ev c k.val) := h.symm.trans hk
    have h1 := ev_lt c b
    have h2 := ev_lt c k.val
    have he : ev c b = ev c k.val := by
      have := congrArg BitVec.toNat hw
      rwa [BitVec.toNat_ofNat, BitVec.toNat_ofNat, Nat.mod_eq_of_lt (by omega), Nat.mod_eq_of_lt (by omega)] at this
    exact congrArg Fin.val (ev_inj c (k := ⟨b, hb'⟩) (k' := k) he)
  · intro h; exact absurd (Finset.mem_range.mpr k.isLt) h

/-- A token assigned no expert. -/
theorem out_miss (c : Dev nD) (t : Fin 2048) (d : Fin 1024) (h : ∀ k : Fin 16, ¬ Hit m ρ c k.val t) : OutF m ρ c (ix2 t d) = 0 := by
  rw [out_apply m ρ c t d fun k hk => absurd hk (h k)]
  exact Finset.sum_eq_zero fun k hk => if_neg (h ⟨k, Finset.mem_range.mp hk⟩)

end Cert.KernelIdeal.Moe
-- ==== Proof.KernelIdeal.Cap.lean ====
/-
The precondition: no device holds more than 256 tokens of one expert, so no bucket overflows.
-/
module

public import proofs.«01_k».proof.Proof.KernelIdeal.Gather
public import proofs.«01_k».proof.Pre_within_capacity_KernelIdeal
public import Idealize.ShloMosaic.Lib.IndicatorCount

@[expose] public section

noncomputable section

namespace Cert.KernelIdeal.Moe

open Cert.KernelIdeal Cert.Tiles
open Idealize.ShloMosaic Idealize.ShloMosaic.TcCoe

theorem capacity [Cert.Pre_within_capacity_KernelIdeal.Facts] (x : FVec Ideal ⟨2, ![2048, 1024]⟩ .bf16) (a : IVec ⟨1, ![2048]⟩ 32)
    (w1 : FVec Ideal ⟨3, ![4, 1024, 2048]⟩ .bf16) (w2 : FVec Ideal ⟨3, ![4, 2048, 1024]⟩ .bf16)
    (h : Cert.Pre_within_capacity_KernelIdeal.fn x a w1 w2 = fun _ => 1#1) (e : ℕ) (he : e < 16) :
    (Finset.univ.filter fun s : Fin 2048 => a (ix1 s) = BitVec.ofNat 32 e).card ≤ 256 := by
  have h1 := congrFun h (ix1 (⟨e, he⟩ : Fin 16))
  revert h1
  pointwise [Cert.Pre_within_capacity_KernelIdeal.fn]
  rw [IndicatorCount.fold_addi_setWidth_eq_card]
  intro h1
  have hf : (Finset.univ.filter fun s : Fin 2048 => IntOp.cmpi CmpIPredicate.eq (BitVec.ofNat 32 e) (a (ix1 s)) = 1#1)
      = Finset.univ.filter fun s : Fin 2048 => a (ix1 s) = BitVec.ofNat 32 e := by
    refine Finset.filter_congr fun s _ => ?_
    show BitVec.ofBool (BitVec.ofNat 32 e == a (ix1 s)) = 1#1 ↔ _
    rw [show ∀ b : Bool, (BitVec.ofBool b = 1#1) = (b = true) from by decide, beq_iff_eq, eq_comm]
  rw [hf] at h1
  generalize hn : (Finset.univ.filter fun s : Fin 2048 => a (ix1 s) = BitVec.ofNat 32 e).card = n at h1 ⊢
  have hle : n ≤ 2048 := by rw [← hn]; exact (Finset.card_le_univ _).trans (by simp)
  change BitVec.ofBool (decide ((BitVec.ofNat 32 n).toInt ≤ (256#32).toInt)) = 1#1 at h1
  rw [show ∀ b : Bool, (BitVec.ofBool b = 1#1) = (b = true) from by decide, decide_eq_true_eq,
    BitVec.toInt_eq_toNat_of_lt (by rw [BitVec.toNat_ofNat]; omega), BitVec.toNat_ofNat, Nat.mod_eq_of_lt (by omega),
    show (256#32).toInt = 256 from by decide] at h1
  omega

variable (m : (ℓ : Loc nD τ sig) → Buf (Elt Ideal) ℓ) (ρ : Dev nD → PrngReg)

/-- A token's rank in its column stays inside the bucket. -/
theorem cnt_cap (c : Dev nD) (hc : ∀ e, e < 16 → (Finset.univ.filter fun s : Fin 2048 => A m ρ c (ix1 s) = BitVec.ofNat 32 e).card ≤ 256)
    (k : ℕ) (t : Fin 2048) (ht : Hit m ρ c k t) : cnt m ρ c k t.val < 256 := by
  refine lt_of_lt_of_le ?_ (hc (ev c k) (ev_lt c k))
  unfold cnt
  refine Finset.card_lt_card ⟨fun x hx => ?_, fun hx => ?_⟩
  · rw [Finset.mem_filter] at hx ⊢; exact ⟨hx.1, hx.2.2⟩
  · have := hx (Finset.mem_filter.mpr ⟨Finset.mem_univ t, ht⟩)
    rw [Finset.mem_filter] at this
    exact Nat.lt_irrefl _ this.2.1

end Cert.KernelIdeal.Moe
-- ==== Proof.KernelIdeal.Final.lean ====
/-
The arrays at the launch and at the end: every window is its whole array.
-/
module

public import proofs.«01_k».proof.Proof.KernelIdeal.Launch

@[expose] public section

noncomputable section

namespace Cert.KernelIdeal.Moe

open Cert.KernelIdeal Cert.KernelIdeal.Gen Cert.Tiles
open Idealize.ShloMosaic Idealize.ShloMosaic.TcCoe Idealize.SL.Sem

variable {F : FTy → Type} [FloatOps F]
variable (m : (ℓ : Loc nD τ sig) → Buf (Elt F) ℓ) (ρ : Dev nD → PrngReg)

theorem read0 (g : Vec F S2048x1024 .bf16) : (win0_0.blk (0 : Fin 1)).view.read (Elt F) g = g := by
  funext i
  show g ((win0_0.blk (0 : Fin 1)).view.emb i) = g i
  congr 1
  funext a
  apply Fin.ext
  fin_cases a
  · show 0 + 1 * (i 0).val = (i 0).val; omega
  · show 0 + 1 * (i 1).val = (i 1).val; omega
theorem read1 (g : Vec F S2048 .i32) : (win0_1.blk (0 : Fin 1)).view.read (Elt F) g = g := by
  funext i
  show g ((win0_1.blk (0 : Fin 1)).view.emb i) = g i
  congr 1
  funext a
  apply Fin.ext
  fin_cases a
  show 0 + 1 * (i 0).val = (i 0).val; omega
theorem read2 (g : Vec F S2048x1024 .bf16) : (win0_2.blk (0 : Fin 1)).view.read (Elt F) g = g := by
  funext i
  show g ((win0_2.blk (0 : Fin 1)).view.emb i) = g i
  congr 1
  funext a
  apply Fin.ext
  fin_cases a
  · show 0 + 1 * (i 0).val = (i 0).val; omega
  · show 0 + 1 * (i 1).val = (i 1).val; omega

theorem X_eq (c : Dev nD) : X m ρ c = m ((c : Thread nD τ).loc main_arg0) := read0 _
theorem A_eq (c : Dev nD) : A m ρ c = m ((c : Thread nD τ).loc main_arg1) := read1 _

theorem final_o (c : Dev nD) : (dats m ρ 0 c).arrAt (2 : Fin 3) cfg0.N = OutF m ρ c := by
  have h : (win0_2.blk (0 : Fin 1)).view.read (Elt F) ((dats m ρ 0 c).arrAt (2 : Fin 3) cfg0.N) = OutF m ρ c := by
    rw [show cfg0.N = ((0 : Fin 1) : Fin cfg0.N).val + 1 from rfl, (dats m ρ 0 c).arrAt_succ (2 : Fin 3) (0 : Fin 1)]
    rw [show (cfg0.win 2).flush (0 : Fin 1) = true from by decide, if_pos rfl]
    exact View.read_write_univ _ _
  exact (read2 _).symm.trans h

theorem value : θ_run defs (onTc (τ := τ) (main (F := F))) ⟨m, fun _ => 0, ρ⟩ (fun r => ∀ c : Dev nD,
      r.2.mem ((c.tc : Thread nD τ).loc main_v1) = OutF m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 (2 : Fin 3)).trans (final_o m ρ c), ((h.1 c).1 (0 : Fin 3)).trans (final_x m ρ c),
      ((h.1 c).1 (1 : Fin 3)).trans (final_a m ρ c), (h.1 c).2.1, (h.1 c).2.2⟩)
    (run_main m ρ)

end Cert.KernelIdeal.Moe
-- ==== Proof.RefVal.lean ====
/-
The reference's result read at an index, over the extended reals: a token's row is the feed-forward result of the
expert it is assigned, or zero.
-/
module

public import proofs.«01_k».proof.Proof.RefRun
public import Idealize.ShloMosaic.Lib.Pointwise

@[expose] public section

noncomputable section

namespace Cert.Ref

open Cert.ReferenceIdeal Cert.ReferenceIdeal.Gen
open Idealize.ShloMosaic Idealize.ShloMosaic.TcCoe

variable (x : FVec Ideal S8192x1024 .f32) (a : IVec S8192 32) (w1 : FVec Ideal S16x1024x2048 .f32) (w2 : FVec Ideal S16x2048x1024 .f32)

/-- Token `g` through expert `e`. -/
def ffn (e : Fin 16) (g : Fin 8192) (d : Fin 1024) : EReal :=
  ∑ f : Fin 2048, max (∑ b : Fin 1024, x (ix2 g b) * w1 (ix3 e b f)) 0 * w2 (ix3 e f d)

theorem step_apply (e : BitVec 32) (o : Nat) (h1 : S16x1024x2048.Slices ![o, 0, 0] S1x1024x2048) (h2 : S16x2048x1024.Slices ![o, 0, 0] S1x2048x1024)
    (ho : o < 16) (acc : FVec Ideal S8192x1024 .f32) (g : Fin 8192) (d : Fin 1024) :
    step e o h1 h2 x a w1 w2 acc (ix2 g d) = if a (ix1 g) = e then ffn x w1 w2 ⟨o, ho⟩ g d else acc (ix2 g d) := by
  pointwise [step]
  show Scalar.select (BitVec.ofBool (a (ix1 g) == e)) _ _ = _
  by_cases h : a (ix1 g) = e
  · rw [if_pos h, beq_iff_eq.mpr h]; rfl
  · rw [if_neg h, beq_eq_false_iff_ne.mpr h]; rfl

/-- The sixteen steps read as a chain of tests. -/
theorem out_chain (g : Fin 8192) (d : Fin 1024) : out x a w1 w2 (ix2 g d) =
    if a (ix1 g) = 15#32 then ffn x w1 w2 15 g d else
    if a (ix1 g) = 14#32 then ffn x w1 w2 14 g d else
    if a (ix1 g) = 13#32 then ffn x w1 w2 13 g d else
    if a (ix1 g) = 12#32 then ffn x w1 w2 12 g d else
    if a (ix1 g) = 11#32 then ffn x w1 w2 11 g d else
    if a (ix1 g) = 10#32 then ffn x w1 w2 10 g d else
    if a (ix1 g) = 9#32 then ffn x w1 w2 9 g d else
    if a (ix1 g) = 8#32 then ffn x w1 w2 8 g d else
    if a (ix1 g) = 7#32 then ffn x w1 w2 7 g d else
    if a (ix1 g) = 6#32 then ffn x w1 w2 6 g d else
    if a (ix1 g) = 5#32 then ffn x w1 w2 5 g d else
    if a (ix1 g) = 4#32 then ffn x w1 w2 4 g d else
    if a (ix1 g) = 3#32 then ffn x w1 w2 3 g d else
    if a (ix1 g) = 2#32 then ffn x w1 w2 2 g d else
    if a (ix1 g) = 1#32 then ffn x w1 w2 1 g d else
    if a (ix1 g) = 0#32 then ffn x w1 w2 0 g d else 0 := by
  have z : (broadcastInDim S8192x1024 ![] bcast_S_S8192x1024 (constant (F := Ideal) S_ .f32 0x00000000#32)) (ix2 g d) = 0 := by pointwise
  simp only [out]
  rw [step_apply x a w1 w2 15#32 15 _ _ (by decide), step_apply x a w1 w2 14#32 14 _ _ (by decide), step_apply x a w1 w2 13#32 13 _ _ (by decide), step_apply x a w1 w2 12#32 12 _ _ (by decide), step_apply x a w1 w2 11#32 11 _ _ (by decide), step_apply x a w1 w2 10#32 10 _ _ (by decide), step_apply x a w1 w2 9#32 9 _ _ (by decide), step_apply x a w1 w2 8#32 8 _ _ (by decide), step_apply x a w1 w2 7#32 7 _ _ (by decide), step_apply x a w1 w2 6#32 6 _ _ (by decide), step_apply x a w1 w2 5#32 5 _ _ (by decide), step_apply x a w1 w2 4#32 4 _ _ (by decide), step_apply x a w1 w2 3#32 3 _ _ (by decide), step_apply x a w1 w2 2#32 2 _ _ (by decide), step_apply x a w1 w2 1#32 1 _ _ (by decide), step_apply x a w1 w2 0#32 0 _ _ (by decide), z]
  rfl

theorem out_hit (g : Fin 8192) (d : Fin 1024) (e : Fin 16) (h : a (ix1 g) = BitVec.ofNat 32 e.val) : out x a w1 w2 (ix2 g d) = ffn x w1 w2 e g d := by
  rw [out_chain, h]
  fin_cases e <;> simp

theorem out_miss (g : Fin 8192) (d : Fin 1024) (h : ∀ e : Fin 16, a (ix1 g) ≠ BitVec.ofNat 32 e.val) : out x a w1 w2 (ix2 g d) = 0 := by
  rw [out_chain]
  rw [if_neg (show a (ix1 g) ≠ 15#32 from h 15), if_neg (show a (ix1 g) ≠ 14#32 from h 14), if_neg (show a (ix1 g) ≠ 13#32 from h 13), if_neg (show a (ix1 g) ≠ 12#32 from h 12), if_neg (show a (ix1 g) ≠ 11#32 from h 11), if_neg (show a (ix1 g) ≠ 10#32 from h 10), if_neg (show a (ix1 g) ≠ 9#32 from h 9), if_neg (show a (ix1 g) ≠ 8#32 from h 8), if_neg (show a (ix1 g) ≠ 7#32 from h 7), if_neg (show a (ix1 g) ≠ 6#32 from h 6), if_neg (show a (ix1 g) ≠ 5#32 from h 5), if_neg (show a (ix1 g) ≠ 4#32 from h 4), if_neg (show a (ix1 g) ≠ 3#32 from h 3), if_neg (show a (ix1 g) ≠ 2#32 from h 2), if_neg (show a (ix1 g) ≠ 1#32 from h 1), if_neg (show a (ix1 g) ≠ 0#32 from h 0)]

end Cert.Ref
-- ==== Proof.Value.lean ====
/-
The kernel's output block is the reference's rows: the two closed forms meet token by token.
-/
module

public import proofs.«01_k».proof.Proof.KernelIdeal.Cap
public import proofs.«01_k».proof.Proof.KernelIdeal.Final
public import proofs.«01_k».proof.Proof.RefVal
public import Idealize.ShloMosaic.Lib.Layout

@[expose] public section

noncomputable section

namespace Cert.Value

open Cert.KernelIdeal Cert.KernelIdeal.Moe Cert.Tiles
open Idealize.ShloMosaic Idealize.ShloMosaic.TcCoe

section Layout
variable (c : Dev nD)

/-- Token `t` of device `c` among all tokens. -/
def tok (t : Fin 2048) : Fin 8192 := ⟨(c.val % 4) * 2048 + t.val, by have := t.isLt; omega⟩
/-- Expert `e` of device `c` among all experts. -/
def exp (e : Fin 4) : Fin 16 := ⟨(c.val % 4) * 4 + e.val, by have := e.isLt; omega⟩

theorem lin (c : Dev nD) : Layout.meshLin [2, 2, 4] c.val [2] = c.val % 4 := by
  revert c; decide

theorem block_x {α : Type} (v : (⟨2, ![8192, 1024]⟩ : Shape).Idx → α) (t : Fin 2048) (d : Fin 1024) :
    Layout.blockN ⟨2, ![2048, 1024]⟩ ⟨2, ![8192, 1024]⟩ (Layout.meshBlock [2, 2, 4] ![[2], []] c) v (by decide) (ix2 t d) = v (ix2 (tok c t) d) := by
  rw [Layout.blockN_apply]
  congr 1
  funext b
  apply Fin.ext
  rw [Layout.TilesN.idx_val]
  fin_cases b
  · show Layout.meshLin [2, 2, 4] c.val [2] * 2048 + t.val = _
    rw [lin]; rfl
  · show 0 * 1024 + d.val = d.val
    omega

theorem block_a {α : Type} (v : (⟨1, ![8192]⟩ : Shape).Idx → α) (t : Fin 2048) :
    Layout.blockN ⟨1, ![2048]⟩ ⟨1, ![8192]⟩ (Layout.meshBlock [2, 2, 4] ![[2]] c) v (by decide) (ix1 t) = v (ix1 (tok c t)) := by
  rw [Layout.blockN_apply]
  congr 1
  funext b
  apply Fin.ext
  rw [Layout.TilesN.idx_val]
  fin_cases b
  show Layout.meshLin [2, 2, 4] c.val [2] * 2048 + t.val = _
  rw [lin]; rfl

theorem block_w {α : Type} {M N : ℕ} (v : (⟨3, ![16, M, N]⟩ : Shape).Idx → α) (e : Fin 4) (i : Fin M) (j : Fin N)
    (h : Layout.TilesN ⟨3, ![4, M, N]⟩ ⟨3, ![16, M, N]⟩ fun b => Layout.cutSize [2, 2, 4] ((![[2], [], []] : Fin 3 → List Nat) b)) :
    Layout.blockN ⟨3, ![4, M, N]⟩ ⟨3, ![16, M, N]⟩ (Layout.meshBlock [2, 2, 4] ![[2], [], []] c) v h (ix3 e i j) = v (ix3 (exp c e) i j) := by
  rw [Layout.blockN_apply]
  congr 1
  funext b
  apply Fin.ext
  rw [Layout.TilesN.idx_val]
  fin_cases b
  · show Layout.meshLin [2, 2, 4] c.val [2] * 4 + e.val = _
    rw [lin]; rfl
  · show 0 * M + i.val = i.val
    omega
  · show 0 * N + j.val = j.val
    omega

end Layout

/-- The expert of a column is the one its peer holds. -/
theorem exp_peer (c : Dev nD) (k : Fin 16) : (exp (peer c k.val) (md 4 k.val)).val = ev c k.val := by
  have h : (peer c k.val).val % 4 = (c.val % 4 + k.val / 4) % 4 := by
    unfold peer
    have := k.isLt
    split
    · omega
    · unfold dst; simp only; omega
  show ((peer c k.val).val % 4) * 4 + k.val % 4 = _
  rw [h]; rfl

variable (m : (ℓ : Loc nD τ sig) → Buf (Elt Ideal) ℓ) (ρ : Dev nD → PrngReg)
  (x' : FVec Ideal ⟨2, ![8192, 1024]⟩ .bf16) (a' : IVec ⟨1, ![8192]⟩ 32) (w1' : FVec Ideal ⟨3, ![16, 1024, 2048]⟩ .bf16) (w2' : FVec Ideal ⟨3, ![16, 2048, 1024]⟩ .bf16)

theorem out_eq [hp : Cert.Pre_within_capacity_KernelIdeal.Facts]
    (h0 : ∀ c : Dev nD, m ((c.tc : Thread nD τ).loc main_arg0) = Layout.blockN ⟨2, ![2048, 1024]⟩ ⟨2, ![8192, 1024]⟩ (Layout.meshBlock [2, 2, 4] ![[2], []] c) x')
    (h1 : ∀ c : Dev nD, m ((c.tc : Thread nD τ).loc main_arg1) = Layout.blockN ⟨1, ![2048]⟩ ⟨1, ![8192]⟩ (Layout.meshBlock [2, 2, 4] ![[2]] c) a')
    (h2 : ∀ c : Dev nD, m ((c.tc : Thread nD τ).loc main_arg2) = Layout.blockN ⟨3, ![4, 1024, 2048]⟩ ⟨3, ![16, 1024, 2048]⟩ (Layout.meshBlock [2, 2, 4] ![[2], [], []] c) w1')
    (h3 : ∀ c : Dev nD, m ((c.tc : Thread nD τ).loc main_arg3) = Layout.blockN ⟨3, ![4, 2048, 1024]⟩ ⟨3, ![16, 2048, 1024]⟩ (Layout.meshBlock [2, 2, 4] ![[2], [], []] c) w2')
    (hpre : ∀ c : Dev nD, Cert.Pre_within_capacity_KernelIdeal.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1)
    (c : Dev nD) (t : Fin 2048) (d : Fin 1024) :
    OutF m ρ c (ix2 t d) = Cert.Ref.out (F := Ideal) x' a' w1' w2' (ix2 (tok c t) d) := by
  have hA : ∀ s : Fin 2048, A m ρ c (ix1 s) = a' (ix1 (tok c s)) := fun s => by
    rw [A_eq, h1 c]; exact block_a c a' s
  have hX : ∀ b : Fin 1024, X m ρ c (ix2 t b) = x' (ix2 (tok c t) b) := fun b => by
    rw [X_eq, h0 c]; exact block_x c x' t b
  have hcap : ∀ k : Fin 16, Hit m ρ c k.val t → cnt m ρ c k.val t.val < 256 := fun k hk =>
    cnt_cap m ρ c (fun e he => by
      have := capacity _ _ _ _ (hpre c) e he
      rw [← A_eq m ρ c] at this
      exact this) k.val t hk
  by_cases h : ∃ k : Fin 16, Hit m ρ c k.val t
  · obtain ⟨k, hk⟩ := h
    rw [out_hit m ρ c t d hcap k hk,
      Cert.Ref.out_hit x' a' w1' w2' (tok c t) d (exp (peer c k.val) (md 4 k.val)) (by rw [← hA, exp_peer]; exact hk)]
    unfold Moe.ffn Cert.Ref.ffn
    refine Finset.sum_congr rfl fun f _ => ?_
    have e1 : ∀ b : Fin 1024, W1 m (peer c k.val) (ix3 (md 4 k.val) b f) = w1' (ix3 (exp (peer c k.val) (md 4 k.val)) b f) := fun b => by
      unfold W1; rw [h2 (peer c k.val)]; exact block_w (peer c k.val) w1' _ b f _
    have e2 : W2 m (peer c k.val) (ix3 (md 4 k.val) f d) = w2' (ix3 (exp (peer c k.val) (md 4 k.val)) f d) := by
      unfold W2; rw [h3 (peer c k.val)]; exact block_w (peer c k.val) w2' _ f d _
    rw [e2]
    exact congrArg (fun z => max z 0 * w2' (ix3 (exp (peer c k.val) (md 4 k.val)) f d)) (Finset.sum_congr rfl fun b _ => by rw [hX b, e1 b])
  · rw [out_miss m ρ c t d fun k hk => h ⟨k, hk⟩]
    refine (Cert.Ref.out_miss x' a' w1' w2' (tok c t) d fun e he => ?_).symm
    obtain ⟨k, hk⟩ := ev_surj c e.isLt
    exact h ⟨k, by show A m ρ c (ix1 t) = _; rw [hk, hA]; exact he⟩

end Cert.Value
-- ==== Proof.lean ====
/-
The certificate's claims, from the two kernels' runs, the reference's, and the two closed forms of the result.
-/
module

public import proofs.«01_k».proof.Defs
public import proofs.«01_k».proof.Proof.Kernel.Launch
public import proofs.«01_k».proof.Proof.KernelIdeal.Launch
public import proofs.«01_k».proof.Proof.RefRun
public import proofs.«01_k».proof.Proof.Value

@[expose] public section

noncomputable section

namespace Cert.Proof

open Idealize.ShloMosaic Idealize.SL.Sem

theorem frame_p : Cert.quiescent_Kernel := fun m ρ _ => Cert.Kernel.Moe.frame (F := Bits) m ρ
theorem frame_pi : Cert.quiescent_KernelIdeal := fun m ρ _ => Cert.KernelIdeal.Moe.frame (F := Ideal) m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.Ref.run_ref (F := Ideal) m ρ)

theorem pre_k : Cert.Pre_within_capacity_KernelIdeal.Facts := by constructor <;> decide
theorem pre_r : Cert.Pre_within_capacity_ReferenceIdeal.Facts := by constructor <;> decide

theorem frame_pi_pre [Cert.Pre_within_capacity_KernelIdeal.Facts] : Cert.quiescent_KernelIdeal_pre_within_capacity_KernelIdeal :=
  fun m ρ _ => frame_pi m ρ trivial
theorem frame_ri_pre [Cert.Pre_within_capacity_ReferenceIdeal.Facts] : Cert.quiescent_ReferenceIdeal_pre_within_capacity_ReferenceIdeal :=
  fun m ρ _ => frame_ri m ρ trivial

theorem algebraic [Cert.Pre_within_capacity_KernelIdeal.Facts] : Cert.algebraic_KernelIdeal_ReferenceIdeal_pre_within_capacity_KernelIdeal :=
  fun m ρ m' ρ' hpre hin => ⟨_,
    (θ_run Cert.KernelIdeal.defs _ _).mono (fun r h c => ⟨(h c).1.trans (funext fun i => by
        rw [eq_ix2 i]
        exact (Cert.Value.out_eq m ρ _ _ _ _ (fun c => (hin c).1) (fun c => (hin c).2.1) (fun c => (hin c).2.2.1) (fun c => (hin c).2.2.2) hpre c (i 0) (i 1)).trans
          (Cert.Value.block_x c (Cert.Ref.out (F := Ideal) _ _ _ _) (i 0) (i 1)).symm), (h c).2⟩)
      (Cert.KernelIdeal.Moe.value (F := Ideal) m ρ),
    (θ_run Cert.ReferenceIdeal.defs _ _).mono (fun r h => h 0) (Cert.Ref.run_ref (F := Ideal) m' ρ')⟩

theorem claim : Cert.Claim :=
  ⟨Cert.Kernel.Gen.facts, Cert.KernelIdeal.Gen.facts, Cert.ReferenceIdeal.Gen.facts, pre_k, pre_r,
    frame_p, frame_pi, @frame_pi_pre pre_k, frame_ri, @frame_ri_pre pre_r, trivial, @algebraic pre_k⟩

end Cert.Proof

end
